-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk_KernelIdeal [hPre_finite_qk_KernelIdeal : Cert.Pre_finite_qk_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk_ReferenceIdeal [hPre_finite_qk_ReferenceIdeal : Cert.Pre_finite_qk_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_qk_KernelIdeal [hKernelIdeal : Cert.KernelIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_qk_ReferenceIdeal [hReferenceIdeal : Cert.ReferenceIdeal.Facts] [hPre_finite_qk_ReferenceIdeal : Cert.Pre_finite_qk_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_qk_KernelIdeal [hKernelIdeal : Cert.KernelIdeal.Facts] [hReferenceIdeal : Cert.ReferenceIdeal.Facts] [hPre_finite_qk_KernelIdeal : Cert.Pre_finite_qk_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 8192]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)
      ∧ m ((c.tc : Thread Cert.KernelIdeal.nD Cert.KernelIdeal.τ).loc Cert.KernelIdeal.main_arg4) = Layout.block ⟨2, ![1024, 1024]⟩ ⟨2, ![8192, 1024]⟩ 0 8 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v41) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_qk_KernelIdeal : Cert.Pre_finite_qk_KernelIdeal.Facts) (hPre_finite_qk_ReferenceIdeal : Cert.Pre_finite_qk_ReferenceIdeal.Facts),
    quiescent_Kernel (hKernel := hKernel)
    ∧ quiescent_KernelIdeal (hKernelIdeal := hKernelIdeal)
    ∧ quiescent_KernelIdeal_pre_finite_qk_KernelIdeal (hKernelIdeal := hKernelIdeal) (hPre_finite_qk_KernelIdeal := hPre_finite_qk_KernelIdeal)
    ∧ quiescent_ReferenceIdeal (hReferenceIdeal := hReferenceIdeal)
    ∧ quiescent_ReferenceIdeal_pre_finite_qk_ReferenceIdeal (hReferenceIdeal := hReferenceIdeal) (hPre_finite_qk_ReferenceIdeal := hPre_finite_qk_ReferenceIdeal)
    ∧ preserves_Kernel_KernelIdeal
    ∧ algebraic_KernelIdeal_ReferenceIdeal_pre_finite_qk_KernelIdeal (hKernelIdeal := hKernelIdeal) (hReferenceIdeal := hReferenceIdeal) (hPre_finite_qk_KernelIdeal := hPre_finite_qk_KernelIdeal)
-- ==== Pre_finite_qk_KernelIdeal.lean ====
abbrev S1024x1024 : Shape := ⟨2, ![1024, 1024]⟩
abbrev S1x1024x64x128 : Shape := ⟨4, ![1, 1024, 64, 128]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1024x1024 .f32) (main_arg1 : FVec F S1024x1024 .f32) (main_arg2 : FVec F S1x1024x64x128 .f32) (main_arg3 : FVec F S1x1024x64x128 .f32) (main_arg4 : FVec F S1024x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Pre_finite_qk_ReferenceIdeal.lean ====
abbrev S1024x1024 : Shape := ⟨2, ![1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S_ : Shape := ⟨0, ![]⟩

class Facts : Prop where
  bcast_S_S1024x1024 : S_.BroadcastsInDim S1024x1024 (![] : Fin 0 → Fin S1024x1024.rank)
  reducesTo_S1024x1024_S_d0_1 : S1024x1024.ReducesTo [0, 1] S_
  h_S_ : 0 < S_.numel
  bcast_S_S1024x8192 : S_.BroadcastsInDim S1024x8192 (![] : Fin 0 → Fin S1024x8192.rank)
  reducesTo_S1024x8192_S_d0_1 : S1024x8192.ReducesTo [0, 1] S_
  bcast_S_S1x1024x64x128 : S_.BroadcastsInDim S1x1024x64x128 (![] : Fin 0 → Fin S1x1024x64x128.rank)
  reducesTo_S1x1024x64x128_S_d0_1_2_3 : S1x1024x64x128.ReducesTo [0, 1, 2, 3] S_

variable [Facts]

def fn {F : FTy → Type} [FloatOps F] (main_arg0 : FVec F S1024x1024 .f32) (main_arg1 : FVec F S1024x8192 .f32) (main_arg2 : FVec F S1x1024x64x128 .f32) (main_arg3 : FVec F S1x1024x64x128 .f32) (main_arg4 : FVec F S8192x1024 .f32) : IVec S_ 1 :=
  let main_v0 : FVec F S1024x1024 .f32 := Host.absf main_arg0
  let main_cst : FVec F S_ .f32 := constant S_ .f32 0x7F800000#32
  let main_v1 : FVec F S1024x1024 .f32 := broadcastInDim S1024x1024 ![] bcast_S_S1024x1024 main_cst
  let main_v2 : IVec S1024x1024 1 := cmpf .olt main_v0 main_v1
  let main_c : IVec S_ 1 := constantI S_ 1 1#1
  let main_v3 : IVec S_ 1 := (fun x v => Host.reduce IntOp.andi x v reducesTo_S1024x1024_S_d0_1 h_S_) main_v2 main_c
  let main_v4 : FVec F S1024x8192 .f32 := Host.absf main_arg1
  let main_cst_0 : FVec F S_ .f32 := constant S_ .f32 0x7F800000#32
  let main_v5 : FVec F S1024x8192 .f32 := broadcastInDim S1024x8192 ![] bcast_S_S1024x8192 main_cst_0
  let main_v6 : IVec S1024x8192 1 := cmpf .olt main_v4 main_v5
  let main_c_1 : IVec S_ 1 := constantI S_ 1 1#1
  let main_v7 : IVec S_ 1 := (fun x v => Host.reduce IntOp.andi x v reducesTo_S1024x8192_S_d0_1 h_S_) main_v6 main_c_1
  let main_v8 : IVec S_ 1 := andi main_v3 main_v7
  let main_v9 : FVec F S1x1024x64x128 .f32 := Host.absf main_arg2
  let main_cst_2 : FVec F S_ .f32 := constant S_ .f32 0x7F800000#32
  let main_v10 : FVec F S1x1024x64x128 .f32 := broadcastInDim S1x1024x64x128 ![] bcast_S_S1x1024x64x128 main_cst_2
  let main_v11 : IVec S1x1024x64x128 1 := cmpf .olt main_v9 main_v10
  let main_c_3 : IVec S_ 1 := constantI S_ 1 1#1
  let main_v12 : IVec S_ 1 := (fun x v => Host.reduce IntOp.andi x v reducesTo_S1x1024x64x128_S_d0_1_2_3 h_S_) main_v11 main_c_3
  let main_v13 : IVec S_ 1 := andi main_v8 main_v12
  main_v13
-- ==== Kernel.lean ====
abbrev S1024x1024 : Shape := ⟨2, ![1024, 1024]⟩
abbrev S1x1024x64x128 : Shape := ⟨4, ![1, 1024, 64, 128]⟩
abbrev S8x1024x128 : Shape := ⟨3, ![8, 1024, 128]⟩
abbrev S192x1024 : Shape := ⟨2, ![192, 1024]⟩
abbrev S96x1024 : Shape := ⟨2, ![96, 1024]⟩
abbrev S48x1024 : Shape := ⟨2, ![48, 1024]⟩
abbrev S128x1024 : Shape := ⟨2, ![128, 1024]⟩
abbrev S64x1024 : Shape := ⟨2, ![64, 1024]⟩
abbrev S32x1024 : Shape := ⟨2, ![32, 1024]⟩
abbrev S8 : Shape := ⟨1, ![8]⟩
abbrev S9 : Shape := ⟨1, ![9]⟩
abbrev S1 : Shape := ⟨1, ![1]⟩
abbrev S_ : Shape := ⟨0, ![]⟩
abbrev S1x1024x128 : Shape := ⟨3, ![1, 1024, 128]⟩
abbrev S1024x128 : Shape := ⟨2, ![1024, 128]⟩
abbrev S1x1024x1x128 : Shape := ⟨4, ![1, 1024, 1, 128]⟩
abbrev S8x64x128 : Shape := ⟨3, ![8, 64, 128]⟩
abbrev S8x256x128 : Shape := ⟨3, ![8, 256, 128]⟩
abbrev S128x128 : Shape := ⟨2, ![128, 128]⟩
abbrev S1x256x128 : Shape := ⟨3, ![1, 256, 128]⟩
abbrev S256x128 : Shape := ⟨2, ![256, 128]⟩
abbrev S128x256 : Shape := ⟨2, ![128, 256]⟩
abbrev S128 : Shape := ⟨1, ![128]⟩
abbrev S128x1 : Shape := ⟨2, ![128, 1]⟩
abbrev S64x128 : Shape := ⟨2, ![64, 128]⟩
abbrev S512x1024 : Shape := ⟨2, ![512, 1024]⟩

abbrev nBuf : Space → Nat
  | .hbm => 6
  | .vmem => 17
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1x1024x64x128, .f32⟩
  | .hbm, ⟨3, _⟩ => ⟨S1x1024x64x128, .f32⟩
  | .hbm, ⟨4, _⟩ => ⟨S1024x1024, .f32⟩
  | .hbm, ⟨5, _⟩ => ⟨S1024x1024, .bf16⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S8x1024x128, .f32⟩
  | .local _ .vmem, ⟨7, _⟩ => ⟨S8x1024x128, .f32⟩
  | .local _ .vmem, ⟨8, _⟩ => ⟨S192x1024, .bf16⟩
  | .local _ .vmem, ⟨9, _⟩ => ⟨S96x1024, .bf16⟩
  | .local _ .vmem, ⟨10, _⟩ => ⟨S48x1024, .bf16⟩
  | .local _ .vmem, ⟨11, _⟩ => ⟨S192x1024, .bf16⟩
  | .local _ .vmem, ⟨12, _⟩ => ⟨S96x1024, .bf16⟩
  | .local _ .vmem, ⟨13, _⟩ => ⟨S48x1024, .bf16⟩
  | .local _ .vmem, ⟨14, _⟩ => ⟨S128x1024, .bf16⟩
  | .local _ .vmem, ⟨15, _⟩ => ⟨S64x1024, .bf16⟩
  | .local _ .vmem, ⟨16, _⟩ => ⟨S32x1024, .bf16⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 1 → Bool
  | ⟨0, _⟩ => false
  | _ => false

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  (ofTc nBuf bufTy 1 56 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_scratch7 : Ref sig .tc := ⟨.vmem, 11, rfl⟩
abbrev cc0_scratch8 : Ref sig .tc := ⟨.vmem, 12, rfl⟩
abbrev cc0_scratch9 : Ref sig .tc := ⟨.vmem, 13, rfl⟩
abbrev cc0_scratch10 : Ref sig .tc := ⟨.vmem, 14, rfl⟩
abbrev cc0_scratch11 : Ref sig .tc := ⟨.vmem, 15, rfl⟩
abbrev cc0_scratch12 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 4 → Nat :=
  let c0_i32_13 : BitVec 32 := 0#32
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_12 : BitVec 32 := 8#32
  let v26 : BitVec 32 := Scalar.muli v2 c8_i32_12
  let v27 : BitVec 32 := Scalar.addi v26 c0_i32
  let c0_i32_19 : BitVec 32 := 0#32
  ![0, 0, v27.toNat, 0]
def k0_dev1 (d0 : Dev nD) : Nat :=
  let c0_i32_139 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_1 : BitVec 32 := 1#32
  let v8 : BitVec 32 := Scalar.xori v7 c1_i32_1
  let c4_i32_3 : BitVec 32 := 4#32
  let v10 : BitVec 32 := Scalar.andi v8 c4_i32_3
  let c3_i32_2 : BitVec 32 := 3#32
  let v9 : BitVec 32 := Scalar.andi v8 c3_i32_2
  let c1_i32_4 : BitVec 32 := 1#32
  let v11 : BitVec 32 := Scalar.shrsi v9 c1_i32_4
  let v12 : BitVec 32 := Scalar.xori v9 v11
  let v13 : BitVec 32 := Scalar.ori v10 v12
  let c1_i32_138 : BitVec 32 := 1#32
  let v140 : BitVec 32 := Scalar.muli v13 c1_i32_138
  let v141 : BitVec 32 := Scalar.addi c0_i32_139 v140
  v141.toNat
def k0_dev2 (d0 : Dev nD) : Nat :=
  let c0_i32_142 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32 : BitVec 32 := 2#32
  let v14 : BitVec 32 := Scalar.xori v7 c2_i32
  let c4_i32_6 : BitVec 32 := 4#32
  let v16 : BitVec 32 := Scalar.andi v14 c4_i32_6
  let c3_i32_5 : BitVec 32 := 3#32
  let v15 : BitVec 32 := Scalar.andi v14 c3_i32_5
  let c1_i32_7 : BitVec 32 := 1#32
  let v17 : BitVec 32 := Scalar.shrsi v15 c1_i32_7
  let v18 : BitVec 32 := Scalar.xori v15 v17
  let v19 : BitVec 32 := Scalar.ori v16 v18
  let c1_i32_141 : BitVec 32 := 1#32
  let v142 : BitVec 32 := Scalar.muli v19 c1_i32_141
  let v143 : BitVec 32 := Scalar.addi c0_i32_142 v142
  v143.toNat
def k0_dev3 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_8 : BitVec 32 := 4#32
  let v20 : BitVec 32 := Scalar.xori v7 c4_i32_8
  let c4_i32_10 : BitVec 32 := 4#32
  let v22 : BitVec 32 := Scalar.andi v20 c4_i32_10
  let c3_i32_9 : BitVec 32 := 3#32
  let v21 : BitVec 32 := Scalar.andi v20 c3_i32_9
  let c1_i32_11 : BitVec 32 := 1#32
  let v23 : BitVec 32 := Scalar.shrsi v21 c1_i32_11
  let v24 : BitVec 32 := Scalar.xori v21 v23
  let v25 : BitVec 32 := Scalar.ori v22 v24
  let c1_i32_144 : BitVec 32 := 1#32
  let v144 : BitVec 32 := Scalar.muli v25 c1_i32_144
  let v145 : BitVec 32 := Scalar.addi c0_i32_145 v144
  v145.toNat
def k0_off2 (d0 : Dev nD) (c0_i32_610 : BitVec 32) (c0_i32_607 : BitVec 32) : Fin 2 → Nat :=
  let c1_i32_609 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v1184 : BitVec 32 := Scalar.shrsi v7 c0_i32_607
  let c1_i32_608 : BitVec 32 := 1#32
  let v1185 : BitVec 32 := Scalar.andi v1184 c1_i32_608
  let v1186 : BitVec 32 := Scalar.subi c1_i32_609 v1185
  let c192_i32 : BitVec 32 := 192#32
  let v1187 : BitVec 32 := Scalar.muli v1186 c192_i32
  let v1188 : BitVec 32 := Scalar.addi c0_i32_610 v1187
  let c0_i32_617 : BitVec 32 := 0#32
  ![v1188.toNat, 0]
def k0_off2_at (r : Fin 2) : BitVec 32 × BitVec 32 :=
  if r.val < 1 then
    (0#32, 0#32)
  else
    (384#32, 1#32)
def k0_dev4 (d0 : Dev nD) : Nat :=
  let c0_i32_616 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_1 : BitVec 32 := 1#32
  let v8 : BitVec 32 := Scalar.xori v7 c1_i32_1
  let c4_i32_3 : BitVec 32 := 4#32
  let v10 : BitVec 32 := Scalar.andi v8 c4_i32_3
  let c3_i32_2 : BitVec 32 := 3#32
  let v9 : BitVec 32 := Scalar.andi v8 c3_i32_2
  let c1_i32_4 : BitVec 32 := 1#32
  let v11 : BitVec 32 := Scalar.shrsi v9 c1_i32_4
  let v12 : BitVec 32 := Scalar.xori v9 v11
  let v13 : BitVec 32 := Scalar.ori v10 v12
  let c1_i32_615 : BitVec 32 := 1#32
  let v1191 : BitVec 32 := Scalar.muli v13 c1_i32_615
  let v1192 : BitVec 32 := Scalar.addi c0_i32_616 v1191
  v1192.toNat
def k0_dev5 (d0 : Dev nD) : Nat :=
  let c0_i32_888 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32 : BitVec 32 := 2#32
  let v14 : BitVec 32 := Scalar.xori v7 c2_i32
  let c4_i32_6 : BitVec 32 := 4#32
  let v16 : BitVec 32 := Scalar.andi v14 c4_i32_6
  let c3_i32_5 : BitVec 32 := 3#32
  let v15 : BitVec 32 := Scalar.andi v14 c3_i32_5
  let c1_i32_7 : BitVec 32 := 1#32
  let v17 : BitVec 32 := Scalar.shrsi v15 c1_i32_7
  let v18 : BitVec 32 := Scalar.xori v15 v17
  let v19 : BitVec 32 := Scalar.ori v16 v18
  let c1_i32_887 : BitVec 32 := 1#32
  let v2087 : BitVec 32 := Scalar.muli v19 c1_i32_887
  let v2088 : BitVec 32 := Scalar.addi c0_i32_888 v2087
  v2088.toNat
def k0_off3 (d0 : Dev nD) : Fin 2 → Nat :=
  let c768_i32 : BitVec 32 := 768#32
  let c1_i32_892 : BitVec 32 := 1#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_890 : BitVec 32 := 2#32
  let v2094 : BitVec 32 := Scalar.shrsi v7 c2_i32_890
  let c1_i32_891 : BitVec 32 := 1#32
  let v2095 : BitVec 32 := Scalar.andi v2094 c1_i32_891
  let v2096 : BitVec 32 := Scalar.subi c1_i32_892 v2095
  let c128_i32 : BitVec 32 := 128#32
  let v2097 : BitVec 32 := Scalar.muli v2096 c128_i32
  let v2098 : BitVec 32 := Scalar.addi c768_i32 v2097
  let c0_i32_899 : BitVec 32 := 0#32
  ![v2098.toNat, 0]
def k0_dev6 (d0 : Dev nD) : Nat :=
  let c0_i32_898 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_8 : BitVec 32 := 4#32
  let v20 : BitVec 32 := Scalar.xori v7 c4_i32_8
  let c4_i32_10 : BitVec 32 := 4#32
  let v22 : BitVec 32 := Scalar.andi v20 c4_i32_10
  let c3_i32_9 : BitVec 32 := 3#32
  let v21 : BitVec 32 := Scalar.andi v20 c3_i32_9
  let c1_i32_11 : BitVec 32 := 1#32
  let v23 : BitVec 32 := Scalar.shrsi v21 c1_i32_11
  let v24 : BitVec 32 := Scalar.xori v21 v23
  let v25 : BitVec 32 := Scalar.ori v22 v24
  let c1_i32_897 : BitVec 32 := 1#32
  let v2101 : BitVec 32 := Scalar.muli v25 c1_i32_897
  let v2102 : BitVec 32 := Scalar.addi c0_i32_898 v2101
  v2102.toNat
def k0_off4 (d0 : Dev nD) (c0_i32_612 : BitVec 32) (c0_i32_607 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v1184 : BitVec 32 := Scalar.shrsi v7 c0_i32_607
  let c1_i32_608 : BitVec 32 := 1#32
  let v1185 : BitVec 32 := Scalar.andi v1184 c1_i32_608
  let c192_i32_611 : BitVec 32 := 192#32
  let v1189 : BitVec 32 := Scalar.muli v1185 c192_i32_611
  let v1190 : BitVec 32 := Scalar.addi c0_i32_612 v1189
  let v2116 : Index := Scalar.indexCast v1190
  let c0_909 : Index := 0#32
  ![v2116.toNat, 0]
def k0_off4_at (r : Fin 2) : BitVec 32 × BitVec 32 :=
  if r.val < 1 then
    (0#32, 0#32)
  else
    (384#32, 1#32)
def k0_off5 (d0 : Dev nD) (c0_i32_612 : BitVec 32) (c0_i32_607 : BitVec 32) (c1_i32_913 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v1184 : BitVec 32 := Scalar.shrsi v7 c0_i32_607
  let c1_i32_608 : BitVec 32 := 1#32
  let v1185 : BitVec 32 := Scalar.andi v1184 c1_i32_608
  let c192_i32_611 : BitVec 32 := 192#32
  let v1189 : BitVec 32 := Scalar.muli v1185 c192_i32_611
  let v1190 : BitVec 32 := Scalar.addi c0_i32_612 v1189
  let c1_i32_915 : BitVec 32 := 1#32
  let v2124 : BitVec 32 := Scalar.shrsi v7 c1_i32_913
  let c1_i32_914 : BitVec 32 := 1#32
  let v2125 : BitVec 32 := Scalar.andi v2124 c1_i32_914
  let v2126 : BitVec 32 := Scalar.subi c1_i32_915 v2125
  let c96_i32 : BitVec 32 := 96#32
  let v2127 : BitVec 32 := Scalar.muli v2126 c96_i32
  let v2128 : BitVec 32 := Scalar.addi v1190 v2127
  let c0_i32_921 : BitVec 32 := 0#32
  ![v2128.toNat, 0]
def k0_off5_at (r : Fin 2) : BitVec 32 × BitVec 32 × BitVec 32 :=
  if r.val < 1 then
    (0#32, 0#32, 1#32)
  else
    (384#32, 1#32, 2#32)
def k0_dev7 (d0 : Dev nD) : Nat :=
  let c0_i32_920 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32 : BitVec 32 := 2#32
  let v14 : BitVec 32 := Scalar.xori v7 c2_i32
  let c4_i32_6 : BitVec 32 := 4#32
  let v16 : BitVec 32 := Scalar.andi v14 c4_i32_6
  let c3_i32_5 : BitVec 32 := 3#32
  let v15 : BitVec 32 := Scalar.andi v14 c3_i32_5
  let c1_i32_7 : BitVec 32 := 1#32
  let v17 : BitVec 32 := Scalar.shrsi v15 c1_i32_7
  let v18 : BitVec 32 := Scalar.xori v15 v17
  let v19 : BitVec 32 := Scalar.ori v16 v18
  let c1_i32_919 : BitVec 32 := 1#32
  let v2131 : BitVec 32 := Scalar.muli v19 c1_i32_919
  let v2132 : BitVec 32 := Scalar.addi c0_i32_920 v2131
  v2132.toNat
def k0_dev8 (d0 : Dev nD) : Nat :=
  let c0_i32_943 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_8 : BitVec 32 := 4#32
  let v20 : BitVec 32 := Scalar.xori v7 c4_i32_8
  let c4_i32_10 : BitVec 32 := 4#32
  let v22 : BitVec 32 := Scalar.andi v20 c4_i32_10
  let c3_i32_9 : BitVec 32 := 3#32
  let v21 : BitVec 32 := Scalar.andi v20 c3_i32_9
  let c1_i32_11 : BitVec 32 := 1#32
  let v23 : BitVec 32 := Scalar.shrsi v21 c1_i32_11
  let v24 : BitVec 32 := Scalar.xori v21 v23
  let v25 : BitVec 32 := Scalar.ori v22 v24
  let c1_i32_942 : BitVec 32 := 1#32
  let v2161 : BitVec 32 := Scalar.muli v25 c1_i32_942
  let v2162 : BitVec 32 := Scalar.addi c0_i32_943 v2161
  v2162.toNat
def k0_off6 (d0 : Dev nD) : Fin 2 → Nat :=
  let c768_i32_894 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_890 : BitVec 32 := 2#32
  let v2094 : BitVec 32 := Scalar.shrsi v7 c2_i32_890
  let c1_i32_891 : BitVec 32 := 1#32
  let v2095 : BitVec 32 := Scalar.andi v2094 c1_i32_891
  let c128_i32_893 : BitVec 32 := 128#32
  let v2099 : BitVec 32 := Scalar.muli v2095 c128_i32_893
  let v2100 : BitVec 32 := Scalar.addi c768_i32_894 v2099
  let v2176 : Index := Scalar.indexCast v2100
  let c0_954 : Index := 0#32
  ![v2176.toNat, 0]
def k0_off7 (d0 : Dev nD) : Fin 2 → Nat :=
  let c768_i32_894 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_890 : BitVec 32 := 2#32
  let v2094 : BitVec 32 := Scalar.shrsi v7 c2_i32_890
  let c1_i32_891 : BitVec 32 := 1#32
  let v2095 : BitVec 32 := Scalar.andi v2094 c1_i32_891
  let c128_i32_893 : BitVec 32 := 128#32
  let v2099 : BitVec 32 := Scalar.muli v2095 c128_i32_893
  let v2100 : BitVec 32 := Scalar.addi c768_i32_894 v2099
  let c1_i32_960 : BitVec 32 := 1#32
  let c0_i32_958 : BitVec 32 := 0#32
  let v2184 : BitVec 32 := Scalar.shrsi v7 c0_i32_958
  let c1_i32_959 : BitVec 32 := 1#32
  let v2185 : BitVec 32 := Scalar.andi v2184 c1_i32_959
  let v2186 : BitVec 32 := Scalar.subi c1_i32_960 v2185
  let c64_i32 : BitVec 32 := 64#32
  let v2187 : BitVec 32 := Scalar.muli v2186 c64_i32
  let v2188 : BitVec 32 := Scalar.addi v2100 v2187
  let c0_i32_966 : BitVec 32 := 0#32
  ![v2188.toNat, 0]
def k0_dev9 (d0 : Dev nD) : Nat :=
  let c0_i32_965 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_1 : BitVec 32 := 1#32
  let v8 : BitVec 32 := Scalar.xori v7 c1_i32_1
  let c4_i32_3 : BitVec 32 := 4#32
  let v10 : BitVec 32 := Scalar.andi v8 c4_i32_3
  let c3_i32_2 : BitVec 32 := 3#32
  let v9 : BitVec 32 := Scalar.andi v8 c3_i32_2
  let c1_i32_4 : BitVec 32 := 1#32
  let v11 : BitVec 32 := Scalar.shrsi v9 c1_i32_4
  let v12 : BitVec 32 := Scalar.xori v9 v11
  let v13 : BitVec 32 := Scalar.ori v10 v12
  let c1_i32_964 : BitVec 32 := 1#32
  let v2191 : BitVec 32 := Scalar.muli v13 c1_i32_964
  let v2192 : BitVec 32 := Scalar.addi c0_i32_965 v2191
  v2192.toNat
def k0_off8 (d0 : Dev nD) (c0_i32_612 : BitVec 32) (c0_i32_607 : BitVec 32) (c1_i32_913 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v1184 : BitVec 32 := Scalar.shrsi v7 c0_i32_607
  let c1_i32_608 : BitVec 32 := 1#32
  let v1185 : BitVec 32 := Scalar.andi v1184 c1_i32_608
  let c192_i32_611 : BitVec 32 := 192#32
  let v1189 : BitVec 32 := Scalar.muli v1185 c192_i32_611
  let v1190 : BitVec 32 := Scalar.addi c0_i32_612 v1189
  let v2124 : BitVec 32 := Scalar.shrsi v7 c1_i32_913
  let c1_i32_914 : BitVec 32 := 1#32
  let v2125 : BitVec 32 := Scalar.andi v2124 c1_i32_914
  let c96_i32_916 : BitVec 32 := 96#32
  let v2129 : BitVec 32 := Scalar.muli v2125 c96_i32_916
  let v2130 : BitVec 32 := Scalar.addi v1190 v2129
  let v2206 : Index := Scalar.indexCast v2130
  let c0_976 : Index := 0#32
  ![v2206.toNat, 0]
def k0_off8_at (r : Fin 2) : BitVec 32 × BitVec 32 × BitVec 32 :=
  if r.val < 1 then
    (0#32, 0#32, 1#32)
  else
    (384#32, 1#32, 2#32)
def k0_off9 (d0 : Dev nD) (c0_i32_612 : BitVec 32) (c0_i32_607 : BitVec 32) (c1_i32_913 : BitVec 32) (c2_i32_980 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v1184 : BitVec 32 := Scalar.shrsi v7 c0_i32_607
  let c1_i32_608 : BitVec 32 := 1#32
  let v1185 : BitVec 32 := Scalar.andi v1184 c1_i32_608
  let c192_i32_611 : BitVec 32 := 192#32
  let v1189 : BitVec 32 := Scalar.muli v1185 c192_i32_611
  let v1190 : BitVec 32 := Scalar.addi c0_i32_612 v1189
  let v2124 : BitVec 32 := Scalar.shrsi v7 c1_i32_913
  let c1_i32_914 : BitVec 32 := 1#32
  let v2125 : BitVec 32 := Scalar.andi v2124 c1_i32_914
  let c96_i32_916 : BitVec 32 := 96#32
  let v2129 : BitVec 32 := Scalar.muli v2125 c96_i32_916
  let v2130 : BitVec 32 := Scalar.addi v1190 v2129
  let c1_i32_982 : BitVec 32 := 1#32
  let v2214 : BitVec 32 := Scalar.shrsi v7 c2_i32_980
  let c1_i32_981 : BitVec 32 := 1#32
  let v2215 : BitVec 32 := Scalar.andi v2214 c1_i32_981
  let v2216 : BitVec 32 := Scalar.subi c1_i32_982 v2215
  let c48_i32 : BitVec 32 := 48#32
  let v2217 : BitVec 32 := Scalar.muli v2216 c48_i32
  let v2218 : BitVec 32 := Scalar.addi v2130 v2217
  let c0_i32_988 : BitVec 32 := 0#32
  ![v2218.toNat, 0]
def k0_off9_at (r : Fin 2) : BitVec 32 × BitVec 32 × BitVec 32 × BitVec 32 :=
  if r.val < 1 then
    (0#32, 0#32, 1#32, 2#32)
  else
    (384#32, 1#32, 2#32, 0#32)
def k0_dev10 (d0 : Dev nD) : Nat :=
  let c0_i32_987 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_8 : BitVec 32 := 4#32
  let v20 : BitVec 32 := Scalar.xori v7 c4_i32_8
  let c4_i32_10 : BitVec 32 := 4#32
  let v22 : BitVec 32 := Scalar.andi v20 c4_i32_10
  let c3_i32_9 : BitVec 32 := 3#32
  let v21 : BitVec 32 := Scalar.andi v20 c3_i32_9
  let c1_i32_11 : BitVec 32 := 1#32
  let v23 : BitVec 32 := Scalar.shrsi v21 c1_i32_11
  let v24 : BitVec 32 := Scalar.xori v21 v23
  let v25 : BitVec 32 := Scalar.ori v22 v24
  let c1_i32_986 : BitVec 32 := 1#32
  let v2221 : BitVec 32 := Scalar.muli v25 c1_i32_986
  let v2222 : BitVec 32 := Scalar.addi c0_i32_987 v2221
  v2222.toNat
def k0_dev11 (d0 : Dev nD) : Nat :=
  let c0_i32_1010 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_1 : BitVec 32 := 1#32
  let v8 : BitVec 32 := Scalar.xori v7 c1_i32_1
  let c4_i32_3 : BitVec 32 := 4#32
  let v10 : BitVec 32 := Scalar.andi v8 c4_i32_3
  let c3_i32_2 : BitVec 32 := 3#32
  let v9 : BitVec 32 := Scalar.andi v8 c3_i32_2
  let c1_i32_4 : BitVec 32 := 1#32
  let v11 : BitVec 32 := Scalar.shrsi v9 c1_i32_4
  let v12 : BitVec 32 := Scalar.xori v9 v11
  let v13 : BitVec 32 := Scalar.ori v10 v12
  let c1_i32_1009 : BitVec 32 := 1#32
  let v2251 : BitVec 32 := Scalar.muli v13 c1_i32_1009
  let v2252 : BitVec 32 := Scalar.addi c0_i32_1010 v2251
  v2252.toNat
def k0_off10 (d0 : Dev nD) : Fin 2 → Nat :=
  let c768_i32_894 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_890 : BitVec 32 := 2#32
  let v2094 : BitVec 32 := Scalar.shrsi v7 c2_i32_890
  let c1_i32_891 : BitVec 32 := 1#32
  let v2095 : BitVec 32 := Scalar.andi v2094 c1_i32_891
  let c128_i32_893 : BitVec 32 := 128#32
  let v2099 : BitVec 32 := Scalar.muli v2095 c128_i32_893
  let v2100 : BitVec 32 := Scalar.addi c768_i32_894 v2099
  let c0_i32_958 : BitVec 32 := 0#32
  let v2184 : BitVec 32 := Scalar.shrsi v7 c0_i32_958
  let c1_i32_959 : BitVec 32 := 1#32
  let v2185 : BitVec 32 := Scalar.andi v2184 c1_i32_959
  let c64_i32_961 : BitVec 32 := 64#32
  let v2189 : BitVec 32 := Scalar.muli v2185 c64_i32_961
  let v2190 : BitVec 32 := Scalar.addi v2100 v2189
  let v2266 : Index := Scalar.indexCast v2190
  let c0_1021 : Index := 0#32
  ![v2266.toNat, 0]
def k0_off11 (d0 : Dev nD) : Fin 2 → Nat :=
  let c768_i32_894 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_890 : BitVec 32 := 2#32
  let v2094 : BitVec 32 := Scalar.shrsi v7 c2_i32_890
  let c1_i32_891 : BitVec 32 := 1#32
  let v2095 : BitVec 32 := Scalar.andi v2094 c1_i32_891
  let c128_i32_893 : BitVec 32 := 128#32
  let v2099 : BitVec 32 := Scalar.muli v2095 c128_i32_893
  let v2100 : BitVec 32 := Scalar.addi c768_i32_894 v2099
  let c0_i32_958 : BitVec 32 := 0#32
  let v2184 : BitVec 32 := Scalar.shrsi v7 c0_i32_958
  let c1_i32_959 : BitVec 32 := 1#32
  let v2185 : BitVec 32 := Scalar.andi v2184 c1_i32_959
  let c64_i32_961 : BitVec 32 := 64#32
  let v2189 : BitVec 32 := Scalar.muli v2185 c64_i32_961
  let v2190 : BitVec 32 := Scalar.addi v2100 v2189
  let c1_i32_1027 : BitVec 32 := 1#32
  let c1_i32_1025 : BitVec 32 := 1#32
  let v2274 : BitVec 32 := Scalar.shrsi v7 c1_i32_1025
  let c1_i32_1026 : BitVec 32 := 1#32
  let v2275 : BitVec 32 := Scalar.andi v2274 c1_i32_1026
  let v2276 : BitVec 32 := Scalar.subi c1_i32_1027 v2275
  let c32_i32 : BitVec 32 := 32#32
  let v2277 : BitVec 32 := Scalar.muli v2276 c32_i32
  let v2278 : BitVec 32 := Scalar.addi v2190 v2277
  let c0_i32_1033 : BitVec 32 := 0#32
  ![v2278.toNat, 0]
def k0_dev12 (d0 : Dev nD) : Nat :=
  let c0_i32_1032 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32 : BitVec 32 := 2#32
  let v14 : BitVec 32 := Scalar.xori v7 c2_i32
  let c4_i32_6 : BitVec 32 := 4#32
  let v16 : BitVec 32 := Scalar.andi v14 c4_i32_6
  let c3_i32_5 : BitVec 32 := 3#32
  let v15 : BitVec 32 := Scalar.andi v14 c3_i32_5
  let c1_i32_7 : BitVec 32 := 1#32
  let v17 : BitVec 32 := Scalar.shrsi v15 c1_i32_7
  let v18 : BitVec 32 := Scalar.xori v15 v17
  let v19 : BitVec 32 := Scalar.ori v16 v18
  let c1_i32_1031 : BitVec 32 := 1#32
  let v2281 : BitVec 32 := Scalar.muli v19 c1_i32_1031
  let v2282 : BitVec 32 := Scalar.addi c0_i32_1032 v2281
  v2282.toNat
def k0_off12 (d0 : Dev nD) (c0_i32_612 : BitVec 32) (c0_i32_607 : BitVec 32) (c1_i32_913 : BitVec 32) (c2_i32_980 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v1184 : BitVec 32 := Scalar.shrsi v7 c0_i32_607
  let c1_i32_608 : BitVec 32 := 1#32
  let v1185 : BitVec 32 := Scalar.andi v1184 c1_i32_608
  let c192_i32_611 : BitVec 32 := 192#32
  let v1189 : BitVec 32 := Scalar.muli v1185 c192_i32_611
  let v1190 : BitVec 32 := Scalar.addi c0_i32_612 v1189
  let v2124 : BitVec 32 := Scalar.shrsi v7 c1_i32_913
  let c1_i32_914 : BitVec 32 := 1#32
  let v2125 : BitVec 32 := Scalar.andi v2124 c1_i32_914
  let c96_i32_916 : BitVec 32 := 96#32
  let v2129 : BitVec 32 := Scalar.muli v2125 c96_i32_916
  let v2130 : BitVec 32 := Scalar.addi v1190 v2129
  let v2214 : BitVec 32 := Scalar.shrsi v7 c2_i32_980
  let c1_i32_981 : BitVec 32 := 1#32
  let v2215 : BitVec 32 := Scalar.andi v2214 c1_i32_981
  let c48_i32_983 : BitVec 32 := 48#32
  let v2219 : BitVec 32 := Scalar.muli v2215 c48_i32_983
  let v2220 : BitVec 32 := Scalar.addi v2130 v2219
  let v2296 : Index := Scalar.indexCast v2220
  let c0_1043 : Index := 0#32
  ![v2296.toNat, 0]
def k0_off12_at (r : Fin 2) : BitVec 32 × BitVec 32 × BitVec 32 × BitVec 32 :=
  if r.val < 1 then
    (0#32, 0#32, 1#32, 2#32)
  else
    (384#32, 1#32, 2#32, 0#32)
def k0_off13 (d0 : Dev nD) : Fin 2 → Nat :=
  let c768_i32_894 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_890 : BitVec 32 := 2#32
  let v2094 : BitVec 32 := Scalar.shrsi v7 c2_i32_890
  let c1_i32_891 : BitVec 32 := 1#32
  let v2095 : BitVec 32 := Scalar.andi v2094 c1_i32_891
  let c128_i32_893 : BitVec 32 := 128#32
  let v2099 : BitVec 32 := Scalar.muli v2095 c128_i32_893
  let v2100 : BitVec 32 := Scalar.addi c768_i32_894 v2099
  let c0_i32_958 : BitVec 32 := 0#32
  let v2184 : BitVec 32 := Scalar.shrsi v7 c0_i32_958
  let c1_i32_959 : BitVec 32 := 1#32
  let v2185 : BitVec 32 := Scalar.andi v2184 c1_i32_959
  let c64_i32_961 : BitVec 32 := 64#32
  let v2189 : BitVec 32 := Scalar.muli v2185 c64_i32_961
  let v2190 : BitVec 32 := Scalar.addi v2100 v2189
  let c1_i32_1025 : BitVec 32 := 1#32
  let v2274 : BitVec 32 := Scalar.shrsi v7 c1_i32_1025
  let c1_i32_1026 : BitVec 32 := 1#32
  let v2275 : BitVec 32 := Scalar.andi v2274 c1_i32_1026
  let c32_i32_1028 : BitVec 32 := 32#32
  let v2279 : BitVec 32 := Scalar.muli v2275 c32_i32_1028
  let v2280 : BitVec 32 := Scalar.addi v2190 v2279
  let v2328 : Index := Scalar.indexCast v2280
  let c0_1069 : Index := 0#32
  ![v2328.toNat, 0]
def k0_off14 (d0 : Dev nD) (c0_i32_612 : BitVec 32) (c0_i32_607 : BitVec 32) (c1_i32_913 : BitVec 32) (c2_i32_980 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v1184 : BitVec 32 := Scalar.shrsi v7 c0_i32_607
  let c1_i32_608 : BitVec 32 := 1#32
  let v1185 : BitVec 32 := Scalar.andi v1184 c1_i32_608
  let c192_i32_611 : BitVec 32 := 192#32
  let v1189 : BitVec 32 := Scalar.muli v1185 c192_i32_611
  let v1190 : BitVec 32 := Scalar.addi c0_i32_612 v1189
  let v2124 : BitVec 32 := Scalar.shrsi v7 c1_i32_913
  let c1_i32_914 : BitVec 32 := 1#32
  let v2125 : BitVec 32 := Scalar.andi v2124 c1_i32_914
  let c96_i32_916 : BitVec 32 := 96#32
  let v2129 : BitVec 32 := Scalar.muli v2125 c96_i32_916
  let v2130 : BitVec 32 := Scalar.addi v1190 v2129
  let v2214 : BitVec 32 := Scalar.shrsi v7 c2_i32_980
  let c1_i32_981 : BitVec 32 := 1#32
  let v2215 : BitVec 32 := Scalar.andi v2214 c1_i32_981
  let c48_i32_983 : BitVec 32 := 48#32
  let v2219 : BitVec 32 := Scalar.muli v2215 c48_i32_983
  let v2220 : BitVec 32 := Scalar.addi v2130 v2219
  let c0_i32_1082 : BitVec 32 := 0#32
  ![v2220.toNat, 0]
def k0_off14_at (r : Fin 2) : BitVec 32 × BitVec 32 × BitVec 32 × BitVec 32 :=
  if r.val < 1 then
    (0#32, 0#32, 1#32, 2#32)
  else
    (384#32, 1#32, 2#32, 0#32)
def k0_dev13 (d0 : Dev nD) : Nat :=
  let c0_i32_1081 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_8 : BitVec 32 := 4#32
  let v20 : BitVec 32 := Scalar.xori v7 c4_i32_8
  let c4_i32_10 : BitVec 32 := 4#32
  let v22 : BitVec 32 := Scalar.andi v20 c4_i32_10
  let c3_i32_9 : BitVec 32 := 3#32
  let v21 : BitVec 32 := Scalar.andi v20 c3_i32_9
  let c1_i32_11 : BitVec 32 := 1#32
  let v23 : BitVec 32 := Scalar.shrsi v21 c1_i32_11
  let v24 : BitVec 32 := Scalar.xori v21 v23
  let v25 : BitVec 32 := Scalar.ori v22 v24
  let c1_i32_1080 : BitVec 32 := 1#32
  let v2344 : BitVec 32 := Scalar.muli v25 c1_i32_1080
  let v2345 : BitVec 32 := Scalar.addi c0_i32_1081 v2344
  v2345.toNat
def k0_dev14 (d0 : Dev nD) : Nat :=
  let c0_i32_1092 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_1 : BitVec 32 := 1#32
  let v8 : BitVec 32 := Scalar.xori v7 c1_i32_1
  let c4_i32_3 : BitVec 32 := 4#32
  let v10 : BitVec 32 := Scalar.andi v8 c4_i32_3
  let c3_i32_2 : BitVec 32 := 3#32
  let v9 : BitVec 32 := Scalar.andi v8 c3_i32_2
  let c1_i32_4 : BitVec 32 := 1#32
  let v11 : BitVec 32 := Scalar.shrsi v9 c1_i32_4
  let v12 : BitVec 32 := Scalar.xori v9 v11
  let v13 : BitVec 32 := Scalar.ori v10 v12
  let c1_i32_1091 : BitVec 32 := 1#32
  let v2360 : BitVec 32 := Scalar.muli v13 c1_i32_1091
  let v2361 : BitVec 32 := Scalar.addi c0_i32_1092 v2360
  v2361.toNat
def k0_off15 (d0 : Dev nD) : Fin 2 → Nat :=
  let c768_i32_894 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_890 : BitVec 32 := 2#32
  let v2094 : BitVec 32 := Scalar.shrsi v7 c2_i32_890
  let c1_i32_891 : BitVec 32 := 1#32
  let v2095 : BitVec 32 := Scalar.andi v2094 c1_i32_891
  let c128_i32_893 : BitVec 32 := 128#32
  let v2099 : BitVec 32 := Scalar.muli v2095 c128_i32_893
  let v2100 : BitVec 32 := Scalar.addi c768_i32_894 v2099
  let c0_i32_958 : BitVec 32 := 0#32
  let v2184 : BitVec 32 := Scalar.shrsi v7 c0_i32_958
  let c1_i32_959 : BitVec 32 := 1#32
  let v2185 : BitVec 32 := Scalar.andi v2184 c1_i32_959
  let c64_i32_961 : BitVec 32 := 64#32
  let v2189 : BitVec 32 := Scalar.muli v2185 c64_i32_961
  let v2190 : BitVec 32 := Scalar.addi v2100 v2189
  let c1_i32_1025 : BitVec 32 := 1#32
  let v2274 : BitVec 32 := Scalar.shrsi v7 c1_i32_1025
  let c1_i32_1026 : BitVec 32 := 1#32
  let v2275 : BitVec 32 := Scalar.andi v2274 c1_i32_1026
  let c32_i32_1028 : BitVec 32 := 32#32
  let v2279 : BitVec 32 := Scalar.muli v2275 c32_i32_1028
  let v2280 : BitVec 32 := Scalar.addi v2190 v2279
  let c0_i32_1104 : BitVec 32 := 0#32
  ![v2280.toNat, 0]
def k0_dev15 (d0 : Dev nD) : Nat :=
  let c0_i32_1103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32 : BitVec 32 := 2#32
  let v14 : BitVec 32 := Scalar.xori v7 c2_i32
  let c4_i32_6 : BitVec 32 := 4#32
  let v16 : BitVec 32 := Scalar.andi v14 c4_i32_6
  let c3_i32_5 : BitVec 32 := 3#32
  let v15 : BitVec 32 := Scalar.andi v14 c3_i32_5
  let c1_i32_7 : BitVec 32 := 1#32
  let v17 : BitVec 32 := Scalar.shrsi v15 c1_i32_7
  let v18 : BitVec 32 := Scalar.xori v15 v17
  let v19 : BitVec 32 := Scalar.ori v16 v18
  let c1_i32_1102 : BitVec 32 := 1#32
  let v2376 : BitVec 32 := Scalar.muli v19 c1_i32_1102
  let v2377 : BitVec 32 := Scalar.addi c0_i32_1103 v2376
  v2377.toNat
def k0_off16 (d0 : Dev nD) (c0_i32_612 : BitVec 32) (c0_i32_607 : BitVec 32) (c1_i32_913 : BitVec 32) (c2_i32_980 : BitVec 32) (c2_i32_1075 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v1184 : BitVec 32 := Scalar.shrsi v7 c0_i32_607
  let c1_i32_608 : BitVec 32 := 1#32
  let v1185 : BitVec 32 := Scalar.andi v1184 c1_i32_608
  let c192_i32_611 : BitVec 32 := 192#32
  let v1189 : BitVec 32 := Scalar.muli v1185 c192_i32_611
  let v1190 : BitVec 32 := Scalar.addi c0_i32_612 v1189
  let v2124 : BitVec 32 := Scalar.shrsi v7 c1_i32_913
  let c1_i32_914 : BitVec 32 := 1#32
  let v2125 : BitVec 32 := Scalar.andi v2124 c1_i32_914
  let c96_i32_916 : BitVec 32 := 96#32
  let v2129 : BitVec 32 := Scalar.muli v2125 c96_i32_916
  let v2130 : BitVec 32 := Scalar.addi v1190 v2129
  let v2214 : BitVec 32 := Scalar.shrsi v7 c2_i32_980
  let c1_i32_981 : BitVec 32 := 1#32
  let v2215 : BitVec 32 := Scalar.andi v2214 c1_i32_981
  let c48_i32_983 : BitVec 32 := 48#32
  let v2219 : BitVec 32 := Scalar.muli v2215 c48_i32_983
  let v2220 : BitVec 32 := Scalar.addi v2130 v2219
  let v2340 : BitVec 32 := Scalar.shrsi v7 c2_i32_1075
  let c1_i32_1076 : BitVec 32 := 1#32
  let v2341 : BitVec 32 := Scalar.andi v2340 c1_i32_1076
  let c48_i32_1077 : BitVec 32 := 48#32
  let v2342 : BitVec 32 := Scalar.muli v2341 c48_i32_1077
  let v2343 : BitVec 32 := Scalar.subi v2220 v2342
  let c0_i32_1124 : BitVec 32 := 0#32
  ![v2343.toNat, 0]
def k0_off16_at (r : Fin 2) : BitVec 32 × BitVec 32 × BitVec 32 × BitVec 32 × BitVec 32 :=
  if r.val < 1 then
    (0#32, 0#32, 1#32, 2#32, 2#32)
  else
    (384#32, 1#32, 2#32, 0#32, 0#32)
def k0_dev16 (d0 : Dev nD) : Nat :=
  let c0_i32_1123 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32 : BitVec 32 := 2#32
  let v14 : BitVec 32 := Scalar.xori v7 c2_i32
  let c4_i32_6 : BitVec 32 := 4#32
  let v16 : BitVec 32 := Scalar.andi v14 c4_i32_6
  let c3_i32_5 : BitVec 32 := 3#32
  let v15 : BitVec 32 := Scalar.andi v14 c3_i32_5
  let c1_i32_7 : BitVec 32 := 1#32
  let v17 : BitVec 32 := Scalar.shrsi v15 c1_i32_7
  let v18 : BitVec 32 := Scalar.xori v15 v17
  let v19 : BitVec 32 := Scalar.ori v16 v18
  let c1_i32_1122 : BitVec 32 := 1#32
  let v2398 : BitVec 32 := Scalar.muli v19 c1_i32_1122
  let v2399 : BitVec 32 := Scalar.addi c0_i32_1123 v2398
  v2399.toNat
def k0_dev17 (d0 : Dev nD) : Nat :=
  let c0_i32_1143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_8 : BitVec 32 := 4#32
  let v20 : BitVec 32 := Scalar.xori v7 c4_i32_8
  let c4_i32_10 : BitVec 32 := 4#32
  let v22 : BitVec 32 := Scalar.andi v20 c4_i32_10
  let c3_i32_9 : BitVec 32 := 3#32
  let v21 : BitVec 32 := Scalar.andi v20 c3_i32_9
  let c1_i32_11 : BitVec 32 := 1#32
  let v23 : BitVec 32 := Scalar.shrsi v21 c1_i32_11
  let v24 : BitVec 32 := Scalar.xori v21 v23
  let v25 : BitVec 32 := Scalar.ori v22 v24
  let c1_i32_1142 : BitVec 32 := 1#32
  let v2420 : BitVec 32 := Scalar.muli v25 c1_i32_1142
  let v2421 : BitVec 32 := Scalar.addi c0_i32_1143 v2420
  v2421.toNat
def k0_off17 (d0 : Dev nD) : Fin 2 → Nat :=
  let c768_i32_894 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_890 : BitVec 32 := 2#32
  let v2094 : BitVec 32 := Scalar.shrsi v7 c2_i32_890
  let c1_i32_891 : BitVec 32 := 1#32
  let v2095 : BitVec 32 := Scalar.andi v2094 c1_i32_891
  let c128_i32_893 : BitVec 32 := 128#32
  let v2099 : BitVec 32 := Scalar.muli v2095 c128_i32_893
  let v2100 : BitVec 32 := Scalar.addi c768_i32_894 v2099
  let c0_i32_958 : BitVec 32 := 0#32
  let v2184 : BitVec 32 := Scalar.shrsi v7 c0_i32_958
  let c1_i32_959 : BitVec 32 := 1#32
  let v2185 : BitVec 32 := Scalar.andi v2184 c1_i32_959
  let c64_i32_961 : BitVec 32 := 64#32
  let v2189 : BitVec 32 := Scalar.muli v2185 c64_i32_961
  let v2190 : BitVec 32 := Scalar.addi v2100 v2189
  let c1_i32_1025 : BitVec 32 := 1#32
  let v2274 : BitVec 32 := Scalar.shrsi v7 c1_i32_1025
  let c1_i32_1026 : BitVec 32 := 1#32
  let v2275 : BitVec 32 := Scalar.andi v2274 c1_i32_1026
  let c32_i32_1028 : BitVec 32 := 32#32
  let v2279 : BitVec 32 := Scalar.muli v2275 c32_i32_1028
  let v2280 : BitVec 32 := Scalar.addi v2190 v2279
  let c1_i32_1097 : BitVec 32 := 1#32
  let v2372 : BitVec 32 := Scalar.shrsi v7 c1_i32_1097
  let c1_i32_1098 : BitVec 32 := 1#32
  let v2373 : BitVec 32 := Scalar.andi v2372 c1_i32_1098
  let c32_i32_1099 : BitVec 32 := 32#32
  let v2374 : BitVec 32 := Scalar.muli v2373 c32_i32_1099
  let v2375 : BitVec 32 := Scalar.subi v2280 v2374
  let c0_i32_1164 : BitVec 32 := 0#32
  ![v2375.toNat, 0]
def k0_dev18 (d0 : Dev nD) : Nat :=
  let c0_i32_1163 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_1 : BitVec 32 := 1#32
  let v8 : BitVec 32 := Scalar.xori v7 c1_i32_1
  let c4_i32_3 : BitVec 32 := 4#32
  let v10 : BitVec 32 := Scalar.andi v8 c4_i32_3
  let c3_i32_2 : BitVec 32 := 3#32
  let v9 : BitVec 32 := Scalar.andi v8 c3_i32_2
  let c1_i32_4 : BitVec 32 := 1#32
  let v11 : BitVec 32 := Scalar.shrsi v9 c1_i32_4
  let v12 : BitVec 32 := Scalar.xori v9 v11
  let v13 : BitVec 32 := Scalar.ori v10 v12
  let c1_i32_1162 : BitVec 32 := 1#32
  let v2442 : BitVec 32 := Scalar.muli v13 c1_i32_1162
  let v2443 : BitVec 32 := Scalar.addi c0_i32_1163 v2442
  v2443.toNat
def k0_off18 (d0 : Dev nD) (c0_i32_612 : BitVec 32) (c0_i32_607 : BitVec 32) (c1_i32_913 : BitVec 32) (c2_i32_980 : BitVec 32) (c2_i32_1075 : BitVec 32) (c1_i32_1117 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let v1184 : BitVec 32 := Scalar.shrsi v7 c0_i32_607
  let c1_i32_608 : BitVec 32 := 1#32
  let v1185 : BitVec 32 := Scalar.andi v1184 c1_i32_608
  let c192_i32_611 : BitVec 32 := 192#32
  let v1189 : BitVec 32 := Scalar.muli v1185 c192_i32_611
  let v1190 : BitVec 32 := Scalar.addi c0_i32_612 v1189
  let v2124 : BitVec 32 := Scalar.shrsi v7 c1_i32_913
  let c1_i32_914 : BitVec 32 := 1#32
  let v2125 : BitVec 32 := Scalar.andi v2124 c1_i32_914
  let c96_i32_916 : BitVec 32 := 96#32
  let v2129 : BitVec 32 := Scalar.muli v2125 c96_i32_916
  let v2130 : BitVec 32 := Scalar.addi v1190 v2129
  let v2214 : BitVec 32 := Scalar.shrsi v7 c2_i32_980
  let c1_i32_981 : BitVec 32 := 1#32
  let v2215 : BitVec 32 := Scalar.andi v2214 c1_i32_981
  let c48_i32_983 : BitVec 32 := 48#32
  let v2219 : BitVec 32 := Scalar.muli v2215 c48_i32_983
  let v2220 : BitVec 32 := Scalar.addi v2130 v2219
  let v2340 : BitVec 32 := Scalar.shrsi v7 c2_i32_1075
  let c1_i32_1076 : BitVec 32 := 1#32
  let v2341 : BitVec 32 := Scalar.andi v2340 c1_i32_1076
  let c48_i32_1077 : BitVec 32 := 48#32
  let v2342 : BitVec 32 := Scalar.muli v2341 c48_i32_1077
  let v2343 : BitVec 32 := Scalar.subi v2220 v2342
  let v2394 : BitVec 32 := Scalar.shrsi v7 c1_i32_1117
  let c1_i32_1118 : BitVec 32 := 1#32
  let v2395 : BitVec 32 := Scalar.andi v2394 c1_i32_1118
  let c96_i32_1119 : BitVec 32 := 96#32
  let v2396 : BitVec 32 := Scalar.muli v2395 c96_i32_1119
  let v2397 : BitVec 32 := Scalar.subi v2343 v2396
  let c0_i32_1181 : BitVec 32 := 0#32
  ![v2397.toNat, 0]
def k0_off18_at (r : Fin 2) : BitVec 32 × BitVec 32 × BitVec 32 × BitVec 32 × BitVec 32 × BitVec 32 :=
  if r.val < 1 then
    (0#32, 0#32, 1#32, 2#32, 2#32, 1#32)
  else
    (384#32, 1#32, 2#32, 0#32, 0#32, 2#32)
def k0_dev19 (d0 : Dev nD) : Nat :=
  let c0_i32_1180 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c1_i32_1 : BitVec 32 := 1#32
  let v8 : BitVec 32 := Scalar.xori v7 c1_i32_1
  let c4_i32_3 : BitVec 32 := 4#32
  let v10 : BitVec 32 := Scalar.andi v8 c4_i32_3
  let c3_i32_2 : BitVec 32 := 3#32
  let v9 : BitVec 32 := Scalar.andi v8 c3_i32_2
  let c1_i32_4 : BitVec 32 := 1#32
  let v11 : BitVec 32 := Scalar.shrsi v9 c1_i32_4
  let v12 : BitVec 32 := Scalar.xori v9 v11
  let v13 : BitVec 32 := Scalar.ori v10 v12
  let c1_i32_1179 : BitVec 32 := 1#32
  let v2460 : BitVec 32 := Scalar.muli v13 c1_i32_1179
  let v2461 : BitVec 32 := Scalar.addi c0_i32_1180 v2460
  v2461.toNat
def k0_dev20 (d0 : Dev nD) : Nat :=
  let c0_i32_1197 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32 : BitVec 32 := 2#32
  let v14 : BitVec 32 := Scalar.xori v7 c2_i32
  let c4_i32_6 : BitVec 32 := 4#32
  let v16 : BitVec 32 := Scalar.andi v14 c4_i32_6
  let c3_i32_5 : BitVec 32 := 3#32
  let v15 : BitVec 32 := Scalar.andi v14 c3_i32_5
  let c1_i32_7 : BitVec 32 := 1#32
  let v17 : BitVec 32 := Scalar.shrsi v15 c1_i32_7
  let v18 : BitVec 32 := Scalar.xori v15 v17
  let v19 : BitVec 32 := Scalar.ori v16 v18
  let c1_i32_1196 : BitVec 32 := 1#32
  let v2478 : BitVec 32 := Scalar.muli v19 c1_i32_1196
  let v2479 : BitVec 32 := Scalar.addi c0_i32_1197 v2478
  v2479.toNat
def k0_off19 (d0 : Dev nD) : Fin 2 → Nat :=
  let c768_i32_894 : BitVec 32 := 768#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c2_i32_890 : BitVec 32 := 2#32
  let v2094 : BitVec 32 := Scalar.shrsi v7 c2_i32_890
  let c1_i32_891 : BitVec 32 := 1#32
  let v2095 : BitVec 32 := Scalar.andi v2094 c1_i32_891
  let c128_i32_893 : BitVec 32 := 128#32
  let v2099 : BitVec 32 := Scalar.muli v2095 c128_i32_893
  let v2100 : BitVec 32 := Scalar.addi c768_i32_894 v2099
  let c0_i32_958 : BitVec 32 := 0#32
  let v2184 : BitVec 32 := Scalar.shrsi v7 c0_i32_958
  let c1_i32_959 : BitVec 32 := 1#32
  let v2185 : BitVec 32 := Scalar.andi v2184 c1_i32_959
  let c64_i32_961 : BitVec 32 := 64#32
  let v2189 : BitVec 32 := Scalar.muli v2185 c64_i32_961
  let v2190 : BitVec 32 := Scalar.addi v2100 v2189
  let c1_i32_1025 : BitVec 32 := 1#32
  let v2274 : BitVec 32 := Scalar.shrsi v7 c1_i32_1025
  let c1_i32_1026 : BitVec 32 := 1#32
  let v2275 : BitVec 32 := Scalar.andi v2274 c1_i32_1026
  let c32_i32_1028 : BitVec 32 := 32#32
  let v2279 : BitVec 32 := Scalar.muli v2275 c32_i32_1028
  let v2280 : BitVec 32 := Scalar.addi v2190 v2279
  let c1_i32_1097 : BitVec 32 := 1#32
  let v2372 : BitVec 32 := Scalar.shrsi v7 c1_i32_1097
  let c1_i32_1098 : BitVec 32 := 1#32
  let v2373 : BitVec 32 := Scalar.andi v2372 c1_i32_1098
  let c32_i32_1099 : BitVec 32 := 32#32
  let v2374 : BitVec 32 := Scalar.muli v2373 c32_i32_1099
  let v2375 : BitVec 32 := Scalar.subi v2280 v2374
  let c0_i32_1157 : BitVec 32 := 0#32
  let v2438 : BitVec 32 := Scalar.shrsi v7 c0_i32_1157
  let c1_i32_1158 : BitVec 32 := 1#32
  let v2439 : BitVec 32 := Scalar.andi v2438 c1_i32_1158
  let c64_i32_1159 : BitVec 32 := 64#32
  let v2440 : BitVec 32 := Scalar.muli v2439 c64_i32_1159
  let v2441 : BitVec 32 := Scalar.subi v2375 v2440
  let c0_i32_1215 : BitVec 32 := 0#32
  ![v2441.toNat, 0]
def k0_dev21 (d0 : Dev nD) : Nat :=
  let c0_i32_1214 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v4 : BitVec 32 := Scalar.andi v2 c4_i32
  let c3_i32 : BitVec 32 := 3#32
  let v3 : BitVec 32 := Scalar.andi v2 c3_i32
  let c1_i32_0 : BitVec 32 := 1#32
  let v5 : BitVec 32 := Scalar.shrsi v3 c1_i32_0
  let v6 : BitVec 32 := Scalar.xori v3 v5
  let v7 : BitVec 32 := Scalar.ori v4 v6
  let c4_i32_8 : BitVec 32 := 4#32
  let v20 : BitVec 32 := Scalar.xori v7 c4_i32_8
  let c4_i32_10 : BitVec 32 := 4#32
  let v22 : BitVec 32 := Scalar.andi v20 c4_i32_10
  let c3_i32_9 : BitVec 32 := 3#32
  let v21 : BitVec 32 := Scalar.andi v20 c3_i32_9
  let c1_i32_11 : BitVec 32 := 1#32
  let v23 : BitVec 32 := Scalar.shrsi v21 c1_i32_11
  let v24 : BitVec 32 := Scalar.xori v21 v23
  let v25 : BitVec 32 := Scalar.ori v22 v24
  let c1_i32_1213 : BitVec 32 := 1#32
  let v2496 : BitVec 32 := Scalar.muli v25 c1_i32_1213
  let v2497 : BitVec 32 := Scalar.addi c0_i32_1214 v2496
  v2497.toNat
abbrev stage0_0 : Fin 1 → Memref sig .tc .vmem S1024x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024x1024 : Shape := ⟨2, ![1024, 1024]⟩
abbrev S1024x8192 : Shape := ⟨2, ![1024, 8192]⟩
abbrev S1x1024x64x128 : Shape := ⟨4, ![1, 1024, 64, 128]⟩
abbrev S8192x1024 : Shape := ⟨2, ![8192, 1024]⟩
abbrev S1024 : Shape := ⟨1, ![1024]⟩
abbrev S_ : Shape := ⟨0, ![]⟩
abbrev S1024x1 : Shape := ⟨2, ![1024, 1]⟩
abbrev S1x1024 : Shape := ⟨2, ![1, 1024]⟩
abbrev S1x64x1024x1024 : Shape := ⟨4, ![1, 64, 1024, 1024]⟩
abbrev S1x1x1024x1024 : Shape := ⟨4, ![1, 1, 1024, 1024]⟩
abbrev S1x64x1024 : Shape := ⟨3, ![1, 64, 1024]⟩
abbrev S1x64x1024x1 : Shape := ⟨4, ![1, 64, 1024, 1]⟩
abbrev S1x1x1024x1 : Shape := ⟨4, ![1, 1, 1024, 1]⟩
abbrev S1x64x128x1024 : Shape := ⟨4, ![1, 64, 128, 1024]⟩
abbrev S1x1024x8192 : Shape := ⟨3, ![1, 1024, 8192]⟩
abbrev S1x1024x1024 : Shape := ⟨3, ![1, 1024, 1024]⟩

abbrev nBuf : Space → Nat
  | .hbm => 139
  | .vmem => 0
  | .smem => 0
  | _ => 0

abbrev hbmTy0_0 (i : Nat) : BufTy := match i % 128 with
  | 0 => ⟨S1024x1024, .f32⟩
  | 1 => ⟨S1024x8192, .f32⟩
  | 2 => ⟨S1x1024x64x128, .f32⟩
  | 3 => ⟨S1x1024x64x128, .f32⟩
  | 4 => ⟨S8192x1024, .f32⟩
  | 5 => ⟨S1024x8192, .f32⟩
  | 6 => ⟨S1x1024x64x128, .f32⟩
  | 7 => ⟨S1024, .i32⟩
  | 8 => ⟨S_, .i32⟩
  | 9 => ⟨S_, .i32⟩
  | 10 => ⟨S1024, .i32⟩
  | 11 => ⟨S1024, .i32⟩
  | 12 => ⟨S1024, .i32⟩
  | 13 => ⟨S_, .i32⟩
  | 14 => ⟨S1024, .i32⟩
  | 15 => ⟨S1024, .i1⟩
  | 16 => ⟨S1024, .i32⟩
  | 17 => ⟨S1024, .i32⟩
  | 18 => ⟨S_, .i32⟩
  | 19 => ⟨S1024, .i32⟩
  | 20 => ⟨S1024, .i1⟩
  | 21 => ⟨S1024, .i1⟩
  | 22 => ⟨S_, .i32⟩
  | 23 => ⟨S1024, .i32⟩
  | 24 => ⟨S1024, .i32⟩
  | 25 => ⟨S1024, .i32⟩
  | 26 => ⟨S1024x1, .i32⟩
  | 27 => ⟨S1024, .i32⟩
  | 28 => ⟨S_, .i32⟩
  | 29 => ⟨S_, .i32⟩
  | 30 => ⟨S1024, .i32⟩
  | 31 => ⟨S1024, .i32⟩
  | 32 => ⟨S1024, .i32⟩
  | 33 => ⟨S_, .i32⟩
  | 34 => ⟨S1024, .i32⟩
  | 35 => ⟨S1024, .i1⟩
  | 36 => ⟨S1024, .i32⟩
  | 37 => ⟨S1024, .i32⟩
  | 38 => ⟨S_, .i32⟩
  | 39 => ⟨S1024, .i32⟩
  | 40 => ⟨S1024, .i1⟩
  | 41 => ⟨S1024, .i1⟩
  | 42 => ⟨S_, .i32⟩
  | 43 => ⟨S1024, .i32⟩
  | 44 => ⟨S1024, .i32⟩
  | 45 => ⟨S1024, .i32⟩
  | 46 => ⟨S1x1024, .i32⟩
  | 47 => ⟨S1024x1024, .i32⟩
  | 48 => ⟨S1024x1024, .i32⟩
  | 49 => ⟨S1024x1024, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x1024, .i32⟩
  | 57 => ⟨S1x1024, .i32⟩
  | 58 => ⟨S_, .i32⟩
  | 59 => ⟨S1x1024, .i32⟩
  | 60 => ⟨S1x1024, .i1⟩
  | 61 => ⟨S_, .i32⟩
  | 62 => ⟨S1x1024, .i32⟩
  | 63 => ⟨S1x1024, .i1⟩
  | 64 => ⟨S_, .i32⟩
  | 65 => ⟨S_, .i1⟩
  | 66 => ⟨S1x1024, .i1⟩
  | 67 => ⟨S1x1024, .i1⟩
  | 68 => ⟨S1x1024, .i1⟩
  | 69 => ⟨S1x1024, .i32⟩
  | 70 => ⟨S1x1024, .i32⟩
  | 71 => ⟨S1x1024, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S1024x1, .i32⟩
  | 79 => ⟨S1024x1, .i32⟩
  | 80 => ⟨S_, .i32⟩
  | 81 => ⟨S1024x1, .i32⟩
  | 82 => ⟨S1024x1, .i1⟩
  | 83 => ⟨S_, .i32⟩
  | 84 => ⟨S1024x1, .i32⟩
  | 85 => ⟨S1024x1, .i1⟩
  | 86 => ⟨S_, .i32⟩
  | 87 => ⟨S_, .i1⟩
  | 88 => ⟨S1024x1, .i1⟩
  | 89 => ⟨S1024x1, .i1⟩
  | 90 => ⟨S1024x1, .i1⟩
  | 91 => ⟨S1024x1, .i32⟩
  | 92 => ⟨S1024x1, .i32⟩
  | 93 => ⟨S1024x1, .i32⟩
  | 94 => ⟨S1024x1024, .i32⟩
  | 95 => ⟨S1024x1024, .i32⟩
  | 96 => ⟨S1024x1024, .i1⟩
  | 97 => ⟨S1024x1024, .i1⟩
  | 98 => ⟨S1x64x1024x1024, .f32⟩
  | 99 => ⟨S_, .f32⟩
  | 100 => ⟨S1x64x1024x1024, .f32⟩
  | 101 => ⟨S1x64x1024x1024, .f32⟩
  | 102 => ⟨S1x1x1024x1024, .i1⟩
  | 103 => ⟨S_, .f32⟩
  | 104 => ⟨S_, .f32⟩
  | 105 => ⟨S1x64x1024x1024, .i1⟩
  | 106 => ⟨S1x64x1024x1024, .f32⟩
  | 107 => ⟨S1x64x1024x1024, .f32⟩
  | 108 => ⟨S_, .f32⟩
  | 109 => ⟨S1x64x1024, .f32⟩
  | 110 => ⟨S1x64x1024x1, .f32⟩
  | 111 => ⟨S1x64x1024x1024, .f32⟩
  | 112 => ⟨S1x64x1024x1024, .f32⟩
  | 113 => ⟨S1x64x1024x1024, .f32⟩
  | 114 => ⟨S_, .i1⟩
  | 115 => ⟨S1024, .i1⟩
  | 116 => ⟨S1x1x1024x1, .i1⟩
  | 117 => ⟨S_, .f32⟩
  | 118 => ⟨S1x64x1024, .f32⟩
  | 119 => ⟨S1x64x1024x1, .f32⟩
  | 120 => ⟨S_, .f32⟩
  | 121 => ⟨S_, .f32⟩
  | 122 => ⟨S1x64x1024x1, .i1⟩
  | 123 => ⟨S1x64x1024x1, .f32⟩
  | 124 => ⟨S1x64x1024x1, .f32⟩
  | 125 => ⟨S1x64x1024x1024, .f32⟩
  | 126 => ⟨S1x64x1024x1024, .f32⟩
  | 127 => ⟨S1x1x1024x1, .i1⟩
  | _ => ⟨S1024x1024, .f32⟩

abbrev hbmTy0_1 (i : Nat) : BufTy := match i % 128 with
  | 0 => ⟨S_, .f32⟩
  | 1 => ⟨S_, .f32⟩
  | 2 => ⟨S1x64x1024x1024, .i1⟩
  | 3 => ⟨S1x64x1024x1024, .f32⟩
  | 4 => ⟨S1x64x1024x1024, .f32⟩
  | 5 => ⟨S1x64x128x1024, .f32⟩
  | 6 => ⟨S1x1024x64x128, .f32⟩
  | 7 => ⟨S1x1024x8192, .f32⟩
  | 8 => ⟨S1x1024x1024, .f32⟩
  | 9 => ⟨S1024x1024, .f32⟩
  | 10 => ⟨S1024x1024, .bf16⟩
  | _ => ⟨S1024x1024, .f32⟩

abbrev hbmTy (i : Nat) : BufTy := match i / 128 with
  | 0 => hbmTy0_0 i
  | 1 => hbmTy0_1 i
  | _ => ⟨S1024x1024, .f32⟩

abbrev bufTy : (tb : Table) → Fin (tcTables nBuf tb) → BufTy
  | .hbm, ⟨i, _⟩ => hbmTy i
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩
abbrev main_v40 : Ref sig .tc := ⟨.hbm, 137, rfl⟩
abbrev main_v41 : Ref sig .tc := ⟨.hbm, 138, rfl⟩

abbrev nD : Nat := 1
abbrev τ : Topo := Topo.v7x

variable {F : FTy → Type} [FloatOps F]
-- ==== Proof.Mesh.lean ====
/-
The mesh of eight devices, seen as a cube, and the rows each device sends, keeps and owns.

The 1024 rows of the result are cut into three bands (`0..384`, `384..768`, `768..1024`). In each band a device exchanges
with its three cube neighbours in turn; the order of the three cube directions differs from band to band. A step is named
`k : Fin 9`, `k = 3 * band + round`. In step `k` a device's current rows are halved: it keeps the `ln k` rows from
`keepLo k c`, and sends the other `ln k` rows, from `sendLo k c`, to its partner `par k c`.
-/
module

public import proofs.«01_k».proof.Proof.Gen.KernelIdeal

@[expose] public section

set_option backward.proofsInPublic true

namespace Cert.KProof

open Cert.KernelIdeal Cert.KernelIdeal.Gen
open Idealize.ShloMosaic

/-- The cube place of a device (the map is its own inverse). -/
def cube (c : Dev nD) : Fin 8 := (![0, 1, 3, 2, 4, 5, 7, 6] : Fin 8 → Fin 8) c

/-- The device at a cube place. -/
def unc (v : Fin 8) : Dev nD := (![0, 1, 3, 2, 4, 5, 7, 6] : Fin 8 → Fin 8) v

/-- The band of a step. -/
def band (k : Fin 9) : Fin 3 := ⟨k.val / 3, by omega⟩

/-- The round of a step. -/
def rnd (k : Fin 9) : Fin 3 := ⟨k.val % 3, by omega⟩

/-- The step of a band and a round. -/
def stp (p r : Fin 3) : Fin 9 := ⟨3 * p.val + r.val, by omega⟩

/-- The cube direction of a step. -/
def dir (k : Fin 9) : Fin 3 := (![0, 1, 2, 1, 2, 0, 2, 0, 1] : Fin 9 → Fin 3) k

/-- The device across cube direction `b`. -/
def acr (b : Fin 3) (c : Dev nD) : Dev nD := unc ⟨(cube c).val ^^^ 2 ^ b.val, by revert b c; decide⟩

/-- The partner of a device in step `k`. -/
def par (k : Fin 9) (c : Dev nD) : Dev nD := acr (dir k) c

/-- The rows moved in step `k`. -/
def ln (k : Fin 9) : ℕ := (![192, 96, 48, 192, 96, 48, 128, 64, 32] : Fin 9 → ℕ) k

/-- The first row of a band. -/
def base (p : Fin 3) : ℕ := (![0, 384, 768] : Fin 3 → ℕ) p

/-- A device's place in band `p`: its cube bits, the band's first direction as the highest. -/
def code (p : Fin 3) (c : Dev nD) : ℕ :=
  let b : ℕ → ℕ := fun d => (cube c).val / 2 ^ d % 2
  4 * b (dir (stp p 0)) + 2 * b (dir (stp p 1)) + b (dir (stp p 2))

/-- The first of the rows a device keeps in step `k`. -/
def keepLo (k : Fin 9) (c : Dev nD) : ℕ := base (band k) + ln k * (code (band k) c / 2 ^ (2 - (rnd k).val))

/-- The first of the rows a device sends in step `k`. -/
def sendLo (k : Fin 9) (c : Dev nD) : ℕ := base (band k) + ln k * ((code (band k) c / 2 ^ (2 - (rnd k).val)) ^^^ 1)

theorem acr_acr (b : Fin 3) (c : Dev nD) : acr b (acr b c) = c := by revert b c; decide
theorem acr_ne (b : Fin 3) (c : Dev nD) : acr b c ≠ c := by revert b c; decide
theorem acr_inj_dir (b b' : Fin 3) (c : Dev nD) (h : acr b c = acr b' c) : b = b' := by revert b b' c; decide
theorem par_par (k : Fin 9) (c : Dev nD) : par k (par k c) = c := acr_acr _ _
theorem sendLo_par (k : Fin 9) (c : Dev nD) : sendLo k (par k c) = keepLo k c := by revert k c; decide
theorem keepLo_par (k : Fin 9) (c : Dev nD) : keepLo k (par k c) = sendLo k c := by revert k c; decide
theorem keepLo_le (k : Fin 9) (c : Dev nD) : keepLo k c + ln k ≤ 1024 := by revert k c; decide
theorem sendLo_le (k : Fin 9) (c : Dev nD) : sendLo k c + ln k ≤ 1024 := by revert k c; decide

/-- The first row a device holds before step `k`. -/
def curLo (k : Fin 9) (c : Dev nD) : ℕ := min (keepLo k c) (sendLo k c)

/-- What is kept and what is sent are the two halves of what is held. -/
theorem halves (k : Fin 9) (c : Dev nD) :
    (keepLo k c = curLo k c ∧ sendLo k c = curLo k c + ln k) ∨ (sendLo k c = curLo k c ∧ keepLo k c = curLo k c + ln k) := by
  revert k c; decide

/-- What is held before the first round is the whole band; -/
theorem curLo_first (p : Fin 3) (c : Dev nD) : curLo (stp p 0) c = base p := by revert p c; decide
/-- what is held before a later round is what was kept in the round before it. -/
theorem curLo_one (p : Fin 3) (c : Dev nD) : curLo (stp p 1) c = keepLo (stp p 0) c := by revert p c; decide
theorem curLo_two (p : Fin 3) (c : Dev nD) : curLo (stp p 2) c = keepLo (stp p 1) c := by revert p c; decide

/-- The band of a row. -/
def bandOf (x : ℕ) : Fin 3 := if x < 384 then 0 else if x < 768 then 1 else 2

/-- The device at place `i` of band `p`. -/
def decode (p : Fin 3) (i : ℕ) : Dev nD :=
  let b : ℕ → ℕ → ℕ := fun d j => 2 ^ d * (i / 2 ^ j % 2)
  unc ⟨(b (dir (stp p 0)) 2 + b (dir (stp p 1)) 1 + b (dir (stp p 2)) 0) % 8, Nat.mod_lt _ (by decide)⟩

/-- The device that ends up with the whole sum of row `x`. -/
def owner (x : ℕ) : Dev nD :=
  decode (bandOf x) ((x - base (bandOf x)) / ln (stp (bandOf x) 2))

theorem owner_keep_aux : ∀ (p : Fin 3) (c : Dev nD) (j : Fin 48), j.val < ln (stp p 2) →
    bandOf (keepLo (stp p 2) c + j.val) = p ∧ owner (keepLo (stp p 2) c + j.val) = c := by
  decide +kernel

/-- A row kept to the end lies in its band, and its owner is the device that kept it. -/
theorem owner_keep (p : Fin 3) (c : Dev nD) (i : ℕ) (h₁ : keepLo (stp p 2) c ≤ i)
    (h₂ : i < keepLo (stp p 2) c + ln (stp p 2)) : bandOf i = p ∧ owner i = c := by
  obtain ⟨j, rfl⟩ := Nat.exists_eq_add_of_le h₁
  have hj : j < ln (stp p 2) := by omega
  clear h₁ h₂
  exact owner_keep_aux p c ⟨j, lt_of_lt_of_le hj (by clear hj; revert p; decide)⟩ hj

/-! ## The kernel's own computations of partners and offsets -/

theorem dev1_eq (c : Dev nD) : (⟨k0_dev1 c, k0_dev1_lt c⟩ : Dev nD) = acr 0 c := by revert c; decide
theorem dev2_eq (c : Dev nD) : (⟨k0_dev2 c, k0_dev2_lt c⟩ : Dev nD) = acr 1 c := by revert c; decide
theorem dev3_eq (c : Dev nD) : (⟨k0_dev3 c, k0_dev3_lt c⟩ : Dev nD) = acr 2 c := by revert c; decide
theorem dev4_eq (c : Dev nD) : (⟨k0_dev4 c, k0_dev4_lt c⟩ : Dev nD) = par 0 c := by revert c; decide
theorem dev5_eq (c : Dev nD) : (⟨k0_dev5 c, k0_dev5_lt c⟩ : Dev nD) = par 3 c := by revert c; decide
theorem dev6_eq (c : Dev nD) : (⟨k0_dev6 c, k0_dev6_lt c⟩ : Dev nD) = par 6 c := by revert c; decide
theorem dev7_eq (c : Dev nD) : (⟨k0_dev7 c, k0_dev7_lt c⟩ : Dev nD) = par 1 c := by revert c; decide
theorem dev8_eq (c : Dev nD) : (⟨k0_dev8 c, k0_dev8_lt c⟩ : Dev nD) = par 4 c := by revert c; decide
theorem dev9_eq (c : Dev nD) : (⟨k0_dev9 c, k0_dev9_lt c⟩ : Dev nD) = par 7 c := by revert c; decide
theorem dev10_eq (c : Dev nD) : (⟨k0_dev10 c, k0_dev10_lt c⟩ : Dev nD) = par 2 c := by revert c; decide
theorem dev11_eq (c : Dev nD) : (⟨k0_dev11 c, k0_dev11_lt c⟩ : Dev nD) = par 5 c := by revert c; decide
theorem dev12_eq (c : Dev nD) : (⟨k0_dev12 c, k0_dev12_lt c⟩ : Dev nD) = par 8 c := by revert c; decide
theorem dev13_eq (c : Dev nD) : (⟨k0_dev13 c, k0_dev13_lt c⟩ : Dev nD) = par 2 c := by revert c; decide
theorem dev14_eq (c : Dev nD) : (⟨k0_dev14 c, k0_dev14_lt c⟩ : Dev nD) = par 5 c := by revert c; decide
theorem dev15_eq (c : Dev nD) : (⟨k0_dev15 c, k0_dev15_lt c⟩ : Dev nD) = par 8 c := by revert c; decide
theorem dev16_eq (c : Dev nD) : (⟨k0_dev16 c, k0_dev16_lt c⟩ : Dev nD) = par 1 c := by revert c; decide
theorem dev17_eq (c : Dev nD) : (⟨k0_dev17 c, k0_dev17_lt c⟩ : Dev nD) = par 4 c := by revert c; decide
theorem dev18_eq (c : Dev nD) : (⟨k0_dev18 c, k0_dev18_lt c⟩ : Dev nD) = par 7 c := by revert c; decide
theorem dev19_eq (c : Dev nD) : (⟨k0_dev19 c, k0_dev19_lt c⟩ : Dev nD) = par 0 c := by revert c; decide
theorem dev20_eq (c : Dev nD) : (⟨k0_dev20 c, k0_dev20_lt c⟩ : Dev nD) = par 3 c := by revert c; decide
theorem dev21_eq (c : Dev nD) : (⟨k0_dev21 c, k0_dev21_lt c⟩ : Dev nD) = par 6 c := by revert c; decide

theorem off2_0 (c : Dev nD) : k0_off2 c 0#32 0#32 = ![sendLo 0 c, 0] := by revert c; decide
theorem off2_3 (c : Dev nD) : k0_off2 c 384#32 1#32 = ![sendLo 3 c, 0] := by revert c; decide
theorem off3_6 (c : Dev nD) : k0_off3 c = ![sendLo 6 c, 0] := by revert c; decide
theorem off5_1 (c : Dev nD) : k0_off5 c 0#32 0#32 1#32 = ![sendLo 1 c, 0] := by revert c; decide
theorem off5_4 (c : Dev nD) : k0_off5 c 384#32 1#32 2#32 = ![sendLo 4 c, 0] := by revert c; decide
theorem off7_7 (c : Dev nD) : k0_off7 c = ![sendLo 7 c, 0] := by revert c; decide
theorem off9_2 (c : Dev nD) : k0_off9 c 0#32 0#32 1#32 2#32 = ![sendLo 2 c, 0] := by revert c; decide
theorem off9_5 (c : Dev nD) : k0_off9 c 384#32 1#32 2#32 0#32 = ![sendLo 5 c, 0] := by revert c; decide
theorem off11_8 (c : Dev nD) : k0_off11 c = ![sendLo 8 c, 0] := by revert c; decide
theorem off4_0 (c : Dev nD) : k0_off4 c 0#32 0#32 = ![keepLo 0 c, 0] := by revert c; decide
theorem off4_3 (c : Dev nD) : k0_off4 c 384#32 1#32 = ![keepLo 3 c, 0] := by revert c; decide
theorem off6_6 (c : Dev nD) : k0_off6 c = ![keepLo 6 c, 0] := by revert c; decide
theorem off8_1 (c : Dev nD) : k0_off8 c 0#32 0#32 1#32 = ![keepLo 1 c, 0] := by revert c; decide
theorem off8_4 (c : Dev nD) : k0_off8 c 384#32 1#32 2#32 = ![keepLo 4 c, 0] := by revert c; decide
theorem off10_7 (c : Dev nD) : k0_off10 c = ![keepLo 7 c, 0] := by revert c; decide
theorem off12_2 (c : Dev nD) : k0_off12 c 0#32 0#32 1#32 2#32 = ![keepLo 2 c, 0] := by revert c; decide
theorem off12_5 (c : Dev nD) : k0_off12 c 384#32 1#32 2#32 0#32 = ![keepLo 5 c, 0] := by revert c; decide
theorem off13_8 (c : Dev nD) : k0_off13 c = ![keepLo 8 c, 0] := by revert c; decide
theorem off14_2 (c : Dev nD) : k0_off14 c 0#32 0#32 1#32 2#32 = ![keepLo 2 c, 0] := by revert c; decide
theorem off14_5 (c : Dev nD) : k0_off14 c 384#32 1#32 2#32 0#32 = ![keepLo 5 c, 0] := by revert c; decide
theorem off15_8 (c : Dev nD) : k0_off15 c = ![keepLo 8 c, 0] := by revert c; decide
theorem off16_1 (c : Dev nD) : k0_off16 c 0#32 0#32 1#32 2#32 2#32 = ![keepLo 1 c, 0] := by revert c; decide
theorem off16_4 (c : Dev nD) : k0_off16 c 384#32 1#32 2#32 0#32 0#32 = ![keepLo 4 c, 0] := by revert c; decide
theorem off18_0 (c : Dev nD) : k0_off18 c 0#32 0#32 1#32 2#32 2#32 1#32 = ![keepLo 0 c, 0] := by revert c; decide
theorem off18_3 (c : Dev nD) : k0_off18 c 384#32 1#32 2#32 0#32 0#32 2#32 = ![keepLo 3 c, 0] := by revert c; decide
theorem off17_7 (c : Dev nD) : k0_off17 c = ![keepLo 7 c, 0] := by revert c; decide
theorem off19_6 (c : Dev nD) : k0_off19 c = ![keepLo 6 c, 0] := by revert c; decide

end Cert.KProof
-- ==== Proof.Base.lean ====
/-
The resource algebra, the buffers and the semaphore cells of the kernel's exchange.

Every step `k` has four semaphore cells per device: the send and receive cells of its reduce-scatter copy and of its
all-gather copy. Besides there is the runtime's barrier cell.
-/
module

public import proofs.«01_k».proof.Proof.Mesh
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The exchange's rounds library, duties named by the three cube directions. -/
abbrev UB : Type := URounds (GSem nD τ sig) (Fin 3)
/-- The pipeline library's rounds, the exchange's, the local transfers' counters. -/
abbrev UU : Type := UR sig nD τ × (UB × Counters)

/-- Wait indices: `false` for the pipeline's and the local transfers' waits, `true` for the exchange's. -/
abbrev MM (F : FTy → Type) : Type := MT nD τ sig Bool (Elt F) ℕ UU ℕ

abbrev EP : Emb (UR sig nD τ) (MM F) := embL
def ER : Emb UB (MM F) :=
  ((Emb.inl : Emb UB (UB × Counters)).trans (Emb.inr : Emb (UB × Counters) UU)).trans
    (uEmb (nD := nD) (sig := sig) (Ix := Bool) (Val := Elt F) (Name := ℕ) (U := UU) (Lvl := ℕ)).toEmb
instance ER_landsIn : (ER : Emb UB (MM F)).LandsIn (upEmb : UEmb _ (MM F)) := by unfold ER; infer_instance

abbrev 𝒱₀ : Variants := Variants.none

/-- Contents of the buffer under a memref, on device `c`. -/
abbrev Bf (c : Dev nD) {sp : Space} {S : Shape} {e : EltTy} (M : Memref sig .tc sp S e) : Type := Buf (Elt F) (M.view.loc (c : Thread nD τ))

/-- The whole buffer under a memref, owned. -/
abbrev pt (c : Dev nD) {sp : Space} {S : Shape} {e : EltTy} (M : Memref sig .tc sp S e) (f : Bf (F := F) c M) : sProp (MM F) :=
  M.view.loc (c : Thread nD τ) ↦{fullShare} f

/-! ## The buffers of the exchange -/

/-- The accumulator. -/
abbrev aM : Memref sig .tc .vmem S1024x1024 .bf16 := Memref.whole cc0_scratch0
/-- The result's staging buffer. -/
abbrev oM : Memref sig .tc .vmem S1024x1024 .bf16 := Memref.whole cc0_stg3_0

/-- The shape of what step `k` moves. -/
abbrev shp (k : Fin 9) : Shape := ⟨2, ![ln k, 1024]⟩

/-- The landing buffer of reduce-scatter step `k`. -/
abbrev rM (k : Fin 9) : Memref sig .tc .vmem (shp k) .bf16 :=
  match k with
  | 0 => Memref.whole cc0_scratch4
  | 1 => Memref.whole cc0_scratch5
  | 2 => Memref.whole cc0_scratch6
  | 3 => Memref.whole cc0_scratch7
  | 4 => Memref.whole cc0_scratch8
  | 5 => Memref.whole cc0_scratch9
  | 6 => Memref.whole cc0_scratch10
  | 7 => Memref.whole cc0_scratch11
  | 8 => Memref.whole cc0_scratch12

theorem ln_pos (k : Fin 9) : 0 < ln k := by revert k; decide
theorem ln_le (k : Fin 9) : ln k ≤ 192 := by revert k; decide

theorem rows_inb (k : Fin 9) (lo : ℕ) (h : lo + ln k ≤ 1024) : ∀ a, (![lo, 0] : Fin 2 → ℕ) a + (shp k).size a ≤ S1024x1024.size a := by
  intro a; fin_cases a
  · exact h
  · exact le_refl 1024

/-- The rows `lo, …, lo + ln k - 1` of a 1024-row buffer. -/
abbrev rowRect (k : Fin 9) (lo : ℕ) (h : lo + ln k ≤ 1024) : Rect S1024x1024 := Rect.unit (s := S1024x1024) ![lo, 0] (shp k).size (rows_inb k lo h)
abbrev rowSl (M : Memref sig .tc .vmem S1024x1024 .bf16) (k : Fin 9) (lo : ℕ) (h : lo + ln k ≤ 1024) : Memref sig .tc .vmem (shp k) .bf16 :=
  M.slice (rowRect k lo h) (fun _ => rfl)

/-- The indices of rows `lo ≤ i < lo + n`. -/
def rows (lo n : ℕ) : Finset S1024x1024.Idx := Finset.univ.filter fun i => lo ≤ (i 0).val ∧ (i 0).val < lo + n

theorem mem_rows {lo n : ℕ} {i : S1024x1024.Idx} : i ∈ rows lo n ↔ lo ≤ (i 0).val ∧ (i 0).val < lo + n := by
  unfold rows; rw [Finset.mem_filter]; exact ⟨fun h => h.2, fun h => ⟨Finset.mem_univ _, h⟩⟩

theorem rect_rows (k : Fin 9) (lo : ℕ) (h : lo + ln k ≤ 1024) : (rowRect k lo h).set = rows lo (ln k) := by
  ext i
  rw [Rect.mem_set_unit, mem_rows]
  constructor
  · intro hi; exact hi 0
  · intro hi a; fin_cases a
    · exact hi
    · exact ⟨Nat.zero_le _, by have := (i 1).isLt; exact lt_of_lt_of_eq this (Nat.zero_add 1024).symm⟩

theorem aM_set (k : Fin 9) (lo : ℕ) (h : lo + ln k ≤ 1024) : (rowSl aM k lo h).view.set = rows lo (ln k) :=
  (View.set_slice_whole cc0_scratch0 (rowRect k lo h)).trans (rect_rows k lo h)
theorem oM_set (k : Fin 9) (lo : ℕ) (h : lo + ln k ≤ 1024) : (rowSl oM k lo h).view.set = rows lo (ln k) :=
  (View.set_slice_whole cc0_stg3_0 (rowRect k lo h)).trans (rect_rows k lo h)
theorem rM_set (k : Fin 9) : (rM k).view.set = Finset.univ := by
  fin_cases k <;> exact View.set_whole _

/-- What rows `lo …` of a 1024-row array read. -/
def rowVal (k : Fin 9) (lo : ℕ) (h : lo + ln k ≤ 1024) (v : FVec F S1024x1024 .bf16) : FVec F (shp k) .bf16 :=
  fun i => v ((rowRect k lo h).emb i)

theorem rowVal_congr (k : Fin 9) {lo lo' : ℕ} (e : lo = lo') (h : lo + ln k ≤ 1024) (h' : lo' + ln k ≤ 1024) (v : FVec F S1024x1024 .bf16) :
    rowVal k lo h v = rowVal k lo' h' v := by subst e; rfl

theorem aM_read (c : Dev nD) (k : Fin 9) (lo : ℕ) (h : lo + ln k ≤ 1024) (f : Bf (F := F) c aM) :
    (rowSl aM k lo h).view.read (Elt F) f = rowVal k lo h f := rfl
theorem oM_read (c : Dev nD) (k : Fin 9) (lo : ℕ) (h : lo + ln k ≤ 1024) (f : Bf (F := F) c oM) :
    (rowSl oM k lo h).view.read (Elt F) f = rowVal k lo h f := rfl

/-- Rows of the accumulator, owned. -/
def aRows (c : Dev nD) (lo n : ℕ) (f : FVec F S1024x1024 .bf16) : sProp (MM F) :=
  aM.view.loc (c : Thread nD τ) ↦[rows lo n]{fullShare} (f : Bf (F := F) c aM)
/-- Rows of the result buffer, owned. -/
def oRows (c : Dev nD) (lo n : ℕ) (f : FVec F S1024x1024 .bf16) : sProp (MM F) :=
  oM.view.loc (c : Thread nD τ) ↦[rows lo n]{fullShare} (f : Bf (F := F) c oM)
/-- A landing buffer, owned. -/
def rPts (k : Fin 9) (c : Dev nD) (f : Bf (F := F) c (rM k)) : sProp (MM F) :=
  (rM k).view.loc (c : Thread nD τ) ↦[(rM k).view.set]{fullShare} f
/-- A landing buffer holding `w`, owned. -/
def rHas (k : Fin 9) (c : Dev nD) (w : FVec F (shp k) .bf16) : sProp (MM F) :=
  iprop(∃ f : Bf (F := F) c (rM k), rPts k c ((rM k).view.write (Elt F) f w Finset.univ))

instance aRows_storable (c : Dev nD) (lo n : ℕ) (f : FVec F S1024x1024 .bf16) : BI.Storable (upEmb : UEmb _ (MM F)) (aRows c lo n f) := by
  unfold aRows; infer_instance
instance oRows_storable (c : Dev nD) (lo n : ℕ) (f : FVec F S1024x1024 .bf16) : BI.Storable (upEmb : UEmb _ (MM F)) (oRows c lo n f) := by
  unfold oRows; infer_instance
instance rPts_storable (k : Fin 9) (c : Dev nD) (f : Bf (F := F) c (rM k)) : BI.Storable (upEmb : UEmb _ (MM F)) (rPts k c f) := by
  unfold rPts; infer_instance
instance rHas_storable (k : Fin 9) (c : Dev nD) (w : FVec F (shp k) .bf16) : BI.Storable (upEmb : UEmb _ (MM F)) (rHas k c w) := by
  unfold rHas; infer_instance

theorem rows_split (lo n m : ℕ) : rows lo (n + m) = rows lo n ∪ rows (lo + n) m := by
  ext i; rw [Finset.mem_union, mem_rows, mem_rows, mem_rows]; omega
theorem rows_disjoint {lo n lo' m : ℕ} (h : lo + n ≤ lo') : Disjoint (rows lo n) (rows lo' m) := by
  rw [Finset.disjoint_left]; intro i h₁ h₂; rw [mem_rows] at h₁ h₂; omega
theorem rows_all : rows 0 1024 = Finset.univ := by
  ext i; rw [mem_rows]; exact ⟨fun _ => Finset.mem_univ _, fun _ => ⟨Nat.zero_le _, by have := (i 0).isLt; exact lt_of_lt_of_eq this (Nat.zero_add 1024).symm⟩⟩

theorem aRows_all (c : Dev nD) (f : FVec F S1024x1024 .bf16) : aRows c 0 1024 f = pt c aM f := by
  unfold aRows pt; rw [rows_all]
theorem oRows_all (c : Dev nD) (f : FVec F S1024x1024 .bf16) : oRows c 0 1024 f = pt c oM f := by
  unfold oRows pt; rw [rows_all]

/-- Adjacent rows held at the same array are held together, and apart. -/
theorem aRows_split (c : Dev nD) (lo n m : ℕ) (f : FVec F S1024x1024 .bf16) :
    aRows c lo (n + m) f = iprop(aRows c lo n f ∗ aRows c (lo + n) m f) := by
  unfold aRows; rw [rows_split]
  have h := pointsTo_union (Val := Elt F) (ℓ := aM.view.loc (c : Thread nD τ)) (q := fullShare) (f := (f : Bf (F := F) c aM)) (Ix := Bool) (Name := ℕ) (U := UU) (Lvl := ℕ) (rows_disjoint (m := m) (le_refl (lo + n)))
  exact BI.equiv_iff.mp ⟨h.1, h.2⟩
theorem oRows_split (c : Dev nD) (lo n m : ℕ) (f : FVec F S1024x1024 .bf16) :
    oRows c lo (n + m) f = iprop(oRows c lo n f ∗ oRows c (lo + n) m f) := by
  unfold oRows; rw [rows_split]
  have h := pointsTo_union (Val := Elt F) (ℓ := oM.view.loc (c : Thread nD τ)) (q := fullShare) (f := (f : Bf (F := F) c oM)) (Ix := Bool) (Name := ℕ) (U := UU) (Lvl := ℕ) (rows_disjoint (m := m) (le_refl (lo + n)))
  exact BI.equiv_iff.mp ⟨h.1, h.2⟩

/-- Adjacent rows held at any arrays are held together at some array. -/
theorem aRows_join (c : Dev nD) (lo n m : ℕ) (f g : FVec F S1024x1024 .bf16) :
    iprop(aRows c lo n f ∗ aRows c (lo + n) m g) ⊢ iprop(∃ h, aRows c lo (n + m) h) := by
  unfold aRows; rw [rows_split]
  iintro H
  ihave H := (pointsTo_join (rows_disjoint (le_refl (lo + n)))) $$ H
  iexists _; iexact H

theorem aRows_congr (c : Dev nD) (lo n : ℕ) (f g : FVec F S1024x1024 .bf16) (h : ∀ i, i ∈ rows lo n → f i = g i) :
    aRows c lo n f = aRows c lo n g := by unfold aRows; exact pointsTo_congr h
theorem oRows_congr (c : Dev nD) (lo n : ℕ) (f g : FVec F S1024x1024 .bf16) (h : ∀ i, i ∈ rows lo n → f i = g i) :
    oRows c lo n f = oRows c lo n g := by unfold oRows; exact pointsTo_congr h

/-! ## The cells -/

/-- The runtime's barrier semaphore. -/
abbrev barS : Sem sig := (SemArray.scalar (sig.barrier 0 rfl) : Sems sig S_).sem

/-- The exchange's four semaphore arrays: reduce-scatter send and receive, all-gather send and receive. -/
abbrev sArr : Fin 4 → DmaSems sig S9 := fun | 0 => cc0_scratch15 | 1 => cc0_scratch16 | 2 => cc0_scratch17 | 3 => cc0_scratch18

theorem s9_inb (k : Fin 9) : ∀ a, (![k.val] : Fin 1 → ℕ) a + S1.size a ≤ S9.size a := by
  intro a; fin_cases a; exact k.isLt

abbrev xS (t : Fin 4) (k : Fin 9) : DmaSem sig :=
  (((sArr t).slice (Rect.unit (s := S9) ![k.val] S1.size (s9_inb k))).squeeze S_ squeezes_S1_S_).sem

/-- A cell of the exchange: the barrier's, or array `t`'s of step `k`. -/
abbrev CK : Type := Option (Fin 4 × Fin 9)
abbrev csem : CK → SemLoc sig := fun | none => .reg barS | some (t, k) => .dma (xS t k)
abbrev cellOf (c : Dev nD) (x : CK) : GSem nD τ sig := ((c : Thread nD τ), csem x)

theorem csem_inj : Function.Injective csem := by
  have h : ∀ x y : CK, csem x = csem y → x = y := by decide +kernel
  exact fun x y => h x y

/-- The exchange's cell at a semaphore, if it has one. -/
def ckOf (s : SemLoc sig) : Option CK := by
  classical exact if h : ∃ x, csem x = s then some h.choose else none
theorem ckOf_csem (x : CK) : ckOf (csem x) = some x := by
  unfold ckOf
  have h : ∃ y, csem y = csem x := ⟨x, rfl⟩
  rw [dif_pos h]; exact congrArg some (csem_inj h.choose_spec)

end Cert.KProof

end
-- ==== Proof.Protocol.lean ====
/-
The protocol of the exchange, as a schedule of rounds.

Every cell has one round. The barrier cell of a device has three duties of one unit, one from each cube neighbour, which
hand over all that the device will write in that neighbour's memory: landing buffers and rows of the result buffer. The
four cells of a step have one duty of the copy's credit. A send cell hands the source back, a receive cell hands over the
landed rows with their contents.
-/
module

public import proofs.«01_k».proof.Proof.Base

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Contents -/

/-- What device `c` has summed in band `p` after `r` rounds, from the devices' own arrays `A`. -/
def V (A : Dev nD → FVec F S1024x1024 .bf16) (p : Fin 3) : ℕ → Dev nD → FVec F S1024x1024 .bf16
  | 0, c => A c
  | r + 1, c => addf (V A p r c) (V A p r (par (stp p (Fin.ofNat 3 r)) c))

/-- Before step `k`; -/
def Vk (A : Dev nD → FVec F S1024x1024 .bf16) (k : Fin 9) (c : Dev nD) : FVec F S1024x1024 .bf16 := V A (band k) (rnd k).val c
/-- and after it. -/
def Va (A : Dev nD → FVec F S1024x1024 .bf16) (k : Fin 9) (c : Dev nD) : FVec F S1024x1024 .bf16 := V A (band k) ((rnd k).val + 1) c

theorem Va_eq (A : Dev nD → FVec F S1024x1024 .bf16) (k : Fin 9) (c : Dev nD) : Va A k c = addf (Vk A k c) (Vk A k (par k c)) := by
  have h : stp (band k) (Fin.ofNat 3 (rnd k).val) = k := by revert k; decide
  unfold Va Vk; conv_lhs => unfold V
  rw [h]

/-- The result: each row from the device that owns its whole sum. -/
def FIN (A : Dev nD → FVec F S1024x1024 .bf16) : FVec F S1024x1024 .bf16 := fun i => V A (bandOf (i 0).val) 3 (owner (i 0).val) i

theorem FIN_keep (A : Dev nD → FVec F S1024x1024 .bf16) (p : Fin 3) (c : Dev nD) (i : S1024x1024.Idx)
    (h : i ∈ rows (keepLo (stp p 2) c) (ln (stp p 2))) : V A p 3 c i = FIN A i := by
  rw [mem_rows] at h
  obtain ⟨h₁, h₂⟩ := owner_keep p c (i 0).val h.1 h.2
  unfold FIN; rw [h₁, h₂]

/-! ## The schedule -/

section Sched

variable (A : Dev nD → FVec F S1024x1024 .bf16)

/-- What device `d` hands its partner of step `k` at the barrier: the landing buffer of the step and the rows of the result
    the partner's all-gather copy fills. -/
def give (k : Fin 9) (d : Dev nD) : sProp (MM F) := iprop((∃ f, rPts k d f) ∗ ∃ f, oRows d (sendLo k d) (ln k) f)

def barPay (b : Fin 3) (d : Dev nD) : sProp (MM F) :=
  match b with
  | 0 => iprop(give 0 d ∗ give 5 d ∗ give 7 d)
  | 1 => iprop(give 1 d ∗ give 3 d ∗ give 8 d)
  | 2 => iprop(give 2 d ∗ give 4 d ∗ give 6 d)

/-- What lands in step `k`'s buffer of device `c`: the partner's sums over the rows `c` keeps. -/
def landed (k : Fin 9) (c : Dev nD) : FVec F (shp k) .bf16 := rowVal k (keepLo k c) (keepLo_le k c) (Vk A k (par k c))

/-- What each cell of a step hands over. -/
def xPay (t : Fin 4) (k : Fin 9) (c : Dev nD) : sProp (MM F) :=
  match t with
  | 0 => aRows c (sendLo k c) (ln k) (Vk A k c)
  | 1 => rHas k c (landed A k c)
  | 2 => oRows c (keepLo k c) (ln k) (FIN A)
  | 3 => oRows c (sendLo k c) (ln k) (FIN A)

def pay (c : Dev nD) (x : CK) (d : Fin 3) : sProp (MM F) :=
  match x with
  | none => barPay d (acr d c)
  | some (t, k) => xPay A t k c

/-- The credit of step `k`'s copies. -/
def amt (k : Fin 9) : ℕ := (rM k).view.dmaCredit
theorem amt_pos (k : Fin 9) : 0 < amt k := by
  unfold amt
  fin_cases k <;> exact View.dmaCredit_pos _ (by decide)

def ckAmt : CK → ℕ | none => 1 | some (_, k) => amt k

instance give_storable (k : Fin 9) (d : Dev nD) : BI.Storable (upEmb : UEmb _ (MM F)) (give k d) := by unfold give; infer_instance
instance barPay_storable (b : Fin 3) (d : Dev nD) : BI.Storable (upEmb : UEmb _ (MM F)) (barPay b d) := by
  unfold barPay; split <;> infer_instance
instance xPay_storable (t : Fin 4) (k : Fin 9) (c : Dev nD) : BI.Storable (upEmb : UEmb _ (MM F)) (xPay A t k c) := by
  unfold xPay; split <;> infer_instance
instance pay_storable (c : Dev nD) (x : CK) (d : Fin 3) : BI.Storable (upEmb : UEmb _ (MM F)) (pay A c x d) := by
  unfold pay; split <;> infer_instance

def ckDuties : CK → Finset (Fin 3) | none => Finset.univ | some _ => {0}

def Rd : Rounds.Schedule (GSem nD τ sig) (Fin 3) (MM F) where
  duties g r := if r = 0 ∧ g.1.2 = .tc then (match ckOf g.2 with | none => ∅ | some x => ckDuties x) else ∅
  unitless _ := False
  amount g _ _ := match ckOf g.2 with | none => 1 | some x => ckAmt x
  payload g _ d := match ckOf g.2 with | none => iprop(emp) | some x => pay A g.1.1 x d
  amount_pos g _ _ _ := by
    split
    · exact Nat.one_pos
    · rename_i x _; cases x with
      | none => exact Nat.one_pos
      | some tk => exact amt_pos tk.2

instance Rd_payload_storable (g : GSem nD τ sig) (r : ℕ) (d : Fin 3) : BI.Storable (upEmb : UEmb _ (MM F)) ((Rd A).payload g r d) := by
  show BI.Storable upEmb (match ckOf g.2 with | none => iprop(emp) | some x => pay A g.1.1 x d)
  split <;> infer_instance

variable (c : Dev nD) (x : CK)

theorem duties_cell : (Rd A).duties (cellOf c x) 0 = ckDuties x := by
  dsimp only [Rd]; rw [if_pos ⟨rfl, rfl⟩, ckOf_csem]
theorem duties_later (g : GSem nD τ sig) : ∀ r, 1 ≤ r → (Rd A).duties g r = ∅ :=
  fun r hr => by dsimp only [Rd]; rw [if_neg fun h => by omega]
theorem amount_cell (d : Fin 3) : (Rd A).amount (cellOf c x) 0 d = ckAmt x := by dsimp only [Rd]; rw [ckOf_csem]
theorem payload_cell (d : Fin 3) : (Rd A).payload (cellOf c x) 0 d = pay A c x d := by dsimp only [Rd]; rw [ckOf_csem]

theorem expect_bar : (Rd A).expect (cellOf c none) 0 = 3 := by
  unfold Schedule.expect Schedule.amountOf
  rw [duties_cell, Finset.sum_congr rfl fun d _ => amount_cell A c none d]
  show ∑ _d : Fin 3, 1 = 3
  decide
theorem expect_x (t : Fin 4) (k : Fin 9) : (Rd A).expect (cellOf c (some (t, k))) 0 = amt k := by
  unfold Schedule.expect Schedule.amountOf
  rw [duties_cell]; show ∑ d ∈ {0}, _ = _
  rw [Finset.sum_singleton, amount_cell]; rfl

theorem rest_bar : bigSep ((Rd A).duties (cellOf c none) 0 \ ∅) (fun d => (Rd A).payload (cellOf c none) 0 d)
    = iprop(barPay 0 (acr 0 c) ∗ barPay 1 (acr 1 c) ∗ barPay 2 (acr 2 c)) := by
  rw [Finset.sdiff_empty, duties_cell]
  show bigSep Finset.univ _ = _
  rw [bigSep_univ_eq_bigSepL [(0 : Fin 3), 1, 2] (by decide) (by decide), bigSepL_cons_cons, bigSepL_cons_cons, bigSepL_singleton,
    payload_cell, payload_cell, payload_cell]
  rfl
theorem rest_x (t : Fin 4) (k : Fin 9) :
    bigSep ((Rd A).duties (cellOf c (some (t, k))) 0 \ ∅) (fun d => (Rd A).payload (cellOf c (some (t, k))) 0 d) = xPay A t k c := by
  rw [Finset.sdiff_empty, duties_cell]; show bigSep {0} _ = _
  rw [bigSep_singleton, payload_cell]; rfl

end Sched

/-! ## Levels, and what a device owes -/

/-- The order of the cells' waits in the program. -/
def ckLev : CK → ℕ
  | none => 1
  | some (t, k) => if t.val < 2 then 2 + 3 * (rnd k).val + (band k).val else 11 + 3 * (2 - (rnd k).val) + (band k).val

def L (g : GSem nD τ sig) : Finset Bool := if g.1.2 = .tc then Finset.univ else ∅
def lv (g : GSem nD τ sig) (i : Bool) : ℕ := if i then (match ckOf g.2 with | none => 0 | some x => ckLev x) else 0

theorem L_of_ne (g : GSem nD τ sig) (h : g.1.2 ≠ .tc) : L g = ∅ := if_neg h
theorem L_tc (c : Dev nD) (sm : SemLoc sig) (i : Bool) : i ∈ L ((c : Thread nD τ), sm) := by unfold L; rw [if_pos rfl]; exact Finset.mem_univ _
theorem lv_cell (c : Dev nD) (x : CK) : lv (cellOf c x) true = ckLev x := by unfold lv; rw [if_pos rfl, ckOf_csem]
theorem ckLev_pos (x : CK) : 0 < ckLev x := by revert x; decide

/-- What a device raises on other devices, in program order: the partner is a function of the device. -/
def sends : List ((Dev nD → Dev nD) × CK) :=
  [(acr 0, none), (acr 1, none), (acr 2, none),
   (par 0, some (1, 0)), (par 3, some (1, 3)), (par 6, some (1, 6)),
   (par 1, some (1, 1)), (par 4, some (1, 4)), (par 7, some (1, 7)),
   (par 2, some (1, 2)), (par 5, some (1, 5)), (par 8, some (1, 8)),
   (par 2, some (3, 2)), (par 5, some (3, 5)), (par 8, some (3, 8)),
   (par 1, some (3, 1)), (par 4, some (3, 4)), (par 7, some (3, 7)),
   (par 0, some (3, 0)), (par 3, some (3, 3)), (par 6, some (3, 6))]

/-- What is owed for a list of raises; the head is the last summand. -/
def owesL (c : Dev nD) : List ((Dev nD → Dev nD) × CK) → CellTallies nD τ sig Bool
  | [] => 0
  | y :: l => owesL c l + tallyAt (cellOf (y.1 c) y.2) true (ckAmt y.2)

/-- What device `c` owes after `n` of its raises. -/
def Ow (c : Dev nD) (n : ℕ) : CellTallies nD τ sig Bool := owesL c (sends.drop n)

theorem owesL_pos {c : Dev nD} {g : GSem nD τ sig} {u : Bool} : ∀ {l : List ((Dev nD → Dev nD) × CK)}, 0 < owesL c l g u →
    u = true ∧ ∃ y ∈ l, g = cellOf (y.1 c) y.2
  | [], h => absurd h (Nat.lt_irrefl 0)
  | y :: l, h => by
    unfold owesL at h
    rw [Pi.add_apply, Finsupp.add_apply, tallyAt_apply] at h
    by_cases e : g = cellOf (y.1 c) y.2 ∧ u = true
    · exact ⟨e.2, y, List.mem_cons_self, e.1⟩
    · rw [if_neg e, Nat.add_zero] at h
      obtain ⟨hu, z, hz, hg⟩ := owesL_pos h
      exact ⟨hu, z, List.mem_cons_of_mem _ hz, hg⟩

/-- Waiting at a level below everything owed. -/
theorem mayWait (c : Dev nD) (sm : SemLoc sig) (i : Bool) (n : ℕ) (h : ∀ y ∈ (sends.drop n).map Prod.snd, lv ((c : Thread nD τ), sm) i < ckLev y) :
    (levAts L lv : sProp (MM F)) ⊢ MayWait (c : Thread nD τ) sm i (Ow c n) :=
  MayOwe.of_cut (L := L) (lev := lv) (lv ((c : Thread nD τ), sm) i)
    (fun p hp => by rw [Finset.mem_singleton.mp hp]; exact L_tc c sm i)
    (fun g u hg => by obtain ⟨_, y, _, rfl⟩ := owesL_pos hg; exact L_tc _ _ _)
    (fun p hp => by rw [Finset.mem_singleton.mp hp])
    (fun g u hg => by
      obtain ⟨rfl, y, hy, rfl⟩ := owesL_pos hg
      rw [lv_cell]; exact h _ (List.mem_map_of_mem hy))

/-- The local waits are at level zero, below everything. -/
theorem mayWait_local (c : Dev nD) (sm : SemLoc sig) (n : ℕ) : (levAts L lv : sProp (MM F)) ⊢ MayWait (c : Thread nD τ) sm false (Ow c n) :=
  mayWait c sm false n fun y _ => ckLev_pos y

theorem mayWait_cell (c : Dev nD) (x : CK) (n : ℕ) (h : ((sends.drop n).map Prod.snd).all (fun y => decide (ckLev x < ckLev y)) = true) :
    (levAts L lv : sProp (MM F)) ⊢ MayWait (c : Thread nD τ) (csem x) true (Ow c n) :=
  mayWait c (csem x) true n fun y hy => by
    have := List.all_eq_true.mp h y hy
    exact lt_of_eq_of_lt (lv_cell c x) (of_decide_eq_true this)

end Cert.KProof

end
-- ==== Proof.Steps.lean ====
/-
The exchange's steps, each proved once for every step `k` and device `c`: the two remote copies, the waits on the four
cells, and the addition of what landed.
-/
module

public import proofs.«01_k».proof.Proof.Protocol

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (A : Dev nD → FVec F S1024x1024 .bf16) (K : Dev nD × CK → ℕ)

/-- Every cell's invariant, and that it has reached its round. -/
def records : sProp (MM F) :=
  iprop((bigSep Finset.univ fun p : Dev nD × CK => cellInv ER (Rd A) (K p) (cellOf p.1 p.2))
    ∗ bigSep Finset.univ fun p : Dev nD × CK => reached ER (cellOf p.1 p.2) 0)

instance records_persistent : BI.Persistent (records A K) := by unfold records; infer_instance

theorem inv_at (p : Dev nD × CK) :
    (bigSep Finset.univ fun p : Dev nD × CK => (cellInv ER (Rd A) (K p) (cellOf p.1 p.2) : sProp (MM F))) ⊢ cellInv ER (Rd A) (K p) (cellOf p.1 p.2) :=
  bigSep_elim (Finset.mem_univ p)
theorem reached_at (p : Dev nD × CK) :
    (bigSep Finset.univ fun p : Dev nD × CK => (reached ER (cellOf p.1 p.2) 0 : sProp (MM F))) ⊢ reached ER (cellOf p.1 p.2) 0 :=
  bigSep_elim (Finset.mem_univ p)
theorem records_inv (c : Dev nD) (x : CK) : records A K ⊢ cellInv ER (Rd A) (K (c, x)) (cellOf c x) := by
  unfold records
  iintro ⟨#H, -⟩
  iapply (inv_at A K (c, x)); iexact H
theorem records_reached (c : Dev nD) (x : CK) : records A K ⊢ reached ER (cellOf c x) 0 := by
  unfold records
  iintro ⟨-, #H⟩
  iapply (reached_at (F := F) (c, x)); iexact H

/-- What a device owes, whatever it has waited on. -/
def owesE (c : Dev nD) (O : CellTallies nD τ sig Bool) : sProp (MM F) := iprop(∃ W, owes (c : Thread nD τ) O W)

abbrev wpc (c : Dev nD) {α : Type} (p : Prog (TpuEff nD τ sig (Elt F) Λ₀ .tc) α) (Q : α → sProp (MM F)) : sProp (MM F) :=
  wp frame (wpE (defs₀ (F := F)) 𝒱₀ (c : Thread nD τ) none) Set.univ p Q

/-- The tokens for a copy of step `k` (`t = 0` reduce-scatter, `t = 2` all-gather): of its own send cell's duty and of its partner's receive cell's. -/
def toks (t t' : Fin 4) (k : Fin 9) (c : Dev nD) : sProp (MM F) :=
  iprop(dutyTok ER (cellOf c (some (t, k))) 0 0 ∗ dutyTok ER (cellOf (par k c) (some (t', k))) 0 0)

/-- Reduce-scatter copy `k`: its source rows and the partner's landing buffer go into the transfer. -/
theorem wp_rs_send (k : Fin 9) (c n : Dev nD) (hn : n = par k c) {off : Fin 2 → ℕ} (hoff : off = ![sendLo k c, 0])
    {inb : ∀ a, off a + (shp k).size a ≤ S1024x1024.size a} {hst} {sS sR : DmaSem sig} (hS : sS = xS 0 k) (hR : sR = xS 1 k)
    {hsc : (rM k).view.ref.isScScratch = false}
    {hsrc : (aM.slice (Rect.unit (s := S1024x1024) off (shp k).size inb) hst).view.WordExact} {hdst : (rM k).view.WordExact}
    {hsem : DmaTarget.Typed .vmem (.dma sR) (.remote (Dev.tc n : Thread nD τ) (rM k : Memref sig (Dev.tc n : Thread nD τ).2.kind .vmem (shp k) .bf16) (.dma sS) hsc)}
    {α : Type} {Q : α → sProp (MM F)} {κ : PUnit → Prog (TpuEff nD τ sig (Elt F) Λ₀ .tc) α}
    (O₀ O : CellTallies nD τ sig Bool) (hO : O₀ = O + tallyAt (cellOf (par k c) (some (1, k))) true (amt k)) :
    iprop(records A K ∗ aRows c (sendLo k c) (ln k) (Vk A k c) ∗ (∃ f, rPts k (par k c) f) ∗ owesE c O₀ ∗ toks 0 1 k c)
      ⊢ iprop(((cred (tallyAt (cellOf c (some (0, k))) true (amt k)) ∗ owesE c O) -∗ wpc c (κ ⟨⟩) Q)
          -∗ wpc c (.op (.enqueueDma (aM.slice (Rect.unit (s := S1024x1024) off (shp k).size inb) hst)
              (.remote (Dev.tc n : Thread nD τ) (rM k : Memref sig (Dev.tc n : Thread nD τ).2.kind .vmem (shp k) .bf16) (.dma sS) hsc) (.dma sR) hsrc hdst hsem) κ) Q) := by
  subst hn hoff hS hR
  unfold owesE toks
  iintro ⟨#HR, Ha, ⟨%f, Hr⟩, ⟨%W, HO⟩, Ht1, Ht2⟩ Hk
  iapply (Rounds.wp_send_pointsTo 𝒱₀ ER (Rd A) (c : Thread nD τ) none (κ₁ := K (c, some (0, k))) (κ₂ := K (par k c, some (1, k)))
    (r₁ := 0) (r₂ := 0) (d₁ := 0) (d₂ := 0) (q := fullShare) (fs := (Vk A k c : Bf (F := F) c aM)) (fd := f)
    (c' := (Dev.tc (par k c) : Thread nD τ))
    (by rw [show ((c : Thread nD τ), SemLoc.dma (xS 0 k)) = cellOf c (some (0, k)) from rfl, duties_cell]; exact Finset.mem_singleton_self _)
    (by rw [show ((Dev.tc (par k c) : Thread nD τ), SemLoc.dma (xS 1 k)) = cellOf (par k c) (some (1, k)) from rfl, duties_cell]; exact Finset.mem_singleton_self _)
    true true (amt k) rfl (amount_cell A c (some (0, k)) 0) (amount_cell A (par k c) (some (1, k)) 0) O hO (W := W)
    (by
      rw [show ((c : Thread nD τ), SemLoc.dma (xS 0 k)) = cellOf c (some (0, k)) from rfl, payload_cell]
      show _ ⊢ aRows c (sendLo k c) (ln k) (Vk A k c)
      unfold aRows; rw [aM_set k _ (sendLo_le k c)])
    (by
      rw [show ((Dev.tc (par k c) : Thread nD τ), SemLoc.dma (xS 1 k)) = cellOf (par k c) (some (1, k)) from rfl, payload_cell]
      show _ ⊢ rHas k (par k c) (landed A k (par k c))
      unfold rHas rPts
      iintro H; iexists f
      rw [show landed A k (par k c) = rowVal k (sendLo k c) (sendLo_le k c) (Vk A k c) from by
        unfold landed; rw [par_par]; exact rowVal_congr k (keepLo_par k c) _ _ _]
      iexact H)) $$ [Ha Hr HO Ht1 Ht2]
  · isplitr; · iapply (records_inv A K c (some (0, k))); iexact HR
    isplitr; · iapply (records_inv A K (par k c) (some (1, k))); iexact HR
    isplitl [Ha]; · unfold aRows; rw [aM_set k _ (sendLo_le k c)]; iexact Ha
    isplitl [Hr]; · unfold rPts; iexact Hr
    isplitl [HO]; · iexact HO
    isplitl [Ht1]; · iexact Ht1
    isplitr; · iapply (records_reached A K c (some (0, k))); iexact HR
    isplitl [Ht2]; · iexact Ht2
    iapply (records_reached A K (par k c) (some (1, k))); iexact HR
  iintro ⟨Hc, HO⟩
  iapply Hk
  isplitl [Hc]; · iexact Hc
  iexists W; iexact HO

/-- All-gather copy `k`: the rows kept in step `k`, all of them final, to the same rows of the partner. -/
theorem wp_ag_send (k : Fin 9) (c n : Dev nD) (hn : n = par k c) {off : Fin 2 → ℕ} (hoff : off = ![keepLo k c, 0])
    {inb inb' : ∀ a, off a + (shp k).size a ≤ S1024x1024.size a} {hst hst'} {sS sR : DmaSem sig} (hS : sS = xS 2 k) (hR : sR = xS 3 k)
    {hsc : (oM.slice (Rect.unit (s := S1024x1024) off (shp k).size inb') hst').view.ref.isScScratch = false}
    {hsrc : (oM.slice (Rect.unit (s := S1024x1024) off (shp k).size inb) hst).view.WordExact}
    {hdst : (oM.slice (Rect.unit (s := S1024x1024) off (shp k).size inb') hst').view.WordExact}
    {hsem : DmaTarget.Typed .vmem (.dma sR) (.remote (Dev.tc n : Thread nD τ)
      (oM.slice (Rect.unit (s := S1024x1024) off (shp k).size inb') hst' : Memref sig (Dev.tc n : Thread nD τ).2.kind .vmem (shp k) .bf16) (.dma sS) hsc)}
    (hN : amt k = (oM.slice (Rect.unit (s := S1024x1024) off (shp k).size inb') hst').view.dmaCredit)
    {α : Type} {Q : α → sProp (MM F)} {κ : PUnit → Prog (TpuEff nD τ sig (Elt F) Λ₀ .tc) α}
    (O₀ O : CellTallies nD τ sig Bool) (hO : O₀ = O + tallyAt (cellOf (par k c) (some (3, k))) true (amt k)) :
    iprop(records A K ∗ oRows c (keepLo k c) (ln k) (FIN A) ∗ (∃ f, oRows (par k c) (keepLo k c) (ln k) f) ∗ owesE c O₀ ∗ toks 2 3 k c)
      ⊢ iprop(((cred (tallyAt (cellOf c (some (2, k))) true (amt k)) ∗ owesE c O) -∗ wpc c (κ ⟨⟩) Q)
          -∗ wpc c (.op (.enqueueDma (oM.slice (Rect.unit (s := S1024x1024) off (shp k).size inb) hst)
              (.remote (Dev.tc n : Thread nD τ) (oM.slice (Rect.unit (s := S1024x1024) off (shp k).size inb') hst' : Memref sig (Dev.tc n : Thread nD τ).2.kind .vmem (shp k) .bf16)
                (.dma sS) hsc) (.dma sR) hsrc hdst hsem) κ) Q) := by
  subst hn hoff hS hR
  unfold owesE toks
  iintro ⟨#HR, Ha, ⟨%f, Hr⟩, ⟨%W, HO⟩, Ht1, Ht2⟩ Hk
  iapply (Rounds.wp_send_pointsTo 𝒱₀ ER (Rd A) (c : Thread nD τ) none (κ₁ := K (c, some (2, k))) (κ₂ := K (par k c, some (3, k)))
    (r₁ := 0) (r₂ := 0) (d₁ := 0) (d₂ := 0) (q := fullShare) (fs := (FIN A : Bf (F := F) c oM)) (fd := (f : Bf (F := F) (par k c) oM))
    (c' := (Dev.tc (par k c) : Thread nD τ))
    (by rw [show ((c : Thread nD τ), SemLoc.dma (xS 2 k)) = cellOf c (some (2, k)) from rfl, duties_cell]; exact Finset.mem_singleton_self _)
    (by rw [show ((Dev.tc (par k c) : Thread nD τ), SemLoc.dma (xS 3 k)) = cellOf (par k c) (some (3, k)) from rfl, duties_cell]; exact Finset.mem_singleton_self _)
    true true (amt k) (by exact hN.symm) (amount_cell A c (some (2, k)) 0) (amount_cell A (par k c) (some (3, k)) 0) O hO (W := W)
    (by
      rw [show ((c : Thread nD τ), SemLoc.dma (xS 2 k)) = cellOf c (some (2, k)) from rfl, payload_cell]
      show _ ⊢ oRows c (keepLo k c) (ln k) (FIN A)
      unfold oRows; rw [oM_set k _ (keepLo_le k c)])
    (by
      rw [show ((Dev.tc (par k c) : Thread nD τ), SemLoc.dma (xS 3 k)) = cellOf (par k c) (some (3, k)) from rfl, payload_cell]
      show _ ⊢ oRows (par k c) (sendLo k (par k c)) (ln k) (FIN A)
      rw [sendLo_par]
      unfold oRows; rw [oM_set k _ (keepLo_le k c)]
      refine Entails.of_eq (pointsTo_congr fun i hi => ?_)
      rw [← oM_set k _ (keepLo_le k c)] at hi
      obtain ⟨x, -, rfl⟩ := Finset.mem_map.mp hi
      exact View.write_emb_of_mem _ _ (Finset.mem_univ x))) $$ [Ha Hr HO Ht1 Ht2]
  · isplitr; · iapply (records_inv A K c (some (2, k))); iexact HR
    isplitr; · iapply (records_inv A K (par k c) (some (3, k))); iexact HR
    isplitl [Ha]; · unfold oRows; rw [oM_set k _ (keepLo_le k c)]; iexact Ha
    isplitl [Hr]; · unfold oRows; rw [oM_set k _ (keepLo_le k c)]; iexact Hr
    isplitl [HO]; · iexact HO
    isplitl [Ht1]; · iexact Ht1
    isplitr; · iapply (records_reached A K c (some (2, k))); iexact HR
    isplitl [Ht2]; · iexact Ht2
    iapply (records_reached A K (par k c) (some (3, k))); iexact HR
  iintro ⟨Hc, HO⟩
  iapply Hk
  isplitl [Hc]; · iexact Hc
  iexists W; iexact HO

/-- A wait on a cell of step `k`: its payload comes, the cell closes. -/
theorem wp_x_wait (t : Fin 4) (k : Fin 9) (c : Dev nD) {s : DmaSem sig} (hs : s = xS t k) {sp sp' : Space} {S : Shape} {e : EltTy}
    {src : Memref sig .tc sp S e} {dst : Memref sig .tc sp' S e} {h₁ : src.view.WordExact} {h₂ : dst.view.WordExact}
    (hN : dst.view.dmaCredit = amt k)
    (n : ℕ) (hlev : ((sends.drop n).map Prod.snd).all (fun y => decide (ckLev (some (t, k)) < ckLev y)) = true)
    {α : Type} {Q : α → sProp (MM F)} {κ : PUnit → Prog (TpuEff nD τ sig (Elt F) Λ₀ .tc) α} :
    iprop(records A K ∗ levAts L lv ∗ cred (tallyAt (cellOf c (some (t, k))) true (amt k)) ∗ atPos ER (cellOf c (some (t, k))) 0 ∅ 0 ∗ owesE c (Ow c n))
      ⊢ iprop(((xPay A t k c ∗ semVal (cellOf c (some (t, k))) 0 ∗ owesE c (Ow c n)) -∗ wpc c (κ ⟨⟩) Q)
          -∗ wpc c (.op (.waitDma2 s src dst h₁ h₂) κ) Q) := by
  subst hs
  unfold owesE
  iintro ⟨#HR, #HL, Hc, Hat, ⟨%W, HO⟩⟩ Hk
  iapply (Rounds.wp_wait_rest_token 𝒱₀ ER (Rd A) (c : Thread nD τ) none (κ := K (c, some (t, k)))
      (wpE_waitDma2_eq 𝒱₀ (c : Thread nD τ) none Set.univ) (Set.mem_univ _) true (O := Ow c n) (W := W) (R := 0) (m := 0) (T := ∅)
      (by rw [Nat.zero_add, hN]; exact (expect_x A c t k).symm)) $$ [Hc HO Hat]
  · isplitr; · iapply (records_inv A K c (some (t, k))); iexact HR
    isplitl [Hc]; · rw [hN]; iexact Hc
    isplitl [HO]; · iexact HO
    isplitr; · iapply (mayWait_cell c (some (t, k)) n hlev); iexact HL
    iexact Hat
  iintro ⟨HO, Hat, -, Hpay⟩
  ihave Hp := (Entails.of_eq (rest_x A c t k)) $$ Hpay
  imod (Rounds.cell_close ER (Rd A) (Set.mem_univ (K (c, some (t, k)))) (fun h => h) (R := 0 + 1) (duties_later A (cellOf c (some (t, k))))) $$ [Hat] with Hz
  · isplitr; · iapply (records_inv A K c (some (t, k))); iexact HR
    iexact Hat
  iapply Hk
  isplitl [Hp]; · iexact Hp
  isplitl [Hz]; · iexact Hz
  iexists _; iexact HO

/-! ## Adding what landed, and copying the sums out -/

theorem rM_read (k : Fin 9) (c : Dev nD) (f : Bf (F := F) c (rM k)) (w : FVec F (shp k) .bf16) (inb : ∀ a, (![0, 0] : Fin 2 → ℕ) a + (shp k).size a ≤ (shp k).size a) :
    (rM k).view.readAt (Elt F) (Rect.unit (s := shp k) ![0, 0] (shp k).size inb).toLoadRect ((rM k).view.write (Elt F) f w Finset.univ) = w := by
  have hz : (![0, 0] : Fin 2 → ℕ) = fun _ => 0 := funext fun a => by fin_cases a <;> rfl
  fin_cases k <;> exact (Memref.readAt_unit_zero (Elt F) _ hz _ _).trans (View.write_whole_univ _ _ _)

theorem setOn_rows (k : Fin 9) (lo : ℕ) (h : lo + ln k ≤ 1024) : aM.view.setOn (rowRect k lo h).set ⊆ rows lo (ln k) := by
  rw [rect_rows]; intro i hi; obtain ⟨x, hx, rfl⟩ := Finset.mem_map.mp hi; exact hx
theorem setOn_rows_o (k : Fin 9) (lo : ℕ) (h : lo + ln k ≤ 1024) : oM.view.setOn (rowRect k lo h).set ⊆ rows lo (ln k) := by
  rw [rect_rows]; intro i hi; obtain ⟨x, hx, rfl⟩ := Finset.mem_map.mp hi; exact hx

theorem mem_emb (k : Fin 9) (lo : ℕ) (h : lo + ln k ≤ 1024) {i : S1024x1024.Idx} (hi : i ∈ rows lo (ln k)) : ∃ x, (rowRect k lo h).emb x = i := by
  rw [← rect_rows k lo h, ← Rect.map_emb_univ] at hi
  obtain ⟨x, -, e⟩ := Finset.mem_map.mp hi
  exact ⟨x, e⟩

/-- The addition of step `k`: the kept rows plus what landed. -/
theorem wp_rs_add (k : Fin 9) (c : Dev nD) {off : Fin 2 → ℕ} (hoff : off = ![keepLo k c, 0])
    {inb : ∀ a, off a + (shp k).size a ≤ S1024x1024.size a} {inb0 : ∀ a, (![0, 0] : Fin 2 → ℕ) a + (shp k).size a ≤ (shp k).size a}
    (P : FVec F (shp k) .bf16 → FVec F (shp k) .bf16 → FVec F (shp k) .bf16) (hP : ∀ v w, P v w = addf v w)
    {h₁ h₂ h₃ h₄ h₅}
    {α : Type} {Q : α → sProp (MM F)} {κ : PUnit → Prog (TpuEff nD τ sig (Elt F) Λ₀ .tc) α} :
    iprop(aRows c (keepLo k c) (ln k) (Vk A k c) ∗ rHas k c (landed A k c))
      ⊢ iprop(((aRows c (keepLo k c) (ln k) (Va A k c) ∗ rHas k c (landed A k c)) -∗ wpc c (κ ⟨⟩) Q)
          -∗ wpc c (.op (.load (aM : Memref sig .tc .vmem S1024x1024 .bf16) (Rect.unit (s := S1024x1024) off (shp k).size inb).toLoadRect h₁) fun (v : (shp k).Idx → Elt F .bf16) =>
              .op (.load (rM k : Memref sig .tc .vmem (shp k) .bf16) (Rect.unit (s := shp k) ![0, 0] (shp k).size inb0).toLoadRect h₂) fun (w : (shp k).Idx → Elt F .bf16) =>
              .op (.load (aM : Memref sig .tc .vmem S1024x1024 .bf16) (Rect.unit (s := S1024x1024) off (shp k).size inb).toLoadRect h₃) fun _ =>
              .op (.store aM (Rect.unit (s := S1024x1024) off (shp k).size inb) (P v w) Finset.univ h₄ h₅) κ) Q) := by
  subst hoff
  unfold rHas rPts aRows
  iintro ⟨Ha, ⟨%f, Hr⟩⟩ Hk
  iapply (wp_load 𝒱₀ (c : Thread nD τ) none Set.univ (m := aM) (setOn_rows k _ (keepLo_le k c))) $$ Ha; iintro Ha
  iapply (wp_load 𝒱₀ (c : Thread nD τ) none Set.univ (m := rM k) (View.setOn_subset_set _ _)) $$ Hr; iintro Hr
  rw [rM_read]
  iapply (wp_load 𝒱₀ (c : Thread nD τ) none Set.univ (m := aM) (setOn_rows k _ (keepLo_le k c))) $$ Ha; iintro Ha
  iapply (wp_store 𝒱₀ (c : Thread nD τ) none Set.univ (m := aM) (r := rowRect k _ (keepLo_le k c)) (Mk := Finset.univ)
    (subset_of_eq (aM_set k _ (keepLo_le k c)))) $$ Ha; iintro Ha
  iapply Hk
  isplitl [Ha]
  · have e : ((aM.access (rowRect k _ (keepLo_le k c))).loc (c : Thread nD τ) ↦[rows (keepLo k c) (ln k)]{fullShare}
          ((aM.access (rowRect k _ (keepLo_le k c))).write (Elt F) (Vk A k c : Bf (F := F) c aM) (P (aM.view.readAt (Elt F) (rowRect k _ (keepLo_le k c)).toLoadRect (Vk A k c : Bf (F := F) c aM)) (landed A k c)) Finset.univ) : sProp (MM F))
        = (aM.view.loc (c : Thread nD τ) ↦[rows (keepLo k c) (ln k)]{fullShare} (Va A k c : Bf (F := F) c aM)) := pointsTo_congr fun i hi => by
      obtain ⟨x, rfl⟩ := mem_emb k _ (keepLo_le k c) hi
      rw [show ((aM.access (rowRect k _ (keepLo_le k c))).write (Elt F) (Vk A k c : Bf (F := F) c aM) (P (aM.view.readAt (Elt F) (rowRect k _ (keepLo_le k c)).toLoadRect (Vk A k c : Bf (F := F) c aM)) (landed A k c)) Finset.univ)
          ((rowRect k _ (keepLo_le k c)).emb x) = P (aM.view.readAt (Elt F) (rowRect k _ (keepLo_le k c)).toLoadRect (Vk A k c : Bf (F := F) c aM)) (landed A k c) x from
        View.write_emb_of_mem (v := aM.access (rowRect k _ (keepLo_le k c))) _ _ (Finset.mem_univ x), hP, Va_eq]
      rfl
    ihave H := (Entails.of_eq e) $$ Ha
    iexact H
  iexists f; iexact Hr

theorem band_last : ∀ p : Fin 3, band (stp p 2) = p := by decide
theorem rnd_last : ∀ p : Fin 3, (rnd (stp p 2)).val + 1 = 3 := by decide

/-- The kept rows of a band's last step, copied to the result. -/
theorem wp_out (p : Fin 3) (k : Fin 9) (hk : k = stp p 2) (c : Dev nD) {off : Fin 2 → ℕ} (hoff : off = ![keepLo k c, 0])
    {inb : ∀ a, off a + (shp k).size a ≤ S1024x1024.size a}
    {h₁ h₃ h₄ h₅}
    {α : Type} {Q : α → sProp (MM F)} {κ : PUnit → Prog (TpuEff nD τ sig (Elt F) Λ₀ .tc) α} :
    iprop(aRows c (keepLo k c) (ln k) (Va A k c) ∗ ∃ f, oRows c (keepLo k c) (ln k) f)
      ⊢ iprop(((aRows c (keepLo k c) (ln k) (Va A k c) ∗ oRows c (keepLo k c) (ln k) (FIN A)) -∗ wpc c (κ ⟨⟩) Q)
          -∗ wpc c (.op (.load (aM : Memref sig .tc .vmem S1024x1024 .bf16) (Rect.unit (s := S1024x1024) off (shp k).size inb).toLoadRect h₁) fun v =>
              .op (.load oM (Rect.unit (s := S1024x1024) off (shp k).size inb).toLoadRect h₃) fun _ =>
              .op (.store oM (Rect.unit (s := S1024x1024) off (shp k).size inb) v Finset.univ h₄ h₅) κ) Q) := by
  subst hoff
  unfold aRows oRows
  iintro ⟨Ha, ⟨%f, Ho⟩⟩ Hk
  iapply (wp_load 𝒱₀ (c : Thread nD τ) none Set.univ (m := aM) (setOn_rows k _ (keepLo_le k c))) $$ Ha; iintro Ha
  iapply (wp_load 𝒱₀ (c : Thread nD τ) none Set.univ (m := oM) (setOn_rows_o k _ (keepLo_le k c))) $$ Ho; iintro Ho
  iapply (wp_store 𝒱₀ (c : Thread nD τ) none Set.univ (m := oM) (r := rowRect k _ (keepLo_le k c)) (Mk := Finset.univ)
    (subset_of_eq (oM_set k _ (keepLo_le k c)))) $$ Ho; iintro Ho
  iapply Hk
  isplitl [Ha]; · iexact Ha
  have e : ((oM.access (rowRect k _ (keepLo_le k c))).loc (c : Thread nD τ) ↦[rows (keepLo k c) (ln k)]{fullShare}
        ((oM.access (rowRect k _ (keepLo_le k c))).write (Elt F) (f : Bf (F := F) c oM) (aM.view.readAt (Elt F) (rowRect k _ (keepLo_le k c)).toLoadRect (Va A k c)) Finset.univ) : sProp (MM F))
      = (oM.view.loc (c : Thread nD τ) ↦[rows (keepLo k c) (ln k)]{fullShare} (FIN A : Bf (F := F) c oM)) := pointsTo_congr fun i hi => by
    have hi' := hi
    obtain ⟨x, rfl⟩ := mem_emb k _ (keepLo_le k c) hi
    rw [show ((oM.access (rowRect k _ (keepLo_le k c))).write (Elt F) (f : Bf (F := F) c oM) (aM.view.readAt (Elt F) (rowRect k _ (keepLo_le k c)).toLoadRect (Va A k c)) Finset.univ)
        ((rowRect k _ (keepLo_le k c)).emb x) = rowVal k _ (keepLo_le k c) (Va A k c) x from
      View.write_emb_of_mem (v := oM.access (rowRect k _ (keepLo_le k c))) _ _ (Finset.mem_univ x)]
    subst hk
    rw [← FIN_keep A p c _ hi']
    have hb := band_last p
    have hr := rnd_last p
    unfold rowVal Va; rw [hb, hr]
  ihave H := (Entails.of_eq e) $$ Ho
  iexact H

end Cert.KProof

end
-- ==== Proof.Exchange.lean ====
/-
The exchange, one whole step at a time: a step's copy out of the acc rows, and the two waits with the addition; an
all-gather copy, and its two waits. With each, the rows a step leaves are cut into the rows the next one sends and keeps.
-/
module

public import proofs.«01_k».proof.Proof.Steps

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (A : Dev nD → FVec F S1024x1024 .bf16) (K : Dev nD × CK → ℕ)

/-- The records every step reads. -/
def ctx : sProp (MM F) := iprop(records A K ∗ levAts L lv)
instance ctx_persistent : BI.Persistent (ctx A K) := by unfold ctx; infer_instance

/-- Half a step (`t = 0` reduce-scatter, `t = 2` all-gather) before its copy, but for the copy's destination; -/
def half (t t' : Fin 4) (k : Fin 9) (c : Dev nD) : sProp (MM F) :=
  iprop(atPos ER (cellOf c (some (t, k))) 0 ∅ 0 ∗ atPos ER (cellOf c (some (t', k))) 0 ∅ 0 ∗ cred (tallyAt (cellOf c (some (t', k))) true (amt k)))
/-- the reduce-scatter step before its copy; -/
def pre (k : Fin 9) (c : Dev nD) : sProp (MM F) := iprop(toks 0 1 k c ∗ (∃ f, rPts k (par k c) f) ∗ half 0 1 k c)
/-- the all-gather step before its copy; -/
def preG (k : Fin 9) (c : Dev nD) : sProp (MM F) := iprop(toks 2 3 k c ∗ (∃ f, oRows (par k c) (keepLo k c) (ln k) f) ∗ half 2 3 k c)
/-- either, between copy and waits; -/
def mid (t t' : Fin 4) (k : Fin 9) (c : Dev nD) : sProp (MM F) := iprop(cred (tallyAt (cellOf c (some (t, k))) true (amt k)) ∗ half t t' k c)
/-- and its closed cells. -/
def post (t t' : Fin 4) (k : Fin 9) (c : Dev nD) : sProp (MM F) := iprop(semVal (cellOf c (some (t, k))) 0 ∗ semVal (cellOf c (some (t', k))) 0)

/-- The credit of a copy of `ln k` rows of a 1024-row buffer. -/
theorem credit_slice (M : Memref sig .tc .vmem S1024x1024 .bf16) (k : Fin 9) {off : Fin 2 → ℕ}
    (inb : ∀ a, off a + (shp k).size a ≤ S1024x1024.size a) (hst) :
    (M.slice (Rect.unit (s := S1024x1024) off (shp k).size inb) hst).view.dmaCredit = amt k := by
  show RefSig.tileCredit (shp k) .bf16 = RefSig.tileCredit (shp k) .bf16
  rfl

theorem rs_send (k : Fin 9) (c n : Dev nD) (hn : n = par k c) {off : Fin 2 → ℕ} (hoff : off = ![sendLo k c, 0])
    {inb : ∀ a, off a + (shp k).size a ≤ S1024x1024.size a} {hst} {sS sR : DmaSem sig} (hS : sS = xS 0 k) (hR : sR = xS 1 k)
    {hsc : (rM k).view.ref.isScScratch = false}
    {hsrc : (aM.slice (Rect.unit (s := S1024x1024) off (shp k).size inb) hst).view.WordExact} {hdst : (rM k).view.WordExact}
    {hsem : DmaTarget.Typed .vmem (.dma sR) (.remote (Dev.tc n : Thread nD τ) (rM k : Memref sig (Dev.tc n : Thread nD τ).2.kind .vmem (shp k) .bf16) (.dma sS) hsc)}
    {α : Type} {Q : α → sProp (MM F)} {κ : PUnit → Prog (TpuEff nD τ sig (Elt F) Λ₀ .tc) α}
    (m : ℕ) (hO : Ow c m = Ow c (m + 1) + tallyAt (cellOf (par k c) (some (1, k))) true (amt k)) :
    iprop(ctx A K ∗ aRows c (sendLo k c) (ln k) (Vk A k c) ∗ pre k c ∗ owesE c (Ow c m))
      ⊢ iprop(((mid 0 1 k c ∗ owesE c (Ow c (m + 1))) -∗ wpc c (κ ⟨⟩) Q)
          -∗ wpc c (.op (.enqueueDma (aM.slice (Rect.unit (s := S1024x1024) off (shp k).size inb) hst)
              (.remote (Dev.tc n : Thread nD τ) (rM k : Memref sig (Dev.tc n : Thread nD τ).2.kind .vmem (shp k) .bf16) (.dma sS) hsc) (.dma sR) hsrc hdst hsem) κ) Q) := by
  unfold ctx pre mid
  iintro ⟨⟨#HR, -⟩, Ha, ⟨Ht, Hr, Hh⟩, HO⟩ Hk
  iapply (wp_rs_send A K k c n hn hoff hS hR _ _ hO) $$ [Ha Hr HO Ht]
  · isplitr; · iexact HR
    isplitl [Ha]; · iexact Ha
    isplitl [Hr]; · iexact Hr
    isplitl [HO]; · iexact HO
    iexact Ht
  iintro ⟨Hc, HO⟩
  iapply Hk
  isplitl [Hc Hh]
  · isplitl [Hc]; · iexact Hc
    iexact Hh
  iexact HO

theorem ag_send (k : Fin 9) (c n : Dev nD) (hn : n = par k c) {off : Fin 2 → ℕ} (hoff : off = ![keepLo k c, 0])
    {inb inb' : ∀ a, off a + (shp k).size a ≤ S1024x1024.size a} {hst hst'} {sS sR : DmaSem sig} (hS : sS = xS 2 k) (hR : sR = xS 3 k)
    {hsc : (oM.slice (Rect.unit (s := S1024x1024) off (shp k).size inb') hst').view.ref.isScScratch = false}
    {hsrc : (oM.slice (Rect.unit (s := S1024x1024) off (shp k).size inb) hst).view.WordExact}
    {hdst : (oM.slice (Rect.unit (s := S1024x1024) off (shp k).size inb') hst').view.WordExact}
    {hsem : DmaTarget.Typed .vmem (.dma sR) (.remote (Dev.tc n : Thread nD τ)
      (oM.slice (Rect.unit (s := S1024x1024) off (shp k).size inb') hst' : Memref sig (Dev.tc n : Thread nD τ).2.kind .vmem (shp k) .bf16) (.dma sS) hsc)}
    {α : Type} {Q : α → sProp (MM F)} {κ : PUnit → Prog (TpuEff nD τ sig (Elt F) Λ₀ .tc) α}
    (m : ℕ) (hO : Ow c m = Ow c (m + 1) + tallyAt (cellOf (par k c) (some (3, k))) true (amt k)) :
    iprop(ctx A K ∗ oRows c (keepLo k c) (ln k) (FIN A) ∗ preG k c ∗ owesE c (Ow c m))
      ⊢ iprop(((mid 2 3 k c ∗ owesE c (Ow c (m + 1))) -∗ wpc c (κ ⟨⟩) Q)
          -∗ wpc c (.op (.enqueueDma (oM.slice (Rect.unit (s := S1024x1024) off (shp k).size inb) hst)
              (.remote (Dev.tc n : Thread nD τ) (oM.slice (Rect.unit (s := S1024x1024) off (shp k).size inb') hst' : Memref sig (Dev.tc n : Thread nD τ).2.kind .vmem (shp k) .bf16)
                (.dma sS) hsc) (.dma sR) hsrc hdst hsem) κ) Q) := by
  unfold ctx preG mid
  iintro ⟨⟨#HR, -⟩, Ha, ⟨Ht, Hr, Hh⟩, HO⟩ Hk
  iapply (wp_ag_send A K k c n hn hoff hS hR (credit_slice oM k _ _).symm _ _ hO) $$ [Ha Hr HO Ht]
  · isplitr; · iexact HR
    isplitl [Ha]; · iexact Ha
    isplitl [Hr]; · iexact Hr
    isplitl [HO]; · iexact HO
    iexact Ht
  iintro ⟨Hc, HO⟩
  iapply Hk
  isplitl [Hc Hh]
  · isplitl [Hc]; · iexact Hc
    iexact Hh
  iexact HO

/-- The two waits of a step. -/
theorem two_waits (t t' : Fin 4) (k : Fin 9) (c : Dev nD) {s s' : DmaSem sig} (hs : s = xS t k) (hs' : s' = xS t' k)
    {sp₁ sp₂ sp₃ sp₄ : Space} {S S' : Shape} {e e' : EltTy}
    {src : Memref sig .tc sp₁ S e} {dst : Memref sig .tc sp₂ S e} {h₁ : src.view.WordExact} {h₂ : dst.view.WordExact}
    {src' : Memref sig .tc sp₃ S' e'} {dst' : Memref sig .tc sp₄ S' e'} {h₁' : src'.view.WordExact} {h₂' : dst'.view.WordExact}
    (hN : dst.view.dmaCredit = amt k) (hN' : dst'.view.dmaCredit = amt k)
    (n : ℕ) (hlev : ((sends.drop n).map Prod.snd).all (fun y => decide (ckLev (some (t, k)) < ckLev y)) = true)
    (hlev' : ((sends.drop n).map Prod.snd).all (fun y => decide (ckLev (some (t', k)) < ckLev y)) = true)
    {α : Type} {Q : α → sProp (MM F)} {κ : PUnit → Prog (TpuEff nD τ sig (Elt F) Λ₀ .tc) α} :
    iprop(ctx A K ∗ mid t t' k c ∗ owesE c (Ow c n))
      ⊢ iprop(((xPay A t k c ∗ xPay A t' k c ∗ post t t' k c ∗ owesE c (Ow c n)) -∗ wpc c (κ ⟨⟩) Q)
          -∗ wpc c (.op (.waitDma2 s src dst h₁ h₂) fun _ => .op (.waitDma2 s' src' dst' h₁' h₂') κ) Q) := by
  unfold ctx mid half post
  iintro ⟨⟨#HR, #HL⟩, ⟨Hc, Hp, Hp', Hc'⟩, HO⟩ Hk
  iapply (wp_x_wait A K t k c hs hN n hlev) $$ [Hc Hp HO]
  · isplitr; · iexact HR
    isplitr; · iexact HL
    isplitl [Hc]; · iexact Hc
    isplitl [Hp]; · iexact Hp
    iexact HO
  iintro ⟨Hx, Hz, HO⟩
  iapply (wp_x_wait A K t' k c hs' hN' n hlev') $$ [Hc' Hp' HO]
  · isplitr; · iexact HR
    isplitr; · iexact HL
    isplitl [Hc']; · iexact Hc'
    isplitl [Hp']; · iexact Hp'
    iexact HO
  iintro ⟨Hx', Hz', HO⟩
  iapply Hk
  isplitl [Hx]; · iexact Hx
  isplitl [Hx']; · iexact Hx'
  isplitl [Hz Hz']
  · isplitl [Hz]; · iexact Hz
    iexact Hz'
  iexact HO

/-- What a reduce-scatter step leaves behind: the rows it sent, its landing buffer, its closed cells. -/
def left (k : Fin 9) (c : Dev nD) : sProp (MM F) := iprop(aRows c (sendLo k c) (ln k) (Vk A k c) ∗ rHas k c (landed A k c) ∗ post 0 1 k c)

/-- A reduce-scatter step after its copy: the two waits and the addition. -/
theorem rs_done (k : Fin 9) (c : Dev nD) {s s' : DmaSem sig} (hs : s = xS 0 k) (hs' : s' = xS 1 k)
    {offw offw' : Fin 2 → ℕ} {inbw : ∀ a, offw a + (shp k).size a ≤ S1024x1024.size a} {hstw}
    {inbw' : ∀ a, offw' a + (shp k).size a ≤ S1024x1024.size a} {hstw'} {hw₁ hw₂ hw₁' hw₂'}
    (n : ℕ) (hlev : ((sends.drop n).map Prod.snd).all (fun y => decide (ckLev (some (0, k)) < ckLev y)) = true)
    (hlev' : ((sends.drop n).map Prod.snd).all (fun y => decide (ckLev (some (1, k)) < ckLev y)) = true)
    {off : Fin 2 → ℕ} (hoff : off = ![keepLo k c, 0])
    {inb : ∀ a, off a + (shp k).size a ≤ S1024x1024.size a} {inb0 : ∀ a, (![0, 0] : Fin 2 → ℕ) a + (shp k).size a ≤ (shp k).size a}
    (P : FVec F (shp k) .bf16 → FVec F (shp k) .bf16 → FVec F (shp k) .bf16) (hP : ∀ v w, P v w = addf v w)
    {h₁ h₂ h₃ h₄ h₅}
    {α : Type} {Q : α → sProp (MM F)} {κ : PUnit → Prog (TpuEff nD τ sig (Elt F) Λ₀ .tc) α} :
    iprop(ctx A K ∗ mid 0 1 k c ∗ aRows c (keepLo k c) (ln k) (Vk A k c) ∗ owesE c (Ow c n))
      ⊢ iprop(((aRows c (keepLo k c) (ln k) (Va A k c) ∗ left A k c ∗ owesE c (Ow c n)) -∗ wpc c (κ ⟨⟩) Q)
          -∗ wpc c (.op (.waitDma2 s (rM k) (aM.slice (Rect.unit (s := S1024x1024) offw (shp k).size inbw) hstw) hw₁ hw₂) fun _ => .op (.waitDma2 s' (aM.slice (Rect.unit (s := S1024x1024) offw' (shp k).size inbw') hstw') (rM k) hw₁' hw₂') fun _ =>
              .op (.load (aM : Memref sig .tc .vmem S1024x1024 .bf16) (Rect.unit (s := S1024x1024) off (shp k).size inb).toLoadRect h₁) fun (v : (shp k).Idx → Elt F .bf16) =>
              .op (.load (rM k : Memref sig .tc .vmem (shp k) .bf16) (Rect.unit (s := shp k) ![0, 0] (shp k).size inb0).toLoadRect h₂) fun (w : (shp k).Idx → Elt F .bf16) =>
              .op (.load (aM : Memref sig .tc .vmem S1024x1024 .bf16) (Rect.unit (s := S1024x1024) off (shp k).size inb).toLoadRect h₃) fun _ =>
              .op (.store aM (Rect.unit (s := S1024x1024) off (shp k).size inb) (P v w) Finset.univ h₄ h₅) κ) Q) := by
  unfold left
  iintro ⟨#HC, Hm, Ha, HO⟩ Hk
  iapply (two_waits A K 0 1 k c hs hs' (credit_slice aM k _ _) rfl n hlev hlev') $$ [Hm HO]
  · isplitr; · iexact HC
    isplitl [Hm]; · iexact Hm
    iexact HO
  iintro ⟨Hs, Hr, Hz, HO⟩
  ihave Hs := (show xPay A 0 k c ⊢ aRows c (sendLo k c) (ln k) (Vk A k c) from BIBase.Entails.rfl) $$ Hs
  ihave Hr := (show xPay A 1 k c ⊢ rHas k c (landed A k c) from BIBase.Entails.rfl) $$ Hr
  iapply (wp_rs_add A k c hoff P hP) $$ [Ha Hr]
  · isplitl [Ha]; · iexact Ha
    iexact Hr
  iintro ⟨Ha, Hr⟩
  iapply Hk
  isplitl [Ha]; · iexact Ha
  isplitl [Hs Hr Hz]
  · isplitl [Hs]; · iexact Hs
    isplitl [Hr]; · iexact Hr
    iexact Hz
  iexact HO

/-- The first of a reduce-scatter step's waits by itself; -/
theorem rs_wait₀ (k : Fin 9) (c : Dev nD) {s : DmaSem sig} (hs : s = xS 0 k)
    {offw : Fin 2 → ℕ} {inbw : ∀ a, offw a + (shp k).size a ≤ S1024x1024.size a} {hstw} {hw₁ hw₂}
    (n : ℕ) (hlev : ((sends.drop n).map Prod.snd).all (fun y => decide (ckLev (some (0, k)) < ckLev y)) = true)
    {α : Type} {Q : α → sProp (MM F)} {κ : PUnit → Prog (TpuEff nD τ sig (Elt F) Λ₀ .tc) α} :
    iprop(ctx A K ∗ mid 0 1 k c ∗ owesE c (Ow c n))
      ⊢ iprop(((aRows c (sendLo k c) (ln k) (Vk A k c) ∗ semVal (cellOf c (some (0, k))) 0 ∗ atPos ER (cellOf c (some (1, k))) 0 ∅ 0
            ∗ cred (tallyAt (cellOf c (some (1, k))) true (amt k)) ∗ owesE c (Ow c n)) -∗ wpc c (κ ⟨⟩) Q)
          -∗ wpc c (.op (.waitDma2 s (rM k) (aM.slice (Rect.unit (s := S1024x1024) offw (shp k).size inbw) hstw) hw₁ hw₂) κ) Q) := by
  unfold ctx mid half
  iintro ⟨⟨#HR, #HL⟩, ⟨Hc, Hp, Hp', Hc'⟩, HO⟩ Hk
  iapply (wp_x_wait A K 0 k c hs (credit_slice aM k _ _) n hlev) $$ [$HR $HL $Hc $Hp $HO]
  iintro ⟨Hx, Hz, HO⟩
  iapply Hk
  isplitl [Hx]
  · ihave Hx := (show xPay A 0 k c ⊢ aRows c (sendLo k c) (ln k) (Vk A k c) from BIBase.Entails.rfl) $$ Hx
    iexact Hx
  iframe

/-- and the second. -/
theorem rs_wait₁ (k : Fin 9) (c : Dev nD) {s : DmaSem sig} (hs : s = xS 1 k)
    {offw : Fin 2 → ℕ} {inbw : ∀ a, offw a + (shp k).size a ≤ S1024x1024.size a} {hstw} {hw₁ hw₂}
    (n : ℕ) (hlev : ((sends.drop n).map Prod.snd).all (fun y => decide (ckLev (some (1, k)) < ckLev y)) = true)
    {α : Type} {Q : α → sProp (MM F)} {κ : PUnit → Prog (TpuEff nD τ sig (Elt F) Λ₀ .tc) α} :
    iprop(ctx A K ∗ (atPos ER (cellOf c (some (1, k))) 0 ∅ 0 ∗ cred (tallyAt (cellOf c (some (1, k))) true (amt k))) ∗ owesE c (Ow c n))
      ⊢ iprop(((rHas k c (landed A k c) ∗ semVal (cellOf c (some (1, k))) 0 ∗ owesE c (Ow c n)) -∗ wpc c (κ ⟨⟩) Q)
          -∗ wpc c (.op (.waitDma2 s (aM.slice (Rect.unit (s := S1024x1024) offw (shp k).size inbw) hstw) (rM k) hw₁ hw₂) κ) Q) := by
  unfold ctx
  iintro ⟨⟨#HR, #HL⟩, ⟨Hp, Hc⟩, HO⟩ Hk
  iapply (wp_x_wait A K 1 k c hs rfl n hlev) $$ [$HR $HL $Hc $Hp $HO]
  iintro ⟨Hx, Hz, HO⟩
  iapply Hk
  isplitl [Hx]
  · ihave Hx := (show xPay A 1 k c ⊢ rHas k c (landed A k c) from BIBase.Entails.rfl) $$ Hx
    iexact Hx
  iframe

/-- An all-gather step after its copy. -/
theorem ag_done (k : Fin 9) (c : Dev nD) {s s' : DmaSem sig} (hs : s = xS 2 k) (hs' : s' = xS 3 k)
    {off₁ off₂ off₃ off₄ : Fin 2 → ℕ} {inb₁ : ∀ a, off₁ a + (shp k).size a ≤ S1024x1024.size a} {hst₁}
    {inb₂ : ∀ a, off₂ a + (shp k).size a ≤ S1024x1024.size a} {hst₂}
    {inb₃ : ∀ a, off₃ a + (shp k).size a ≤ S1024x1024.size a} {hst₃}
    {inb₄ : ∀ a, off₄ a + (shp k).size a ≤ S1024x1024.size a} {hst₄} {hw₁ hw₂ hw₁' hw₂'}
    (n : ℕ) (hlev : ((sends.drop n).map Prod.snd).all (fun y => decide (ckLev (some (2, k)) < ckLev y)) = true)
    (hlev' : ((sends.drop n).map Prod.snd).all (fun y => decide (ckLev (some (3, k)) < ckLev y)) = true)
    {α : Type} {Q : α → sProp (MM F)} {κ : PUnit → Prog (TpuEff nD τ sig (Elt F) Λ₀ .tc) α} :
    iprop(ctx A K ∗ mid 2 3 k c ∗ owesE c (Ow c n))
      ⊢ iprop(((oRows c (curLo k c) (ln k + ln k) (FIN A) ∗ post 2 3 k c ∗ owesE c (Ow c n)) -∗ wpc c (κ ⟨⟩) Q)
          -∗ wpc c (.op (.waitDma2 s (oM.slice (Rect.unit (s := S1024x1024) off₁ (shp k).size inb₁) hst₁) (oM.slice (Rect.unit (s := S1024x1024) off₂ (shp k).size inb₂) hst₂) hw₁ hw₂) fun _ => .op (.waitDma2 s' (oM.slice (Rect.unit (s := S1024x1024) off₃ (shp k).size inb₃) hst₃) (oM.slice (Rect.unit (s := S1024x1024) off₄ (shp k).size inb₄) hst₄) hw₁' hw₂') κ) Q) := by
  iintro ⟨#HC, Hm, HO⟩ Hk
  iapply (two_waits A K 2 3 k c hs hs' (credit_slice oM k _ _) (credit_slice oM k _ _) n hlev hlev') $$ [Hm HO]
  · isplitr; · iexact HC
    isplitl [Hm]; · iexact Hm
    iexact HO
  iintro ⟨Hs, Hr, Hz, HO⟩
  ihave Hs := (show xPay A 2 k c ⊢ oRows c (keepLo k c) (ln k) (FIN A) from BIBase.Entails.rfl) $$ Hs
  ihave Hr := (show xPay A 3 k c ⊢ oRows c (sendLo k c) (ln k) (FIN A) from BIBase.Entails.rfl) $$ Hr
  iapply Hk
  isplitl [Hs Hr]
  · rw [oRows_split]
    rcases halves k c with ⟨e₁, e₂⟩ | ⟨e₁, e₂⟩
    · rw [e₁, e₂]
      isplitl [Hs]; · iexact Hs
      iexact Hr
    · rw [e₁, e₂]
      isplitl [Hr]; · iexact Hr
      iexact Hs
  isplitl [Hz]; · iexact Hz
  iexact HO

/-- Rows held before step `k`, cut into what it sends and what it keeps. -/
theorem a_cut (k : Fin 9) (c : Dev nD) (f : Bf (F := F) c aM) :
    aRows c (curLo k c) (ln k + ln k) f = iprop(aRows c (sendLo k c) (ln k) f ∗ aRows c (keepLo k c) (ln k) f) := by
  rw [aRows_split]
  rcases halves k c with ⟨e₁, e₂⟩ | ⟨e₁, e₂⟩ <;> rw [e₁, e₂]
  exact (Idealize.SL.BI.sep_comm).antisymm Idealize.SL.BI.sep_comm
theorem o_cut (k : Fin 9) (c : Dev nD) (f : Bf (F := F) c oM) :
    oRows c (curLo k c) (ln k + ln k) f = iprop(oRows c (sendLo k c) (ln k) f ∗ oRows c (keepLo k c) (ln k) f) := by
  rw [oRows_split]
  rcases halves k c with ⟨e₁, e₂⟩ | ⟨e₁, e₂⟩ <;> rw [e₁, e₂]
  exact (Idealize.SL.BI.sep_comm).antisymm Idealize.SL.BI.sep_comm

/-- What round `r` keeps, as the two halves of round `r + 1`. -/
theorem ln_half : ∀ p : Fin 3, ln (stp p 0) = ln (stp p 1) + ln (stp p 1) ∧ ln (stp p 1) = ln (stp p 2) + ln (stp p 2) := by decide
theorem a_next₀ (p : Fin 3) (k k' : Fin 9) (hk : k = stp p 0) (hk' : k' = stp p 1) (c : Dev nD) : aRows c (keepLo k c) (ln k) (Va A k c)
    = iprop(aRows c (sendLo k' c) (ln k') (Vk A k' c) ∗ aRows c (keepLo k' c) (ln k') (Vk A k' c)) := by
  subst hk hk'
  rw [← a_cut (stp p 1) c, curLo_one, ← (ln_half p).1, show Va A (stp p 0) c = Vk A (stp p 1) c from by fin_cases p <;> rfl]
theorem a_next₁ (p : Fin 3) (k k' : Fin 9) (hk : k = stp p 1) (hk' : k' = stp p 2) (c : Dev nD) : aRows c (keepLo k c) (ln k) (Va A k c)
    = iprop(aRows c (sendLo k' c) (ln k') (Vk A k' c) ∗ aRows c (keepLo k' c) (ln k') (Vk A k' c)) := by
  subst hk hk'
  rw [← a_cut (stp p 2) c, curLo_two, ← (ln_half p).2, show Va A (stp p 1) c = Vk A (stp p 2) c from by fin_cases p <;> rfl]
theorem o_next₀ (p : Fin 3) (k k' : Fin 9) (hk : k = stp p 0) (hk' : k' = stp p 1) (c : Dev nD) : oRows c (curLo k' c) (ln k' + ln k') (FIN A)
    = oRows c (keepLo k c) (ln k) (FIN A) := by
  subst hk hk'
  rw [curLo_one, ← (ln_half p).1]
theorem o_next₁ (p : Fin 3) (k k' : Fin 9) (hk : k = stp p 1) (hk' : k' = stp p 2) (c : Dev nD) : oRows c (curLo k' c) (ln k' + ln k') (FIN A)
    = oRows c (keepLo k c) (ln k) (FIN A) := by
  subst hk hk'
  rw [curLo_two, ← (ln_half p).2]

end Cert.KProof

end
-- ==== Proof.Cover.lean ====
/-
The rows of the partial result and of the result, taken apart for the exchange and put together after it.
-/
module

public import proofs.«01_k».proof.Proof.Exchange
public import Idealize.ShloMosaic.Lib.Pointwise.Reshape

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The rows of the three bands -/

theorem keep_first (p : Fin 3) (c : Dev nD) : keepLo (stp p 0) c = curLo (stp p 1) c := (curLo_one p c).symm
theorem keep_second (p : Fin 3) (c : Dev nD) : keepLo (stp p 1) c = curLo (stp p 2) c := (curLo_two p c).symm

/-- The result's rows of a band are those sent in its three rounds and those kept to the end. -/
theorem o_band (p : Fin 3) (k₀ k₁ k₂ : Fin 9) (h₀ : k₀ = stp p 0) (h₁ : k₁ = stp p 1) (h₂ : k₂ = stp p 2) (c : Dev nD) (g : FVec F S1024x1024 .bf16) :
    oRows c (base p) (ln k₀ + ln k₀) g
      = iprop(oRows c (sendLo k₀ c) (ln k₀) g ∗ oRows c (sendLo k₁ c) (ln k₁) g ∗ oRows c (sendLo k₂ c) (ln k₂) g ∗ oRows c (keepLo k₂ c) (ln k₂) g) := by
  subst h₀ h₁ h₂
  rw [← curLo_first p c, o_cut (stp p 0) c g, keep_first, (ln_half p).1, o_cut (stp p 1) c g, keep_second, (ln_half p).2, o_cut (stp p 2) c g]

/-- The whole result, as the rows of the bands. -/
theorem o_bands (c : Dev nD) (g : FVec F S1024x1024 .bf16) :
    pt c oM g = iprop(oRows c (base 0) (ln 0 + ln 0) g ∗ oRows c (base 1) (ln 3 + ln 3) g ∗ oRows c (base 2) (ln 6 + ln 6) g) := by
  rw [← oRows_all, show (1024 : ℕ) = (ln 0 + ln 0) + ((ln 3 + ln 3) + (ln 6 + ln 6)) from rfl, oRows_split c 0 (ln 0 + ln 0), oRows_split c (0 + (ln 0 + ln 0)) (ln 3 + ln 3)]
  rfl

/-- Before the kernel sends anything the result's rows are held apart, at any contents. -/
theorem o_open (c : Dev nD) : (iprop(∃ g, pt c oM g) : sProp (MM F)) ⊢ iprop(
    ((∃ f, oRows c (sendLo 0 c) (ln 0) f) ∗ (∃ f, oRows c (sendLo 1 c) (ln 1) f) ∗ (∃ f, oRows c (sendLo 2 c) (ln 2) f) ∗ (∃ f, oRows c (keepLo 2 c) (ln 2) f)) ∗ ((∃ f, oRows c (sendLo 3 c) (ln 3) f) ∗ (∃ f, oRows c (sendLo 4 c) (ln 4) f) ∗ (∃ f, oRows c (sendLo 5 c) (ln 5) f) ∗ (∃ f, oRows c (keepLo 5 c) (ln 5) f)) ∗ ((∃ f, oRows c (sendLo 6 c) (ln 6) f) ∗ (∃ f, oRows c (sendLo 7 c) (ln 7) f) ∗ (∃ f, oRows c (sendLo 8 c) (ln 8) f) ∗ (∃ f, oRows c (keepLo 8 c) (ln 8) f))) := by
  iintro ⟨%g, H⟩
  ihave H := (Entails.of_eq ((o_bands c g).trans (by rw [o_band 0 0 1 2 rfl rfl rfl c g, o_band 1 3 4 5 rfl rfl rfl c g, o_band 2 6 7 8 rfl rfl rfl c g]))) $$ H
  icases H with ⟨⟨a0, a1, a2, a3⟩, ⟨b0, b1, b2, b3⟩, c0, c1, c2, c3⟩
  isplitl [a0 a1 a2 a3]
  · isplitl [a0]; · iexists g; iexact a0
    isplitl [a1]; · iexists g; iexact a1
    isplitl [a2]; · iexists g; iexact a2
    iexists g; iexact a3
  isplitl [b0 b1 b2 b3]
  · isplitl [b0]; · iexists g; iexact b0
    isplitl [b1]; · iexists g; iexact b1
    isplitl [b2]; · iexists g; iexact b2
    iexists g; iexact b3
  isplitl [c0]; · iexists g; iexact c0
  isplitl [c1]; · iexists g; iexact c1
  isplitl [c2]; · iexists g; iexact c2
  iexists g; iexact c3

/-- After the last round they are held together, at the sums. -/
theorem o_close (A : Dev nD → FVec F S1024x1024 .bf16) (c : Dev nD) :
    iprop(oRows c (curLo 0 c) (ln 0 + ln 0) (FIN A) ∗ oRows c (curLo 3 c) (ln 3 + ln 3) (FIN A) ∗ oRows c (curLo 6 c) (ln 6 + ln 6) (FIN A)) ⊢ pt c oM (FIN A) := by
  rw [o_bands, show curLo 0 c = base 0 from curLo_first 0 c, show curLo 3 c = base 1 from curLo_first 1 c, show curLo 6 c = base 2 from curLo_first 2 c]

/-- The first half's rows hold band 0 and the beginning of band 1. -/
theorem a_open₀ (c : Dev nD) (f : FVec F S1024x1024 .bf16) :
    aRows c 0 512 f = iprop(aRows c (sendLo 0 c) (ln 0) f ∗ aRows c (keepLo 0 c) (ln 0) f ∗ aRows c 384 128 f) := by
  rw [show (512 : ℕ) = (ln 0 + ln 0) + 128 from rfl, aRows_split c 0, show aRows c 0 (ln 0 + ln 0) f = aRows c (curLo 0 c) (ln 0 + ln 0) f from by rw [show curLo 0 c = base 0 from curLo_first 0 c]; rfl, a_cut]
  rw [show aRows c (0 + (ln 0 + ln 0)) 128 f = aRows c 384 128 f from rfl]
  exact BI.equiv_iff.mp ⟨BI.sep_assoc, BI.sep_assoc'⟩

/-- The rest of it and the second half's are bands 1 and 2. -/
theorem a_open₁ (c : Dev nD) (f : FVec F S1024x1024 .bf16) :
    iprop(aRows c 384 128 f ∗ aRows c 512 512 f) = iprop((aRows c (sendLo 3 c) (ln 3) f ∗ aRows c (keepLo 3 c) (ln 3) f) ∗ (aRows c (sendLo 6 c) (ln 6) f ∗ aRows c (keepLo 6 c) (ln 6) f)) := by
  rw [show aRows c 512 512 f = aRows c (384 + 128) 512 f from rfl, ← aRows_split c 384 128 512, show (128 + 512 : ℕ) = (ln 3 + ln 3) + (ln 6 + ln 6) from rfl, aRows_split c 384,
    ← a_cut, ← a_cut, show curLo 3 c = base 1 from curLo_first 1 c, show curLo 6 c = base 2 from curLo_first 2 c]
  rfl

/-- Two halves of what a device holds, at any contents, are held together. -/
theorem a_join (k : Fin 9) (c : Dev nD) : (iprop((∃ f, aRows c (sendLo k c) (ln k) f) ∗ ∃ f, aRows c (keepLo k c) (ln k) f) : sProp (MM F)) ⊢ iprop(∃ f, aRows c (curLo k c) (ln k + ln k) f) := by
  rcases halves k c with ⟨e₁, e₂⟩ | ⟨e₁, e₂⟩ <;> rw [e₁, e₂]
  · iintro ⟨⟨%f, H⟩, ⟨%g, G⟩⟩
    iapply (aRows_join c (curLo k c) (ln k) (ln k) g f)
    isplitl [G]; · iexact G
    iexact H
  · iintro ⟨⟨%f, H⟩, ⟨%g, G⟩⟩
    iapply (aRows_join c (curLo k c) (ln k) (ln k) f g)
    isplitl [H]; · iexact H
    iexact G

/-- So are a band's. -/
theorem a_band (p : Fin 3) (k₀ k₁ k₂ : Fin 9) (h₀ : k₀ = stp p 0) (h₁ : k₁ = stp p 1) (h₂ : k₂ = stp p 2) (c : Dev nD) :
    (iprop((∃ f, aRows c (sendLo k₀ c) (ln k₀) f) ∗ (∃ f, aRows c (sendLo k₁ c) (ln k₁) f) ∗ (∃ f, aRows c (sendLo k₂ c) (ln k₂) f) ∗ (∃ f, aRows c (keepLo k₂ c) (ln k₂) f)) : sProp (MM F))
      ⊢ iprop(∃ f, aRows c (base p) (ln k₀ + ln k₀) f) := by
  subst h₀ h₁ h₂
  iintro ⟨H₀, H₁, H₂, H₃⟩
  ihave H := (a_join (stp p 2) c) $$ [H₂ H₃]
  · isplitl [H₂]; · iexact H₂
    iexact H₃
  rw [← (ln_half p).2, ← keep_second]
  ihave H := (a_join (stp p 1) c) $$ [H₁ H]
  · isplitl [H₁]; · iexact H₁
    iexact H
  rw [← (ln_half p).1, ← keep_first]
  ihave H := (a_join (stp p 0) c) $$ [H₀ H]
  · isplitl [H₀]; · iexact H₀
    iexact H
  rw [curLo_first]
  iexact H

/-- At the end the partial result's buffer is whole again. -/
theorem a_close (c : Dev nD) : (iprop((∃ f, aRows c (base 0) (ln 0 + ln 0) f) ∗ (∃ f, aRows c (base 1) (ln 3 + ln 3) f) ∗ (∃ f, aRows c (base 2) (ln 6 + ln 6) f)) : sProp (MM F))
    ⊢ iprop(∃ f, pt c aM f) := by
  iintro ⟨⟨%f, H⟩, ⟨%g, G⟩, ⟨%h, I⟩⟩
  ihave J := (aRows_join c 384 384 256 g h) $$ [G I]
  · isplitl [G]; · iexact G
    iexact I
  icases J with ⟨%j, J⟩
  ihave J := (aRows_join c 0 384 640 f j) $$ [H J]
  · isplitl [H]; · iexact H
    iexact J
  icases J with ⟨%j, J⟩
  iexists j
  ihave J := (Entails.of_eq (aRows_all c j)) $$ J
  iexact J

/-! ## What the barrier brings -/

/-- What the partner of a step gave is what the step's two copies need. -/
theorem give_par (k : Fin 9) (b : Fin 3) (h : dir k = b) (c : Dev nD) :
    give k (acr b c) ⊢ (iprop((∃ f, rPts k (par k c) f) ∗ ∃ f, oRows (par k c) (keepLo k c) (ln k) f) : sProp (MM F)) := by
  subst h
  unfold give
  rw [show sendLo k (acr (dir k) c) = keepLo k c from sendLo_par k c]
  exact Entails.refl _

theorem has_any (k : Fin 9) (c : Dev nD) (w : FVec F (shp k) .bf16) : rHas k c w ⊢ (iprop(∃ f, rPts k c f) : sProp (MM F)) := by
  unfold rHas
  iintro ⟨%f, H⟩
  iexists _; iexact H

end Cert.KProof

end
-- ==== Proof.Stretch.lean ====
/-
The body's first printed region, cut into stretches.

`k0_part68` runs the kernel up to the last reduce-scatter round. It is cut at the two places where the attention is
computed, so that each of those two long runs over the context scratch is proved by itself, over the buffers it touches.
-/
module

public import proofs.«01_k».proof.Proof.Gen.KernelIdeal
public import proofs.«01_k».proof.Proof.Gen.KernelIdeal.Skeleton
public import Idealize.ShloMosaic.Lib.Tactic.Stretches
public import Idealize.ShloMosaic.Lib.Tactic

@[expose] public section

noncomputable section

namespace Cert.KProof

open Cert.KernelIdeal Cert.KernelIdeal.Gen
open Idealize.ShloMosaic
open Idealize.SL.Sem

cut_chain st := k0_part68_skel at 2, 6, 13, 33, 34, 54

end Cert.KProof

end
-- ==== Proof.Args.lean ====
/-
The body's stretches on the buffers the launch gives it, and the body's remainder after its first printed region.
-/
module

public import proofs.«01_k».proof.Proof.Base
public import proofs.«01_k».proof.Proof.Stretch

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev xM : Memref sig .tc .vmem S1024x1024 .f32 := Memref.whole cc0_stg0_0
abbrev wqM : Memref sig .tc .vmem S1024x1024 .f32 := Memref.whole cc0_stg1_0
abbrev kM : Memref sig .tc .hbm S1x1024x64x128 .f32 := Memref.whole main_arg2
abbrev vM : Memref sig .tc .hbm S1x1024x64x128 .f32 := Memref.whole main_arg3
abbrev woM : Memref sig .tc .vmem S1024x1024 .f32 := Memref.whole cc0_stg2_0
/-- The attention's output. -/
abbrev cM : Memref sig .tc .vmem S1024x1024 .bf16 := Memref.whole cc0_scratch1
/-- The device's heads of the keys and of the values. -/
abbrev ksM : Memref sig .tc .vmem S8x1024x128 .f32 := Memref.whole cc0_scratch2
abbrev vsM : Memref sig .tc .vmem S8x1024x128 .f32 := Memref.whole cc0_scratch3

/-- The body after its first printed region: the last additions and the all-gather. -/
def rest (arg0 : Memref sig .tc .vmem S1024x1024 .f32) (harg0 : arg0.IsWhole) (arg1 : Memref sig .tc .vmem S1024x1024 .f32) (harg1 : arg1.IsWhole) (arg2 : Memref sig .tc .hbm S1x1024x64x128 .f32) (harg2 : arg2.IsWhole) (arg3 : Memref sig .tc .hbm S1x1024x64x128 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S8x1024x128 .f32) (harg8 : arg8.IsWhole) (arg9 : Memref sig .tc .vmem S8x1024x128 .f32) (harg9 : arg9.IsWhole) (arg10 : Memref sig .tc .vmem S192x1024 .bf16) (harg10 : arg10.IsWhole) (arg11 : Memref sig .tc .vmem S96x1024 .bf16) (harg11 : arg11.IsWhole) (arg12 : Memref sig .tc .vmem S48x1024 .bf16) (harg12 : arg12.IsWhole) (arg13 : Memref sig .tc .vmem S192x1024 .bf16) (harg13 : arg13.IsWhole) (arg14 : Memref sig .tc .vmem S96x1024 .bf16) (harg14 : arg14.IsWhole) (arg15 : Memref sig .tc .vmem S48x1024 .bf16) (harg15 : arg15.IsWhole) (arg16 : Memref sig .tc .vmem S128x1024 .bf16) (harg16 : arg16.IsWhole) (arg17 : Memref sig .tc .vmem S64x1024 .bf16) (harg17 : arg17.IsWhole) (arg18 : Memref sig .tc .vmem S32x1024 .bf16) (harg18 : arg18.IsWhole) (arg19 : DmaSems sig S8) (arg20 : DmaSems sig S8) (arg21 : DmaSems sig S9) (arg22 : DmaSems sig S9) (arg23 : DmaSems sig S9) (arg24 : DmaSems sig S9)
    (d0 : Dev nD) (v7 v13 v19 v25 v2220 v2250 v2280 : BitVec 32) :
    Prog (TpuEff nD τ sig (Elt F) Λ₀ .tc) PUnit := do
  let v2342 : BitVec 32 ← k0_part61 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 d0 v7 v19 v2220 v2250 v2280
  let ⟨v2343, v2359, v2375⟩ : Σ' (v2343 : BitVec 32) (v2359 : BitVec 32), BitVec 32 ← k0_part62 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 d0 v7 v13 v25 v2220 v2250 v2280 v2342
  k0_part63 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 d0 v7 v19 v25 v2343
  k0_part64 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 d0 v7 v13 v19 v25 v2359
  k0_part65 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 d0 v7 v13 v19 v2375
  let ⟨v2490, c0_i32_1208⟩ : Σ' (v2490 : BitVec 32), BitVec 32 ← k0_part66 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 d0 v13 v19 v25
  let v2518 : BitVec 32 ← k0_part67 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 d0 v13 v19 v25 v2490 c0_i32_1208
  let v2520 : DmaSems sig S1 := arg24.slice (Rect.unit (s := S9) ![3] S1.size inb_S9_S1_3)
  let v2521 : DmaSems sig S_ := v2520.squeeze S_ squeezes_S1_S_
  let v2522 : Memref sig .tc .vmem S192x1024 .bf16 := arg5.slice (Rect.unit (s := S1024x1024) (k0_off18 d0 384#32 1#32 2#32 0#32 0#32 2#32) S192x1024.size (k0_off18_inb d0 1)) (fun _ => rfl)
  let v2523 : Memref sig .tc .vmem S192x1024 .bf16 := arg5.slice (Rect.unit (s := S1024x1024) (k0_off18 d0 384#32 1#32 2#32 0#32 0#32 2#32) S192x1024.size (k0_off18_inb d0 1)) (fun _ => rfl)
  Prog.lift (.waitDma2 v2521.sem v2523 v2522 (harg5.wordExact_slice rfl _ (k0_off18_wordsbf16 d0 1)) (harg5.wordExact_slice rfl _ (k0_off18_wordsbf16 d0 1)))
  let v2524 : DmaSems sig S1 := arg23.slice (Rect.unit (s := S9) ![6] S1.size inb_S9_S1_6)
  let v2525 : DmaSems sig S_ := v2524.squeeze S_ squeezes_S1_S_
  let v2526 : Memref sig .tc .vmem S128x1024 .bf16 := arg5.slice (Rect.unit (s := S1024x1024) (k0_off19 d0) S128x1024.size (k0_off19_inb d0)) (fun _ => rfl)
  let v2527 : Memref sig .tc .vmem S128x1024 .bf16 := arg5.slice (Rect.unit (s := S1024x1024) (k0_off19 d0) S128x1024.size (k0_off19_inb d0)) (fun _ => rfl)
  Prog.lift (.waitDma2 v2525.sem v2527 v2526 (harg5.wordExact_slice rfl _ (k0_off19_wordsbf16 d0)) (harg5.wordExact_slice rfl _ (k0_off19_wordsbf16 d0)))
  let v2530 : DmaSems sig S1 := arg24.slice (Rect.unit (s := S9) ![6] S1.size inb_S9_S1_6)
  let v2531 : DmaSems sig S_ := v2530.squeeze S_ squeezes_S1_S_
  let v2532 : Memref sig .tc .vmem S128x1024 .bf16 := arg5.slice (Rect.unit (s := S1024x1024) (k0_off19 d0) S128x1024.size (k0_off19_inb d0)) (fun _ => rfl)
  let v2533 : Memref sig .tc .vmem S128x1024 .bf16 := arg5.slice (Rect.unit (s := S1024x1024) (k0_off19 d0) S128x1024.size (k0_off19_inb d0)) (fun _ => rfl)
  Prog.lift (.waitDma2 v2531.sem v2533 v2532 (harg5.wordExact_slice rfl _ (k0_off19_wordsbf16 d0)) (harg5.wordExact_slice rfl _ (k0_off19_wordsbf16 d0)))
  pure ⟨⟩

/-- The body is its first printed region and the remainder. -/
theorem body_eq (arg0 : Memref sig .tc .vmem S1024x1024 .f32) (harg0 : arg0.IsWhole) (arg1 : Memref sig .tc .vmem S1024x1024 .f32) (harg1 : arg1.IsWhole) (arg2 : Memref sig .tc .hbm S1x1024x64x128 .f32) (harg2 : arg2.IsWhole) (arg3 : Memref sig .tc .hbm S1x1024x64x128 .f32) (harg3 : arg3.IsWhole) (arg4 : Memref sig .tc .vmem S1024x1024 .f32) (harg4 : arg4.IsWhole) (arg5 : Memref sig .tc .vmem S1024x1024 .bf16) (harg5 : arg5.IsWhole) (arg6 : Memref sig .tc .vmem S1024x1024 .bf16) (harg6 : arg6.IsWhole) (arg7 : Memref sig .tc .vmem S1024x1024 .bf16) (harg7 : arg7.IsWhole) (arg8 : Memref sig .tc .vmem S8x1024x128 .f32) (harg8 : arg8.IsWhole) (arg9 : Memref sig .tc .vmem S8x1024x128 .f32) (harg9 : arg9.IsWhole) (arg10 : Memref sig .tc .vmem S192x1024 .bf16) (harg10 : arg10.IsWhole) (arg11 : Memref sig .tc .vmem S96x1024 .bf16) (harg11 : arg11.IsWhole) (arg12 : Memref sig .tc .vmem S48x1024 .bf16) (harg12 : arg12.IsWhole) (arg13 : Memref sig .tc .vmem S192x1024 .bf16) (harg13 : arg13.IsWhole) (arg14 : Memref sig .tc .vmem S96x1024 .bf16) (harg14 : arg14.IsWhole) (arg15 : Memref sig .tc .vmem S48x1024 .bf16) (harg15 : arg15.IsWhole) (arg16 : Memref sig .tc .vmem S128x1024 .bf16) (harg16 : arg16.IsWhole) (arg17 : Memref sig .tc .vmem S64x1024 .bf16) (harg17 : arg17.IsWhole) (arg18 : Memref sig .tc .vmem S32x1024 .bf16) (harg18 : arg18.IsWhole) (arg19 : DmaSems sig S8) (arg20 : DmaSems sig S8) (arg21 : DmaSems sig S9) (arg22 : DmaSems sig S9) (arg23 : DmaSems sig S9) (arg24 : DmaSems sig S9) :
    cc0__body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24
      = (k0_part68 arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 >>= fun x => rest arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 arg20 arg21 arg22 arg23 arg24 x.1 x.2.1 x.2.2.1 x.2.2.2.1 x.2.2.2.2.1 x.2.2.2.2.2.1 x.2.2.2.2.2.2.1 x.2.2.2.2.2.2.2) := rfl

/-- The remainder on the launch's buffers. -/
abbrev pRest (d0 : Dev nD) (v7 v13 v19 v25 v2220 v2250 v2280 : BitVec 32) : Prog (TpuEff nD τ sig (Elt F) Λ₀ .tc) PUnit :=
  rest xM (Memref.isWhole_whole _) wqM (Memref.isWhole_whole _) kM (Memref.isWhole_whole _) vM (Memref.isWhole_whole _) woM (Memref.isWhole_whole _) oM (Memref.isWhole_whole _) aM (Memref.isWhole_whole _) cM (Memref.isWhole_whole _) ksM (Memref.isWhole_whole _) vsM (Memref.isWhole_whole _) (rM 0) (Memref.isWhole_whole _) (rM 1) (Memref.isWhole_whole _) (rM 2) (Memref.isWhole_whole _) (rM 3) (Memref.isWhole_whole _) (rM 4) (Memref.isWhole_whole _) (rM 5) (Memref.isWhole_whole _) (rM 6) (Memref.isWhole_whole _) (rM 7) (Memref.isWhole_whole _) (rM 8) (Memref.isWhole_whole _) cc0_scratch13 cc0_scratch14 cc0_scratch15 cc0_scratch16 cc0_scratch17 cc0_scratch18 d0 v7 v13 v19 v25 v2220 v2250 v2280

/-- The device's place. -/
abbrev pst1  {R : Type} (κ : Dev nD → BitVec 32 → BitVec 32 → BitVec 32 → BitVec 32 → BitVec 32 → Prog (TpuEff nD τ sig (Elt F) Λ₀ .tc) R) : Prog (TpuEff nD τ sig (Elt F) Λ₀ .tc) R :=
  st1 xM (Memref.isWhole_whole _) wqM (Memref.isWhole_whole _) kM (Memref.isWhole_whole _) vM (Memref.isWhole_whole _) woM (Memref.isWhole_whole _) oM (Memref.isWhole_whole _) aM (Memref.isWhole_whole _) cM (Memref.isWhole_whole _) ksM (Memref.isWhole_whole _) vsM (Memref.isWhole_whole _) (rM 0) (Memref.isWhole_whole _) (rM 1) (Memref.isWhole_whole _) (rM 2) (Memref.isWhole_whole _) (rM 3) (Memref.isWhole_whole _) (rM 4) (Memref.isWhole_whole _) (rM 5) (Memref.isWhole_whole _) (rM 6) (Memref.isWhole_whole _) (rM 7) (Memref.isWhole_whole _) (rM 8) (Memref.isWhole_whole _) cc0_scratch13 cc0_scratch14 cc0_scratch15 cc0_scratch16 cc0_scratch17 cc0_scratch18  κ

/-- The copies of the keys and values, but for the last. -/
abbrev pst2 (d0 : Dev nD) (v26 : BitVec 32) {R : Type} (κ : Prog (TpuEff nD τ sig (Elt F) Λ₀ .tc) R) : Prog (TpuEff nD τ sig (Elt F) Λ₀ .tc) R :=
  st2 xM (Memref.isWhole_whole _) wqM (Memref.isWhole_whole _) kM (Memref.isWhole_whole _) vM (Memref.isWhole_whole _) woM (Memref.isWhole_whole _) oM (Memref.isWhole_whole _) aM (Memref.isWhole_whole _) cM (Memref.isWhole_whole _) ksM (Memref.isWhole_whole _) vsM (Memref.isWhole_whole _) (rM 0) (Memref.isWhole_whole _) (rM 1) (Memref.isWhole_whole _) (rM 2) (Memref.isWhole_whole _) (rM 3) (Memref.isWhole_whole _) (rM 4) (Memref.isWhole_whole _) (rM 5) (Memref.isWhole_whole _) (rM 6) (Memref.isWhole_whole _) (rM 7) (Memref.isWhole_whole _) (rM 8) (Memref.isWhole_whole _) cc0_scratch13 cc0_scratch14 cc0_scratch15 cc0_scratch16 cc0_scratch17 cc0_scratch18 d0 v26 κ

/-- The barrier, the projection, the keys and values read. -/
abbrev pst3 (d0 : Dev nD) (v13 v19 v25 : BitVec 32) {R : Type} (κ : FVec F S1024x1024 .f32 → FVec F S1024x1024 .bf16 → FVec F S8x256x128 .bf16 → FVec F S8x256x128 .bf16 → FVec F S8x256x128 .bf16 → FVec F S8x256x128 .bf16 → FVec F S8x256x128 .bf16 → FVec F S8x256x128 .bf16 → FVec F S8x256x128 .bf16 → FVec F S8x256x128 .bf16 → FVec F S128x1024 .f32 → FVec F S128x128 .bf16 → FVec F S256x128 .bf16 → FVec F S128x256 .f32 → Prog (TpuEff nD τ sig (Elt F) Λ₀ .tc) R) : Prog (TpuEff nD τ sig (Elt F) Λ₀ .tc) R :=
  st3 xM (Memref.isWhole_whole _) wqM (Memref.isWhole_whole _) kM (Memref.isWhole_whole _) vM (Memref.isWhole_whole _) woM (Memref.isWhole_whole _) oM (Memref.isWhole_whole _) aM (Memref.isWhole_whole _) cM (Memref.isWhole_whole _) ksM (Memref.isWhole_whole _) vsM (Memref.isWhole_whole _) (rM 0) (Memref.isWhole_whole _) (rM 1) (Memref.isWhole_whole _) (rM 2) (Memref.isWhole_whole _) (rM 3) (Memref.isWhole_whole _) (rM 4) (Memref.isWhole_whole _) (rM 5) (Memref.isWhole_whole _) (rM 6) (Memref.isWhole_whole _) (rM 7) (Memref.isWhole_whole _) (rM 8) (Memref.isWhole_whole _) cc0_scratch13 cc0_scratch14 cc0_scratch15 cc0_scratch16 cc0_scratch17 cc0_scratch18 d0 v13 v19 v25 κ

/-- The first copy out, and the first tile of the second half. -/
abbrev pst5 (d0 : Dev nD) (v7 v13 : BitVec 32) (v154 : FVec F S1024x1024 .f32) (v259 v283 : FVec F S8x256x128 .bf16) {R : Type} (κ : BitVec 32 → FVec F S128x1024 .f32 → FVec F S128x128 .bf16 → Prog (TpuEff nD τ sig (Elt F) Λ₀ .tc) R) : Prog (TpuEff nD τ sig (Elt F) Λ₀ .tc) R :=
  st5 xM (Memref.isWhole_whole _) wqM (Memref.isWhole_whole _) kM (Memref.isWhole_whole _) vM (Memref.isWhole_whole _) woM (Memref.isWhole_whole _) oM (Memref.isWhole_whole _) aM (Memref.isWhole_whole _) cM (Memref.isWhole_whole _) ksM (Memref.isWhole_whole _) vsM (Memref.isWhole_whole _) (rM 0) (Memref.isWhole_whole _) (rM 1) (Memref.isWhole_whole _) (rM 2) (Memref.isWhole_whole _) (rM 3) (Memref.isWhole_whole _) (rM 4) (Memref.isWhole_whole _) (rM 5) (Memref.isWhole_whole _) (rM 6) (Memref.isWhole_whole _) (rM 7) (Memref.isWhole_whole _) (rM 8) (Memref.isWhole_whole _) cc0_scratch13 cc0_scratch14 cc0_scratch15 cc0_scratch16 cc0_scratch17 cc0_scratch18 d0 v7 v13 v154 v259 v283 κ

/-- The first half of the attention. -/
abbrev pst4 (v154 : FVec F S1024x1024 .f32) (v157 : FVec F S1024x1024 .bf16) (v259 v265 v271 v277 v283 v289 v295 v301 : FVec F S8x256x128 .bf16) (v304 : FVec F S128x1024 .f32) (v306 : FVec F S128x128 .bf16) (v308 : FVec F S256x128 .bf16) (cst_346 : FVec F S128x256 .f32) {R : Type} (κ : Prog (TpuEff nD τ sig (Elt F) Λ₀ .tc) R) : Prog (TpuEff nD τ sig (Elt F) Λ₀ .tc) R :=
  st4 xM (Memref.isWhole_whole _) wqM (Memref.isWhole_whole _) kM (Memref.isWhole_whole _) vM (Memref.isWhole_whole _) woM (Memref.isWhole_whole _) oM (Memref.isWhole_whole _) aM (Memref.isWhole_whole _) cM (Memref.isWhole_whole _) ksM (Memref.isWhole_whole _) vsM (Memref.isWhole_whole _) (rM 0) (Memref.isWhole_whole _) (rM 1) (Memref.isWhole_whole _) (rM 2) (Memref.isWhole_whole _) (rM 3) (Memref.isWhole_whole _) (rM 4) (Memref.isWhole_whole _) (rM 5) (Memref.isWhole_whole _) (rM 6) (Memref.isWhole_whole _) (rM 7) (Memref.isWhole_whole _) (rM 8) (Memref.isWhole_whole _) cc0_scratch13 cc0_scratch14 cc0_scratch15 cc0_scratch16 cc0_scratch17 cc0_scratch18 v154 v157 v259 v265 v271 v277 v283 v289 v295 v301 v304 v306 v308 cst_346 κ

/-- The second half of the attention. -/
abbrev pst6 (v7 v19 : BitVec 32) (v154 : FVec F S1024x1024 .f32) (v157 : FVec F S1024x1024 .bf16) (v259 v265 v271 v277 v283 v289 v295 v301 : FVec F S8x256x128 .bf16) (v1200 : FVec F S128x1024 .f32) (v1219 : FVec F S128x128 .bf16) {R : Type} (κ : BitVec 32 → Prog (TpuEff nD τ sig (Elt F) Λ₀ .tc) R) : Prog (TpuEff nD τ sig (Elt F) Λ₀ .tc) R :=
  st6 xM (Memref.isWhole_whole _) wqM (Memref.isWhole_whole _) kM (Memref.isWhole_whole _) vM (Memref.isWhole_whole _) woM (Memref.isWhole_whole _) oM (Memref.isWhole_whole _) aM (Memref.isWhole_whole _) cM (Memref.isWhole_whole _) ksM (Memref.isWhole_whole _) vsM (Memref.isWhole_whole _) (rM 0) (Memref.isWhole_whole _) (rM 1) (Memref.isWhole_whole _) (rM 2) (Memref.isWhole_whole _) (rM 3) (Memref.isWhole_whole _) (rM 4) (Memref.isWhole_whole _) (rM 5) (Memref.isWhole_whole _) (rM 6) (Memref.isWhole_whole _) (rM 7) (Memref.isWhole_whole _) (rM 8) (Memref.isWhole_whole _) cc0_scratch13 cc0_scratch14 cc0_scratch15 cc0_scratch16 cc0_scratch17 cc0_scratch18 v7 v19 v154 v157 v259 v265 v271 v277 v283 v289 v295 v301 v1200 v1219 κ

/-- The reduce-scatter. -/
abbrev pst7 (d0 : Dev nD) (v7 v13 v19 v25 v1190 v2086 : BitVec 32) {R : Type} (κ : BitVec 32 → BitVec 32 → BitVec 32 → Prog (TpuEff nD τ sig (Elt F) Λ₀ .tc) R) : Prog (TpuEff nD τ sig (Elt F) Λ₀ .tc) R :=
  st7 xM (Memref.isWhole_whole _) wqM (Memref.isWhole_whole _) kM (Memref.isWhole_whole _) vM (Memref.isWhole_whole _) woM (Memref.isWhole_whole _) oM (Memref.isWhole_whole _) aM (Memref.isWhole_whole _) cM (Memref.isWhole_whole _) ksM (Memref.isWhole_whole _) vsM (Memref.isWhole_whole _) (rM 0) (Memref.isWhole_whole _) (rM 1) (Memref.isWhole_whole _) (rM 2) (Memref.isWhole_whole _) (rM 3) (Memref.isWhole_whole _) (rM 4) (Memref.isWhole_whole _) (rM 5) (Memref.isWhole_whole _) (rM 6) (Memref.isWhole_whole _) (rM 7) (Memref.isWhole_whole _) (rM 8) (Memref.isWhole_whole _) cc0_scratch13 cc0_scratch14 cc0_scratch15 cc0_scratch16 cc0_scratch17 cc0_scratch18 d0 v7 v13 v19 v25 v1190 v2086 κ

/-- The whole body on the launch's buffers. -/
abbrev pBody : Prog (TpuEff nD τ sig (Elt F) Λ₀ .tc) PUnit :=
  cc0__body xM (Memref.isWhole_whole _) wqM (Memref.isWhole_whole _) kM (Memref.isWhole_whole _) vM (Memref.isWhole_whole _) woM (Memref.isWhole_whole _) oM (Memref.isWhole_whole _) aM (Memref.isWhole_whole _) cM (Memref.isWhole_whole _) ksM (Memref.isWhole_whole _) vsM (Memref.isWhole_whole _) (rM 0) (Memref.isWhole_whole _) (rM 1) (Memref.isWhole_whole _) (rM 2) (Memref.isWhole_whole _) (rM 3) (Memref.isWhole_whole _) (rM 4) (Memref.isWhole_whole _) (rM 5) (Memref.isWhole_whole _) (rM 6) (Memref.isWhole_whole _) (rM 7) (Memref.isWhole_whole _) (rM 8) (Memref.isWhole_whole _) cc0_scratch13 cc0_scratch14 cc0_scratch15 cc0_scratch16 cc0_scratch17 cc0_scratch18

end Cert.KProof

end
-- ==== Proof.Contents.lean ====
/-
What a device computes before the exchange: its queries, its keys and values by residue class of their block of rows,
one head's attention over one class, the attention of all rows, and the device's own product with its rows of `Wo`.
-/
module

public import proofs.«01_k».proof.Proof.Exchange
public import proofs.«01_k».proof.Proof.Args
public import Idealize.ShloMosaic.Lib.Pointwise.Reshape

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Sixty-four rows of every slab, from row `o`. -/
def ld (s : FVec F S8x1024x128 .f32) (o : ℕ) (h : ∀ a, (![0, o, 0] : Fin 3 → ℕ) a + S8x64x128.size a ≤ S8x1024x128.size a) : Vec F S8x64x128 .f32 :=
  fun y => s ((Rect.unit (s := S8x1024x128) ![0, o, 0] S8x64x128.size h).emb y)

theorem ld_inb (cls j : Fin 4) : ∀ a, (![0, 64 * cls.val + 256 * j.val, 0] : Fin 3 → ℕ) a + S8x64x128.size a ≤ S8x1024x128.size a := by
  revert cls j; decide

/-- The rows of class `cls`: those whose block of sixty-four is `cls` modulo four. -/
def slabs (cls : Fin 4) (s : FVec F S8x1024x128 .f32) : FVec F S8x256x128 .bf16 :=
  truncf .bf16 (concatenate S8x256x128 1
    [⟨S8x64x128, ld s _ (ld_inb cls 0)⟩, ⟨S8x64x128, ld s _ (ld_inb cls 1)⟩, ⟨S8x64x128, ld s _ (ld_inb cls 2)⟩, ⟨S8x64x128, ld s _ (ld_inb cls 3)⟩]
    concatenates_S8x64x128_S8x64x128_S8x64x128_S8x64x128_S8x256x128_d1) bitsLt_bf16_f32

theorem q_slices (half : Fin 2) (cls : Fin 4) (part : Fin 2) :
    S1024x1024.Slices ![512 * half.val + 64 * cls.val + 256 * part.val, 0] S64x1024 := by
  revert half cls part; decide

/-- The query rows of class `cls` in one half of the rows. -/
def qrows (half : Fin 2) (cls : Fin 4) (q : FVec F S1024x1024 .f32) : FVec F S128x1024 .f32 :=
  concatenate S128x1024 0
    [⟨S64x1024, extractStridedSlice S64x1024 _ q (q_slices half cls 0)⟩, ⟨S64x1024, extractStridedSlice S64x1024 _ q (q_slices half cls 1)⟩]
    concatenates_S64x1024_S64x1024_S128x1024_d0

theorem qh_slices (h : Fin 8) : S128x1024.Slices ![0, 128 * h.val] S128x128 := by revert h; decide
theorem kh_slices (h : Fin 8) : S8x256x128.Slices ![h.val, 0, 0] S1x256x128 := by revert h; decide

/-- Head `h` of queries `qr` against the keys of a class: the scores, -/
def scores (h : Fin 8) (qr : FVec F S128x1024 .f32) (K : FVec F S8x256x128 .bf16) : FVec F S128x256 .f32 :=
  matmul dot_S128x128_S256x128_S128x256_1_1_0_0_n_n none (truncf .bf16 (extractStridedSlice S128x128 _ qr (qh_slices h)) bitsLt_bf16_f32)
    (shapeCast S256x128 (extractStridedSlice S1x256x128 _ K (kh_slices h)) shapeCasts_S1x256x128_S256x128) (constant S128x256 .f32 0x00000000#32)

/-- their exponentials, less the row's greatest, -/
def expo (s : FVec F S128x256 .f32) : FVec F S128x256 .f32 :=
  exp (subf s (broadcastTo S128x256 (shapeCast S128x1 (multiReduction .maximumf [1] S128 s 0xFF800000#32 reduces_S128x256_S128 (.inl rfl) rfl) shapeCasts_S128_S128x1)
    broadcasts_S128x1_S128x256))

/-- the weights, -/
def weights (e : FVec F S128x256 .f32) : FVec F S128x256 .f32 :=
  divf e (broadcastTo S128x256 (shapeCast S128x1 (multiReduction .add [1] S128 e 0x00000000#32 reduces_S128x256_S128 (.inl rfl) rfl) shapeCasts_S128_S128x1)
    broadcasts_S128x1_S128x256)

/-- and the weighted values. -/
def head (h : Fin 8) (qr : FVec F S128x1024 .f32) (K V : FVec F S8x256x128 .bf16) : FVec F S128x128 .bf16 :=
  truncf .bf16 (matmul dot_S128x256_S256x128_S128x128_1_0_0_1_n_n none (truncf .bf16 (weights (expo (scores h qr K))) bitsLt_bf16_f32)
    (shapeCast S256x128 (extractStridedSlice S1x256x128 _ V (kh_slices h)) shapeCasts_S1x256x128_S256x128) (constant S128x128 .f32 0x00000000#32)) bitsLt_bf16_f32

/-- The attention of every row: column block `h` is head `h`, and a row's keys are those of its class. -/
def attn (q : FVec F S1024x1024 .f32) (K V : Fin 4 → FVec F S8x256x128 .bf16) : FVec F S1024x1024 .bf16 := fun i =>
  head ⟨(i 1).val / 128, by have h : (i 1).val < 1024 := (i 1).isLt; omega⟩
    (qrows ⟨(i 0).val / 512, by have h : (i 0).val < 1024 := (i 0).isLt; omega⟩ ⟨(i 0).val % 256 / 64, by omega⟩ q)
    (K ⟨(i 0).val % 256 / 64, by omega⟩) (V ⟨(i 0).val % 256 / 64, by omega⟩)
    (ix2 (⟨(i 0).val / 256 % 2 * 64 + (i 0).val % 64, by omega⟩ : Fin 128) (⟨(i 1).val % 128, by omega⟩ : Fin 128))

theorem ctx_inb (half : Fin 2) : ∀ a, (![512 * half.val, 0] : Fin 2 → ℕ) a + S512x1024.size a ≤ S1024x1024.size a := by
  revert half; decide

/-- One half of the rows. -/
def halfRows (half : Fin 2) (t : FVec F S1024x1024 .bf16) : FVec F S512x1024 .bf16 :=
  fun y => t ((Rect.unit (s := S1024x1024) ![512 * half.val, 0] S512x1024.size (ctx_inb half)).emb y)

/-- The device's own product with its rows of `Wo`, half by half. -/
def accOf (t : FVec F S1024x1024 .bf16) (wo : FVec F S1024x1024 .bf16) : FVec F S1024x1024 .bf16 := fun i =>
  k0_pay133 wo (halfRows ⟨(i 0).val / 512, by have h : (i 0).val < 1024 := (i 0).isLt; omega⟩ t)
    (ix2 (⟨(i 0).val % 512, by omega⟩ : Fin 512) (i 1 : Fin 1024))

/-- What a device has to add, from its part of the inputs. -/
def ownSum (x wq wo : FVec F S1024x1024 .f32) (kx vx : FVec F S8x1024x128 .f32) : FVec F S1024x1024 .bf16 :=
  accOf (attn (k0_pay1 x wq) (fun cls => slabs cls kx) (fun cls => slabs cls vx)) (k0_pay2 wo)

end Cert.KProof

end
-- ==== Proof.Tiles.lean ====
/-
The tiles of the attention: what each store of a half writes, that together they are the attention's rows, and the half's
product with `Wo`.
-/
module

public import proofs.«01_k».proof.Proof.Exchange
public import proofs.«01_k».proof.Proof.Contents
public import proofs.«01_k».proof.Proof.Args
public import Idealize.ShloMosaic.Lib.Pointwise.Reshape

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem tile_inb (half : Fin 2) (cls : Fin 4) (h : Fin 8) (part : Fin 2) :
    ∀ a, (![512 * half.val + 64 * cls.val + 256 * part.val, 128 * h.val] : Fin 2 → ℕ) a + S64x128.size a ≤ S1024x1024.size a := by
  revert half cls h part; decide
theorem part_slices (part : Fin 2) : S128x128.Slices ![64 * part.val, 0] S64x128 := by revert part; decide

variable (q : FVec F S1024x1024 .f32) (wo : FVec F S1024x1024 .bf16) (K V : Fin 4 → FVec F S8x256x128 .bf16)

/-- Where a store goes: sixty-four query rows of one head; -/
abbrev tileRect (half : Fin 2) (cls : Fin 4) (h : Fin 8) (part : Fin 2) : Rect S1024x1024 :=
  Rect.unit (s := S1024x1024) ![512 * half.val + 64 * cls.val + 256 * part.val, 128 * h.val] S64x128.size (tile_inb half cls h part)
/-- what it writes; -/
def tileVal (half : Fin 2) (cls : Fin 4) (h : Fin 8) (part : Fin 2) : FVec F S64x128 .bf16 :=
  shapeCast S64x128 (extractStridedSlice S64x128 _ (head h (qrows half cls q) (K cls) (V cls)) (part_slices part)) shapeCasts_S64x128_S64x128
/-- and the store. -/
def tile (half : Fin 2) (cls : Fin 4) (h : Fin 8) (part : Fin 2) : View.Piece (Elt F) S1024x1024 .bf16 :=
  ⟨tileRect half cls h part, tileVal q K V half cls h part⟩

/-- The stores of one half, the last first. -/
def tiles (half : Fin 2) : List (View.Piece (Elt F) S1024x1024 .bf16) :=
  [(3 : Fin 4), 2, 1, 0].flatMap fun cls => [(7 : Fin 8), 6, 5, 4, 3, 2, 1, 0].flatMap fun h => [(1 : Fin 2), 0].map fun part => tile q K V half cls h part

theorem mem_tiles (half : Fin 2) (cls : Fin 4) (h : Fin 8) (part : Fin 2) : tile q K V half cls h part ∈ tiles q K V half := by
  unfold tiles
  refine List.mem_flatMap.mpr ⟨cls, ?_, List.mem_flatMap.mpr ⟨h, ?_, List.mem_map.mpr ⟨part, ?_, rfl⟩⟩⟩
  · revert cls; decide
  · revert h; decide
  · revert part; decide

/-- A store writes the attention's own values. -/
theorem tile_val (half : Fin 2) (cls : Fin 4) (h : Fin 8) (part : Fin 2) (x : S64x128.Idx) :
    tileVal q K V half cls h part x = attn q K V ((tileRect half cls h part).emb x) := by
  have hx0 : (x 0).val < 64 := (x 0).isLt
  have hx1 : (x 1).val < 128 := (x 1).isLt
  have h0 : (((tileRect half cls h part).emb x) 0).val = 512 * half.val + 64 * cls.val + 256 * part.val + (x 0).val := by
    rw [Rect.emb_apply]; show _ + 1 * (x 0).val = _; rw [Nat.one_mul]; rfl
  have h1 : (((tileRect half cls h part).emb x) 1).val = 128 * h.val + (x 1).val := by
    rw [Rect.emb_apply]; show _ + 1 * (x 1).val = _; rw [Nat.one_mul]; rfl
  have := half.isLt; have := cls.isLt; have := part.isLt; have := h.isLt
  unfold attn
  rw [show tileVal q K V half cls h part x = extractStridedSlice S64x128 _ (head h (qrows half cls q) (K cls) (V cls)) (part_slices part) x from
    by unfold tileVal; exact congrFun (shapeCast_id _ _) x]
  have e1 : ∀ p, (⟨(((tileRect half cls h part).emb x) 1).val / 128, p⟩ : Fin 8) = h := fun p => Fin.ext (by show _ / 128 = _; omega)
  have e2 : ∀ p, (⟨(((tileRect half cls h part).emb x) 0).val / 512, p⟩ : Fin 2) = half := fun p => Fin.ext (by show _ / 512 = _; omega)
  have e3 : ∀ p, (⟨(((tileRect half cls h part).emb x) 0).val % 256 / 64, p⟩ : Fin 4) = cls := fun p => Fin.ext (by show _ % 256 / 64 = _; omega)
  rw [e1, e2, e3]
  unfold extractStridedSlice
  congr 1
  funext a; apply Fin.ext
  fin_cases a
  · show 64 * part.val + (x 0).val = (((tileRect half cls h part).emb x) 0).val / 256 % 2 * 64 + (((tileRect half cls h part).emb x) 0).val % 64
    omega
  · show 0 + (x 1).val = (((tileRect half cls h part).emb x) 1).val % 128
    omega

theorem tiles_val (half : Fin 2) : ∀ p ∈ tiles q K V half, ∀ x : p.1.shape.Idx, p.2 x = attn q K V (p.1.emb x) := by
  intro p hp
  unfold tiles at hp
  obtain ⟨cls, -, hp⟩ := List.mem_flatMap.mp hp
  obtain ⟨h, -, hp⟩ := List.mem_flatMap.mp hp
  obtain ⟨part, -, rfl⟩ := List.mem_map.mp hp
  exact tile_val q K V half cls h part

/-- Every place of the half is stored. -/
theorem tiles_cover (half : Fin 2) (y : S1024x1024.Idx) (hy : 512 * half.val ≤ (y 0).val ∧ (y 0).val < 512 * half.val + 512) :
    ∃ p ∈ tiles q K V half, y ∈ p.1.set := by
  have hy1 : (y 1).val < 1024 := (y 1).isLt
  have := half.isLt
  refine ⟨_, mem_tiles q K V half ⟨(y 0).val % 256 / 64, by omega⟩ ⟨(y 1).val / 128, by omega⟩ ⟨(y 0).val % 512 / 256, by omega⟩, ?_⟩
  unfold tile
  rw [Rect.mem_set_unit]
  intro a; fin_cases a
  · constructor
    · show 512 * half.val + 64 * ((y 0).val % 256 / 64) + 256 * ((y 0).val % 512 / 256) ≤ (y 0).val; omega
    · show (y 0).val < 512 * half.val + 64 * ((y 0).val % 256 / 64) + 256 * ((y 0).val % 512 / 256) + 64; omega
  · constructor
    · show 128 * ((y 1).val / 128) ≤ (y 1).val; omega
    · show (y 1).val < 128 * ((y 1).val / 128) + 128; omega

/-- So the half's rows read after the stores are the attention's. -/
theorem tiles_read (half : Fin 2) (inb) :
    cM.view.readCov (tiles q K V half) (Rect.unit (s := S1024x1024) ![512 * half.val, 0] S512x1024.size inb).toLoadRect = halfRows half (attn q K V) := by
  funext j
  unfold View.readCov halfRows
  rw [View.readAt_apply]
  refine (View.read_writes_apply_of_pieces cM.view cM.view.junk (attn q K V) (tiles q K V half) (tiles_val q K V half) _ ?_).trans rfl
  refine tiles_cover q K V half _ ?_
  have hj : (j 0).val < 512 := (j 0).isLt
  have h0 : (((Rect.unit (s := S1024x1024) ![512 * half.val, 0] S512x1024.size inb).emb j) 0).val = 512 * half.val + (j 0).val := by
    rw [Rect.emb_apply]; show _ + 1 * (j 0).val = _; rw [Nat.one_mul]; rfl
  constructor
  · exact h0.symm.le.trans' (Nat.le_add_right _ _)
  · refine lt_of_eq_of_lt h0 (by omega)

theorem accOf_val (half : Fin 2) (x : S512x1024.Idx) (inb) :
    k0_pay133 wo (halfRows half (attn q K V)) x
      = accOf (attn q K V) wo ((Rect.unit (s := S1024x1024) ![512 * half.val, 0] S512x1024.size inb).emb x) := by
  have hx : (x 0).val < 512 := (x 0).isLt
  have h0 : (((Rect.unit (s := S1024x1024) ![512 * half.val, 0] S512x1024.size inb).emb x) 0).val = 512 * half.val + (x 0).val := by
    rw [Rect.emb_apply]; show _ + 1 * (x 0).val = _; rw [Nat.one_mul]; rfl
  have h1 : (((Rect.unit (s := S1024x1024) ![512 * half.val, 0] S512x1024.size inb).emb x) 1).val = (x 1).val := by
    rw [Rect.emb_apply]; show 0 + 1 * (x 1).val = _; omega
  have := half.isLt
  unfold accOf
  have e2 : ∀ p, (⟨(((Rect.unit (s := S1024x1024) ![512 * half.val, 0] S512x1024.size inb).emb x) 0).val / 512, p⟩ : Fin 2) = half :=
    fun p => Fin.ext (by show _ / 512 = _; omega)
  rw [e2]
  congr 1
  funext a; apply Fin.ext
  fin_cases a
  · show (x 0).val = (((Rect.unit (s := S1024x1024) ![512 * half.val, 0] S512x1024.size inb).emb x) 0).val % 512; omega
  · exact h1.symm

end Cert.KProof

end
-- ==== Proof.Halves.lean ====
/-
The two halves of the attention, run: each stores its rows of the context tile by tile, and then the rows of
the partial result, which is the device's own product with its rows of `Wo`.
-/
module

public import proofs.«01_k».proof.Proof.Exchange
public import proofs.«01_k».proof.Proof.Tiles
public import proofs.«01_k».proof.Proof.Args
public import Idealize.ShloMosaic.Lib.Pointwise.Reshape

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (q : FVec F S1024x1024 .f32) (wo : FVec F S1024x1024 .bf16) (K V : Fin 4 → FVec F S8x256x128 .bf16)

/-- The rows of a half, as a rectangle, -/
abbrev halfRect (half : Fin 2) : Rect S1024x1024 := Rect.unit (s := S1024x1024) ![512 * half.val, 0] S512x1024.size (ctx_inb half)

/-- are those rows. -/
theorem half_rows (half : Fin 2) : (halfRect half).set = rows (512 * half.val) 512 := by
  ext i
  rw [Rect.mem_set_unit, mem_rows]
  constructor
  · intro hi; exact hi 0
  · intro hi a; fin_cases a
    · exact hi
    · exact ⟨Nat.zero_le _, by have := (i 1).isLt; exact lt_of_lt_of_eq this (Nat.zero_add 1024).symm⟩

theorem half_emb (half : Fin 2) {i : S1024x1024.Idx} (hi : i ∈ rows (512 * half.val) 512) : ∃ x, (halfRect half).emb x = i := by
  rw [← half_rows, ← Rect.map_emb_univ] at hi
  obtain ⟨x, -, hx⟩ := Finset.mem_map.mp hi
  exact ⟨x, hx⟩

/-- A load or store of a half touches its rows only. -/
theorem half_set (half : Fin 2) {lo : ℕ} (h : lo = 512 * half.val) : aM.view.setOn (halfRect half).set ⊆ rows lo 512 := by
  subst h; rw [half_rows]; intro i hi; obtain ⟨x, hx, rfl⟩ := Finset.mem_map.mp hi; exact hx
theorem half_set' (half : Fin 2) {lo : ℕ} (h : lo = 512 * half.val) : (aM.access (halfRect half)).set ⊆ rows lo 512 := by
  subst h; exact subset_of_eq ((View.set_slice_whole cc0_scratch0 (halfRect half)).trans (half_rows half))

/-- The partial result's rows of a half, after its store. -/
theorem half_store (half : Fin 2) (f : FVec F S1024x1024 .bf16) (i : S1024x1024.Idx) (hi : i ∈ rows (512 * half.val) 512) :
    (aM.access (halfRect half)).write (Elt F) f (k0_pay133 wo (halfRows half (attn q K V))) Finset.univ i = accOf (attn q K V) wo i := by
  obtain ⟨x, rfl⟩ := half_emb half hi
  exact (View.write_emb_of_mem (v := aM.access (halfRect half)) _ _ (Finset.mem_univ x)).trans (accOf_val q wo K V half x _)

/-- Other rows keep what they held. -/
theorem half_other (half : Fin 2) (f : FVec F S1024x1024 .bf16) (w : FVec F S512x1024 .bf16) (i : S1024x1024.Idx) (hi : i ∉ rows (512 * half.val) 512) :
    (aM.access (halfRect half)).write (Elt F) f w Finset.univ i = f i := by
  have hs : (aM.access (halfRect half)).set = rows (512 * half.val) 512 := (View.set_slice_whole cc0_scratch0 (halfRect half)).trans (half_rows half)
  rw [← hs] at hi
  exact View.write_of_not_mem (v := aM.access (halfRect half)) _ _ _ hi

set_option maxHeartbeats 8000000 in
/-- The first half. -/
theorem half0 (c : Dev nD) (f6 f7 : FVec F S1024x1024 .bf16)
    {R : Type} {Q : R → sProp (MM F)} {κ : Prog (TpuEff nD τ sig (Elt F) Λ₀ .tc) R} :
    iprop(pt c aM f6 ∗ pt c cM f7)
      ⊢ iprop(((aRows c 0 512 (accOf (attn q K V) wo) ∗ aRows c 512 512 f6 ∗ ∃ g, pt c cM g) -∗ wpc c κ Q)
      -∗ wpc c (pst4 q wo (K 0) (K 1) (K 2) (K 3) (V 0) (V 1) (V 2) (V 3) (k0_pay11 q) (k0_pay12 q) (k0_pay13 (K 0)) (constant S128x256 .f32 0x00000000#32) κ) Q) := by
  unfold pst4 st4 wpc
  iintro ⟨H6, H7⟩ Hk
  sl_exec_parts
  iapply Hk
  have e : half0.sl.v1178 q K V = halfRows 0 (attn q K V) := (show _ = cM.view.readCov (tiles q K V 0) _ from rfl).trans (tiles_read q K V 0 _)
  have e₁ : (pt c aM (aM.view.writes (Elt F) f6 [⟨Rect.unit (s := S1024x1024) ![0, 0] S512x1024.size inb_S1024x1024_S512x1024_0_0, k0_pay133 wo (half0.sl.v1178 q K V)⟩]) : sProp (MM F))
      = iprop(aRows c 0 512 (accOf (attn q K V) wo) ∗ aRows c 512 512 f6) := by
    rw [e, show aM.view.writes (Elt F) f6 [⟨Rect.unit (s := S1024x1024) ![0, 0] S512x1024.size inb_S1024x1024_S512x1024_0_0, k0_pay133 wo (halfRows 0 (attn q K V))⟩]
        = (aM.access (halfRect 0)).write (Elt F) f6 (k0_pay133 wo (halfRows 0 (attn q K V))) Finset.univ from rfl, ← aRows_all, aRows_split c 0 512 512, aRows_congr c 0 512 _ _ (half_store q wo K V 0 f6),
      aRows_congr c (0 + 512) 512 _ f6 (fun i hi => half_other 0 f6 (k0_pay133 wo (halfRows 0 (attn q K V))) i (fun h => by
        have h₁ := (mem_rows.mp hi).1; have h₂ := (mem_rows.mp h).2
        have h₃ : 512 * (0 : Fin 2).val + 512 = 512 := rfl
        omega))]
  ihave H := (Entails.of_eq e₁) $$ H6
  icases H with ⟨Ha, Hb⟩
  isplitl [Ha]; · iexact Ha
  isplitl [Hb]; · iexact Hb
  iexists _; iexact H7

set_option maxHeartbeats 8000000 in
/-- Between the halves: the first step's rows leave, and the second half's first tile is stored. -/
theorem between (A : Dev nD → FVec F S1024x1024 .bf16) (N : Dev nD × CK → ℕ) (c : Dev nD) (v7 v13 : BitVec 32) (f7 : FVec F S1024x1024 .bf16)
    {R : Type} {Q : R → sProp (MM F)} {κ : BitVec 32 → FVec F S128x1024 .f32 → FVec F S128x128 .bf16 → Prog (TpuEff nD τ sig (Elt F) Λ₀ .tc) R} :
    iprop(ctx A N ∗ aRows c (sendLo 0 c) (ln 0) (Vk A 0 c) ∗ pre 0 c ∗ owesE c (Ow c 3) ∗ pt c cM f7)
      ⊢ iprop((∀ v, (mid 0 1 0 c ∗ owesE c (Ow c 4) ∗ pt c cM (cM.view.writes (Elt F) f7 [⟨Rect.unit (s := S1024x1024) ![512, 0] S64x128.size inb_S1024x1024_S64x128_512_0, k0_pay136 q (K 0) (V 0)⟩]))
          -∗ wpc c (κ v (k0_pay134 q) (k0_pay135 q (K 0) (V 0))) Q)
      -∗ wpc c (pst5 c v7 v13 q (K 0) (V 0) κ) Q) := by
  unfold pst5 st5
  simp only [k0_part33_eq_skeleton, k0_part33_skel, Prog.lift, Prog.bind_op, Prog.bind_ret, Prog.pure_eq_ret]
  iintro ⟨#HC, s0, p0, HO, H7⟩ Hk
  iapply (rs_send A N 0 c _ (dev4_eq c) (off2_0 c) rfl rfl 3 rfl) $$ [$HC $s0 $p0 $HO]; iintro ⟨m0, HO⟩
  unfold wpc
  sl_exec
  iapply Hk
  isplitl [m0]; · iexact m0
  isplitl [HO]; · iexact HO
  iexact H7

set_option maxHeartbeats 8000000 in
/-- The second half. -/
theorem half1 (c : Dev nD) (v7 v19 : BitVec 32) (f6 f7 : FVec F S1024x1024 .bf16)
    {R : Type} {Q : R → sProp (MM F)} {κ : BitVec 32 → Prog (TpuEff nD τ sig (Elt F) Λ₀ .tc) R} :
    iprop(aRows c 512 512 f6 ∗ pt c cM (cM.view.writes (Elt F) f7 [⟨Rect.unit (s := S1024x1024) ![512, 0] S64x128.size inb_S1024x1024_S64x128_512_0, k0_pay136 q (K 0) (V 0)⟩]))
      ⊢ iprop((∀ v, (aRows c 512 512 (accOf (attn q K V) wo) ∗ ∃ g, pt c cM g) -∗ wpc c (κ v) Q)
      -∗ wpc c (pst6 v7 v19 q wo (K 0) (K 1) (K 2) (K 3) (V 0) (V 1) (V 2) (V 3) (k0_pay134 q) (k0_pay135 q (K 0) (V 0)) κ) Q) := by
  unfold pst6 st6 wpc
  iintro ⟨H6, H7⟩ Hk
  sl_exec_parts
  have e : half1.sl.v2074 q K V = halfRows 1 (attn q K V) := (show _ = cM.view.readCov (tiles q K V 1) _ from rfl).trans (tiles_read q K V 1 _)
  unfold aRows
  iapply (wp_load 𝒱₀ (c : Thread nD τ) none Set.univ (m := aM) (r := (halfRect 1).toLoadRect) (half_set 1 rfl)) $$ H6; iintro H6
  rw [Prog.lift, Prog.bind_op]
  iapply (wp_store 𝒱₀ (c : Thread nD τ) none Set.univ (m := aM) (r := halfRect 1) (Mk := Finset.univ) (half_set' 1 rfl)) $$ H6; iintro H6
  sl_exec
  iapply Hk
  isplitl [H6]
  · have e₁ : (((aM.access (halfRect 1)).loc (c : Thread nD τ) ↦[rows 512 512]{fullShare}
        ((aM.access (halfRect 1)).write (Elt F) f6 (k0_pay259 wo (half1.sl.v2074 q K V)) Finset.univ)) : sProp (MM F))
        = (aM.view.loc (c : Thread nD τ) ↦[rows 512 512]{fullShare} (accOf (attn q K V) wo : Bf (F := F) c aM)) := by
      rw [e]; exact pointsTo_congr (half_store q wo K V 1 f6)
    ihave H := (Entails.of_eq e₁) $$ H6
    iexact H
  · iexists _; iexact H7

end Cert.KProof

end
-- ==== Proof.Comm.lean ====
/-
The exchange in program order: the reduce-scatter, then the all-gather.
-/
module

public import proofs.«01_k».proof.Proof.Exchange
public import proofs.«01_k».proof.Proof.Args
public import Idealize.ShloMosaic.Lib.Pointwise.Reshape

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (A : Dev nD → FVec F S1024x1024 .bf16) (K : Dev nD × CK → ℕ)

/-! The additions' printed values are sums. -/

theorem pay260_eq (v w : FVec F (shp 0) .bf16) : k0_pay260 v w = addf v w := by unfold k0_pay260; exact shapeCast_id _ _
theorem pay261_eq (v w : FVec F (shp 3) .bf16) : k0_pay261 v w = addf v w := by unfold k0_pay261; exact shapeCast_id _ _
theorem pay262_eq (v w : FVec F (shp 6) .bf16) : k0_pay262 v w = addf v w := by unfold k0_pay262; exact shapeCast_id _ _
theorem pay263_eq (v w : FVec F (shp 1) .bf16) : k0_pay263 v w = addf v w := by unfold k0_pay263; exact shapeCast_id _ _
theorem pay264_eq (v w : FVec F (shp 4) .bf16) : k0_pay264 v w = addf v w := by unfold k0_pay264; exact shapeCast_id _ _
theorem pay265_eq (v w : FVec F (shp 7) .bf16) : k0_pay265 v w = addf v w := by unfold k0_pay265; exact shapeCast_id _ _
theorem pay266_eq (v w : FVec F (shp 2) .bf16) : k0_pay266 v w = addf v w := by unfold k0_pay266; exact shapeCast_id _ _
theorem pay267_eq (v w : FVec F (shp 5) .bf16) : k0_pay267 v w = addf v w := by unfold k0_pay267; exact shapeCast_id _ _
theorem pay268_eq (v w : FVec F (shp 8) .bf16) : k0_pay268 v w = addf v w := by unfold k0_pay268; exact shapeCast_id _ _

/-- What the reduce-scatter starts from: one copy is under way, the other two bands are cut. -/
def rsPre (c : Dev nD) : sProp (MM F) :=
  iprop(mid 0 1 0 c ∗ pre 1 c ∗ pre 2 c ∗ pre 3 c ∗ pre 4 c ∗ pre 5 c ∗ pre 6 c ∗ pre 7 c ∗ pre 8 c
    ∗ aRows c (keepLo 0 c) (ln 0) (Vk A 0 c) ∗ aRows c (sendLo 3 c) (ln 3) (Vk A 3 c) ∗ aRows c (keepLo 3 c) (ln 3) (Vk A 3 c)
    ∗ aRows c (sendLo 6 c) (ln 6) (Vk A 6 c) ∗ aRows c (keepLo 6 c) (ln 6) (Vk A 6 c) ∗ owesE c (Ow c 4))

/-- Where the first printed region stops: in the middle of step 5's waits, before step 8's. -/
def rsMid (c : Dev nD) : sProp (MM F) :=
  iprop((left A 0 c ∗ left A 1 c ∗ left A 2 c ∗ left A 3 c ∗ left A 4 c ∗ left A 6 c ∗ left A 7 c)
    ∗ aRows c (keepLo 2 c) (ln 2) (Va A 2 c) ∗ aRows c (keepLo 5 c) (ln 5) (Vk A 5 c) ∗ aRows c (keepLo 8 c) (ln 8) (Vk A 8 c)
    ∗ mid 0 1 8 c ∗ atPos ER (cellOf c (some (1, 5))) 0 ∅ 0 ∗ cred (tallyAt (cellOf c (some (1, 5))) true (amt 5))
    ∗ aRows c (sendLo 5 c) (ln 5) (Vk A 5 c) ∗ semVal (cellOf c (some (0, 5))) 0 ∗ owesE c (Ow c 12))

set_option maxHeartbeats 8000000 in
theorem comm7 (c : Dev nD) (v7 v13 v19 v25 v1190 v2086 : BitVec 32) {R : Type} {Q : R → sProp (MM F)}
    (κ : BitVec 32 → BitVec 32 → BitVec 32 → Prog (TpuEff nD τ sig (Elt F) Λ₀ .tc) R) :
    iprop(ctx A K ∗ rsPre A c) ⊢ iprop((∀ u v w, rsMid A c -∗ wpc c (κ u v w) Q) -∗ wpc c (pst7 c v7 v13 v19 v25 v1190 v2086 κ) Q) := by
  unfold pst7 st7 rsPre
  simp only [k0_part54_eq_skeleton, k0_part54_skel, k0_part55_eq_skeleton, k0_part55_skel, k0_part56_eq_skeleton, k0_part56_skel, k0_part57_eq_skeleton, k0_part57_skel, k0_part58_eq_skeleton, k0_part58_skel, k0_part59_eq_skeleton, k0_part59_skel, k0_part60_eq_skeleton, k0_part60_skel, Prog.lift, Prog.bind_op, Prog.bind_ret, Prog.pure_eq_ret]
  iintro ⟨#HC, m0, p1, p2, p3, p4, p5, p6, p7, p8, k0, s3, k3, s6, k6, HO⟩ Hk
  iapply (rs_send A K 3 c _ (dev5_eq c) (off2_3 c) rfl rfl 4 rfl) $$ [$HC $s3 $p3 $HO]; iintro ⟨m3, HO⟩
  iapply (rs_send A K 6 c _ (dev6_eq c) (off3_6 c) rfl rfl 5 rfl) $$ [$HC $s6 $p6 $HO]; iintro ⟨m6, HO⟩
  iapply (rs_done A K 0 c rfl rfl 6 (by decide) (by decide) (off4_0 c) k0_pay260 pay260_eq) $$ [$HC $m0 $k0 $HO]; iintro ⟨k0, l0, HO⟩
  ihave H := (Entails.of_eq (a_next₀ A 0 0 1 rfl rfl c)) $$ k0; icases H with ⟨s1, k1⟩
  iapply (rs_send A K 1 c _ (dev7_eq c) (off5_1 c) rfl rfl 6 rfl) $$ [$HC $s1 $p1 $HO]; iintro ⟨m1, HO⟩
  iapply (rs_done A K 3 c rfl rfl 7 (by decide) (by decide) (off4_3 c) k0_pay261 pay261_eq) $$ [$HC $m3 $k3 $HO]; iintro ⟨k3, l3, HO⟩
  ihave H := (Entails.of_eq (a_next₀ A 1 3 4 rfl rfl c)) $$ k3; icases H with ⟨s4, k4⟩
  iapply (rs_send A K 4 c _ (dev8_eq c) (off5_4 c) rfl rfl 7 rfl) $$ [$HC $s4 $p4 $HO]; iintro ⟨m4, HO⟩
  iapply (rs_done A K 6 c rfl rfl 8 (by decide) (by decide) (off6_6 c) k0_pay262 pay262_eq) $$ [$HC $m6 $k6 $HO]; iintro ⟨k6, l6, HO⟩
  ihave H := (Entails.of_eq (a_next₀ A 2 6 7 rfl rfl c)) $$ k6; icases H with ⟨s7, k7⟩
  iapply (rs_send A K 7 c _ (dev9_eq c) (off7_7 c) rfl rfl 8 rfl) $$ [$HC $s7 $p7 $HO]; iintro ⟨m7, HO⟩
  iapply (rs_done A K 1 c rfl rfl 9 (by decide) (by decide) (off8_1 c) k0_pay263 pay263_eq) $$ [$HC $m1 $k1 $HO]; iintro ⟨k1, l1, HO⟩
  ihave H := (Entails.of_eq (a_next₁ A 0 1 2 rfl rfl c)) $$ k1; icases H with ⟨s2, k2⟩
  iapply (rs_send A K 2 c _ (dev10_eq c) (off9_2 c) rfl rfl 9 rfl) $$ [$HC $s2 $p2 $HO]; iintro ⟨m2, HO⟩
  iapply (rs_done A K 4 c rfl rfl 10 (by decide) (by decide) (off8_4 c) k0_pay264 pay264_eq) $$ [$HC $m4 $k4 $HO]; iintro ⟨k4, l4, HO⟩
  ihave H := (Entails.of_eq (a_next₁ A 1 4 5 rfl rfl c)) $$ k4; icases H with ⟨s5, k5⟩
  iapply (rs_send A K 5 c _ (dev11_eq c) (off9_5 c) rfl rfl 10 rfl) $$ [$HC $s5 $p5 $HO]; iintro ⟨m5, HO⟩
  iapply (rs_done A K 7 c rfl rfl 11 (by decide) (by decide) (off10_7 c) k0_pay265 pay265_eq) $$ [$HC $m7 $k7 $HO]; iintro ⟨k7, l7, HO⟩
  ihave H := (Entails.of_eq (a_next₁ A 2 7 8 rfl rfl c)) $$ k7; icases H with ⟨s8, k8⟩
  iapply (rs_send A K 8 c _ (dev12_eq c) (off11_8 c) rfl rfl 11 rfl) $$ [$HC $s8 $p8 $HO]; iintro ⟨m8, HO⟩
  iapply (rs_done A K 2 c rfl rfl 12 (by decide) (by decide) (off12_2 c) k0_pay266 pay266_eq) $$ [$HC $m2 $k2 $HO]; iintro ⟨k2, l2, HO⟩
  iapply (rs_wait₀ A K 5 c rfl 12 (by decide)) $$ [$HC $m5 $HO]; iintro ⟨s5, z5, a5, d5, HO⟩
  unfold rsMid
  iapply Hk
  iframe

/-- The exchange's end: the acc rows in pieces, the landing buffers, the result whole, every cell closed. -/
def exEnd (c : Dev nD) : sProp (MM F) :=
  iprop((left A 0 c ∗ left A 1 c ∗ left A 2 c ∗ left A 3 c ∗ left A 4 c ∗ left A 5 c ∗ left A 6 c ∗ left A 7 c ∗ left A 8 c)
    ∗ aRows c (keepLo 2 c) (ln 2) (Va A 2 c) ∗ aRows c (keepLo 5 c) (ln 5) (Va A 5 c) ∗ aRows c (keepLo 8 c) (ln 8) (Va A 8 c)
    ∗ (post 2 3 0 c ∗ post 2 3 1 c ∗ post 2 3 2 c ∗ post 2 3 3 c ∗ post 2 3 4 c ∗ post 2 3 5 c ∗ post 2 3 6 c ∗ post 2 3 7 c ∗ post 2 3 8 c)
    ∗ oRows c (curLo 0 c) (ln 0 + ln 0) (FIN A) ∗ oRows c (curLo 3 c) (ln 3 + ln 3) (FIN A) ∗ oRows c (curLo 6 c) (ln 6 + ln 6) (FIN A)
    ∗ owesE c (Ow c 21))

set_option maxHeartbeats 8000000 in
theorem comm8 (c : Dev nD) (v7 v13 v19 v25 v2220 v2250 v2280 : BitVec 32) {Q : PUnit → sProp (MM F)} :
    iprop(ctx A K ∗ rsMid A c ∗ (preG 0 c ∗ preG 1 c ∗ preG 2 c ∗ preG 3 c ∗ preG 4 c ∗ preG 5 c ∗ preG 6 c ∗ preG 7 c ∗ preG 8 c)
        ∗ (∃ f, oRows c (keepLo 2 c) (ln 2) f) ∗ (∃ f, oRows c (keepLo 5 c) (ln 5) f) ∗ (∃ f, oRows c (keepLo 8 c) (ln 8) f))
      ⊢ iprop((exEnd A c -∗ Q ⟨⟩) -∗ wpc c (pRest c v7 v13 v19 v25 v2220 v2250 v2280) Q) := by
  unfold pRest rest rsMid
  simp only [k0_part61_eq_skeleton, k0_part61_skel, k0_part62_eq_skeleton, k0_part62_skel, k0_part63_eq_skeleton, k0_part63_skel, k0_part64_eq_skeleton, k0_part64_skel, k0_part65_eq_skeleton, k0_part65_skel, k0_part66_eq_skeleton, k0_part66_skel, k0_part67_eq_skeleton, k0_part67_skel, Prog.lift, Prog.bind_op, Prog.bind_ret, Prog.pure_eq_ret]
  iintro ⟨#HC, ⟨Hl, k2, k5, k8, m8, a5, d5, s5, x5, HO⟩, ⟨g0, g1, g2, g3, g4, g5, g6, g7, g8⟩, o2, o5, o8⟩ Hk
  iapply (rs_wait₁ A K 5 c rfl 12 (by decide)) $$ [$HC $a5 $d5 $HO]; iintro ⟨r5, y5, HO⟩
  iapply (wp_rs_add A 5 c (off12_5 c) k0_pay267 pay267_eq) $$ [$k5 $r5]; iintro ⟨k5, r5⟩
  iapply (rs_done A K 8 c rfl rfl 12 (by decide) (by decide) (off13_8 c) k0_pay268 pay268_eq) $$ [$HC $m8 $k8 $HO]; iintro ⟨k8, l8, HO⟩
  iapply (wp_out A 0 2 rfl c (off12_2 c)) $$ [$k2 $o2]; iintro ⟨k2, o2⟩
  iapply (ag_send A K 2 c _ (dev13_eq c) (off14_2 c) rfl rfl 12 rfl) $$ [$HC $o2 $g2 $HO]; iintro ⟨n2, HO⟩
  iapply (wp_out A 1 5 rfl c (off12_5 c)) $$ [$k5 $o5]; iintro ⟨k5, o5⟩
  iapply (ag_send A K 5 c _ (dev14_eq c) (off14_5 c) rfl rfl 13 rfl) $$ [$HC $o5 $g5 $HO]; iintro ⟨n5, HO⟩
  iapply (wp_out A 2 8 rfl c (off13_8 c)) $$ [$k8 $o8]; iintro ⟨k8, o8⟩
  iapply (ag_send A K 8 c _ (dev15_eq c) (off15_8 c) rfl rfl 14 rfl) $$ [$HC $o8 $g8 $HO]; iintro ⟨n8, HO⟩
  iapply (ag_done A K 2 c rfl rfl 15 (by decide) (by decide)) $$ [$HC $n2 $HO]; iintro ⟨o2, z2, HO⟩
  ihave o1 := (Entails.of_eq (o_next₁ A 0 1 2 rfl rfl c)) $$ o2
  iapply (ag_send A K 1 c _ (dev16_eq c) (off16_1 c) rfl rfl 15 rfl) $$ [$HC $o1 $g1 $HO]; iintro ⟨n1, HO⟩
  iapply (ag_done A K 5 c rfl rfl 16 (by decide) (by decide)) $$ [$HC $n5 $HO]; iintro ⟨o5, z5, HO⟩
  ihave o4 := (Entails.of_eq (o_next₁ A 1 4 5 rfl rfl c)) $$ o5
  iapply (ag_send A K 4 c _ (dev17_eq c) (off16_4 c) rfl rfl 16 rfl) $$ [$HC $o4 $g4 $HO]; iintro ⟨n4, HO⟩
  iapply (ag_done A K 8 c rfl rfl 17 (by decide) (by decide)) $$ [$HC $n8 $HO]; iintro ⟨o8, z8, HO⟩
  ihave o7 := (Entails.of_eq (o_next₁ A 2 7 8 rfl rfl c)) $$ o8
  iapply (ag_send A K 7 c _ (dev18_eq c) (off17_7 c) rfl rfl 17 rfl) $$ [$HC $o7 $g7 $HO]; iintro ⟨n7, HO⟩
  iapply (ag_done A K 1 c rfl rfl 18 (by decide) (by decide)) $$ [$HC $n1 $HO]; iintro ⟨o1, z1, HO⟩
  ihave o0 := (Entails.of_eq (o_next₀ A 0 0 1 rfl rfl c)) $$ o1
  iapply (ag_send A K 0 c _ (dev19_eq c) (off18_0 c) rfl rfl 18 rfl) $$ [$HC $o0 $g0 $HO]; iintro ⟨n0, HO⟩
  iapply (ag_done A K 4 c rfl rfl 19 (by decide) (by decide)) $$ [$HC $n4 $HO]; iintro ⟨o4, z4, HO⟩
  ihave o3 := (Entails.of_eq (o_next₀ A 1 3 4 rfl rfl c)) $$ o4
  iapply (ag_send A K 3 c _ (dev20_eq c) (off18_3 c) rfl rfl 19 rfl) $$ [$HC $o3 $g3 $HO]; iintro ⟨n3, HO⟩
  iapply (ag_done A K 7 c rfl rfl 20 (by decide) (by decide)) $$ [$HC $n7 $HO]; iintro ⟨o7, z7, HO⟩
  ihave o6 := (Entails.of_eq (o_next₀ A 2 6 7 rfl rfl c)) $$ o7
  iapply (ag_send A K 6 c _ (dev21_eq c) (off19_6 c) rfl rfl 20 rfl) $$ [$HC $o6 $g6 $HO]; iintro ⟨n6, HO⟩
  iapply (ag_done A K 0 c rfl rfl 21 (by decide) (by decide)) $$ [$HC $n0 $HO]; iintro ⟨o0, z0, HO⟩
  iapply (ag_done A K 3 c rfl rfl 21 (by decide) (by decide)) $$ [$HC $n3 $HO]; iintro ⟨o3, z3, HO⟩
  iapply (ag_done A K 6 c rfl rfl 21 (by decide) (by decide)) $$ [$HC $n6 $HO]; iintro ⟨o6, z6, HO⟩
  rw [show wpc c (Prog.ret PUnit.unit) Q = iprop(|={Set.univ}[frame]=> Q ⟨⟩) from wp_ret _ _ _ _ _]
  imodintro
  iapply Hk
  unfold exEnd
  isplitl [Hl l8 s5 x5 r5 y5]
  · icases Hl with ⟨l0, l1, l2, l3, l4, l6, l7⟩
    unfold left post
    iframe
  iframe

end Cert.KProof

end
-- ==== Proof.KV.lean ====
/-
The copies of the device's own heads of the keys and the values out of the big arrays: what each copies, its enqueue
and its wait.
-/
module

public import proofs.«01_k».proof.Proof.Exchange
public import proofs.«01_k».proof.Proof.Args
public import Idealize.ShloMosaic.Lib.Pointwise.Reshape

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem slab_inb (j : Fin 8) : ∀ k : Fin 3, (![j.val, 0, 0] : Fin 3 → ℕ) k + S1x1024x128.size k ≤ S8x1024x128.size k := by
  revert j; decide
theorem sem_inb (j : Fin 8) : ∀ k : Fin 1, (![j.val] : Fin 1 → ℕ) k + S1.size k ≤ S8.size k := by
  revert j; decide

/-- The big array copied from: the keys', or with `true` the values'. -/
abbrev bigM (b : Bool) : Memref sig .tc .hbm S1x1024x64x128 .f32 := match b with | false => kM | true => vM
/-- The buffer copied to. -/
abbrev slabM (b : Bool) : Memref sig .tc .vmem S8x1024x128 .f32 := match b with | false => ksM | true => vsM
/-- The semaphores of the copies. -/
abbrev kvA (b : Bool) : DmaSems sig S8 := match b with | false => cc0_scratch13 | true => cc0_scratch14

/-- The rectangle of head `8c + j`. -/
abbrev headRect (c : Dev nD) (j : Fin 8) : Rect S1x1024x64x128 := Rect.unit (s := S1x1024x64x128) (k0_off1 c (BitVec.ofNat 32 j.val)) S1x1024x1x128.size (k0_off1_inb c j)
/-- The rectangle of slab `j`. -/
abbrev slabRect (j : Fin 8) : Rect S8x1024x128 := Rect.unit (s := S8x1024x128) ![j.val, 0, 0] S1x1024x128.size (slab_inb j)

/-- Head `8c + j` of the keys or the values, as the device copies it. -/
abbrev srcV (c : Dev nD) (b : Bool) (j : Fin 8) : Memref sig .tc .hbm S1024x128 .f32 :=
  ((bigM b).slice (Rect.unit (s := S1x1024x64x128) (k0_off1 c (BitVec.ofNat 32 j.val)) S1x1024x1x128.size (k0_off1_inb c j)) (fun _ => rfl)).squeeze S1024x128 squeezes_S1x1024x1x128_S1024x128
/-- Slab `j` of the staged keys or values. -/
abbrev dstV (b : Bool) (j : Fin 8) : Memref sig .tc .vmem S1024x128 .f32 :=
  ((slabM b).slice (Rect.unit (s := S8x1024x128) ![j.val, 0, 0] S1x1024x128.size (slab_inb j)) (fun _ => rfl)).squeeze S1024x128 squeezes_S1x1024x128_S1024x128
/-- The copy's semaphore. -/
abbrev kvS (b : Bool) (j : Fin 8) : DmaSem sig :=
  (((kvA b).slice (Rect.unit (s := S8) ![j.val] S1.size (sem_inb j))).squeeze S_ squeezes_S1_S_).sem

/-- The elements of head `8c + j`. -/
def headSet (c : Dev nD) (j : Fin 8) : Finset S1x1024x64x128.Idx := Finset.univ.filter fun i => (i 2).val = 8 * c.val + j.val
/-- The elements of slab `j`. -/
def slabSet (j : Fin 8) : Finset S8x1024x128.Idx := Finset.univ.filter fun i => (i 0).val = j.val

theorem mem_headSet {c : Dev nD} {j : Fin 8} {i : S1x1024x64x128.Idx} : i ∈ headSet c j ↔ (i 2).val = 8 * c.val + j.val := by simp [headSet]
theorem mem_slabSet {j : Fin 8} {i : S8x1024x128.Idx} : i ∈ slabSet j ↔ (i 0).val = j.val := by simp [slabSet]

theorem head_rect (c : Dev nD) (j : Fin 8) :
    (Rect.unit (s := S1x1024x64x128) (k0_off1 c (BitVec.ofNat 32 j.val)) S1x1024x1x128.size (k0_off1_inb c j)).set = headSet c j := by
  ext i
  rw [Rect.mem_set_unit, mem_headSet, k0_off1_eq c j]
  have hi0 : (i 0).val < 1 := (i 0).isLt
  have hi1 : (i 1).val < 1024 := (i 1).isLt
  have hi3 : (i 3).val < 128 := (i 3).isLt
  constructor
  · intro hi
    have h := hi 2
    have h1 : 8 * c.val + j.val ≤ (i 2).val := h.1
    have h2 : (i 2).val < 8 * c.val + j.val + 1 := h.2
    omega
  · intro hi a; fin_cases a
    · exact ⟨Nat.zero_le _, hi0⟩
    · exact ⟨Nat.zero_le _, by show (i 1).val < 0 + 1024; omega⟩
    · exact ⟨by show 8 * c.val + j.val ≤ (i 2).val; omega, by show (i 2).val < 8 * c.val + j.val + 1; omega⟩
    · exact ⟨Nat.zero_le _, by show (i 3).val < 0 + 128; omega⟩

theorem slab_rect (j : Fin 8) : (Rect.unit (s := S8x1024x128) ![j.val, 0, 0] S1x1024x128.size (slab_inb j)).set = slabSet j := by
  ext i
  rw [Rect.mem_set_unit, mem_slabSet]
  have hi1 : (i 1).val < 1024 := (i 1).isLt
  have hi3 : (i 2).val < 128 := (i 2).isLt
  constructor
  · intro hi
    have h := hi 0
    have h1 : j.val ≤ (i 0).val := h.1
    have h2 : (i 0).val < j.val + 1 := h.2
    omega
  · intro hi a; fin_cases a
    · exact ⟨by show j.val ≤ (i 0).val; omega, by show (i 0).val < j.val + 1; omega⟩
    · exact ⟨Nat.zero_le _, by show (i 1).val < 0 + 1024; omega⟩
    · exact ⟨Nat.zero_le _, by show (i 2).val < 0 + 128; omega⟩

theorem srcV_set_false (c : Dev nD) (j : Fin 8) : (srcV c false j).view.set = headSet c j := by
  show (((View.whole main_arg2).slice (headRect c j)).reshape S1024x128 _).set = _
  exact (View.set_reshape _ _).trans ((View.set_slice_whole main_arg2 (headRect c j)).trans (head_rect c j))
theorem srcV_set_true (c : Dev nD) (j : Fin 8) : (srcV c true j).view.set = headSet c j := by
  show (((View.whole main_arg3).slice (headRect c j)).reshape S1024x128 _).set = _
  exact (View.set_reshape _ _).trans ((View.set_slice_whole main_arg3 (headRect c j)).trans (head_rect c j))
theorem dstV_set_false (j : Fin 8) : (dstV false j).view.set = slabSet j := by
  show (((View.whole cc0_scratch2).slice (slabRect j)).reshape S1024x128 _).set = _
  exact (View.set_reshape _ _).trans ((View.set_slice_whole cc0_scratch2 (slabRect j)).trans (slab_rect j))
theorem dstV_set_true (j : Fin 8) : (dstV true j).view.set = slabSet j := by
  show (((View.whole cc0_scratch3).slice (slabRect j)).reshape S1024x128 _).set = _
  exact (View.set_reshape _ _).trans ((View.set_slice_whole cc0_scratch3 (slabRect j)).trans (slab_rect j))

/-- What the slabs hold after the copies: slab `h` is head `8c + h`. -/
def staged (c : Dev nD) (f : FVec F S1x1024x64x128 .f32) : FVec F S8x1024x128 .f32 :=
  fun i => f (ix4 0 (i 1) ⟨8 * c.val + (i 0).val, by have := c.isLt; have h : (i 0).val < 8 := (i 0).isLt; have : c.val < 8 := c.isLt; show _ < 64; omega⟩ (i 2))

/-- The elements of head `8c + j`, owned. -/
def hPts (c : Dev nD) (b : Bool) (j : Fin 8) (f : FVec F S1x1024x64x128 .f32) : sProp (MM F) :=
  match b with
  | false => (kM.view.loc (c : Thread nD τ) ↦[headSet c j]{fullShare} (f : Bf (F := F) c kM))
  | true => (vM.view.loc (c : Thread nD τ) ↦[headSet c j]{fullShare} (f : Bf (F := F) c vM))
/-- The elements of slab `j`, owned. -/
def sPts (c : Dev nD) (b : Bool) (j : Fin 8) (f : FVec F S8x1024x128 .f32) : sProp (MM F) :=
  match b with
  | false => (ksM.view.loc (c : Thread nD τ) ↦[slabSet j]{fullShare} (f : Bf (F := F) c ksM))
  | true => (vsM.view.loc (c : Thread nD τ) ↦[slabSet j]{fullShare} (f : Bf (F := F) c vsM))

/-- The bytes a copy moves, as its semaphore counts them. -/
def kvN : ℕ := 16384

/-- A copy under way. -/
def flight (c : Dev nD) (b : Bool) (j : Fin 8) (f : FVec F S1x1024x64x128 .f32) : sProp (MM F) :=
  Transfers.Flight countersEmb (c : Thread nD τ) (SemLoc.dma (kvS b j)) false kvN iprop(sPts c b j (staged c f) ∗ hPts c b j f)

theorem src_idx (c : Dev nD) (j : Fin 8) (y : S1024x128.Idx) :
    (Rect.unit (s := S1x1024x64x128) (k0_off1 c (BitVec.ofNat 32 j.val)) S1x1024x1x128.size (k0_off1_inb c j)).emb
      (Shape.reshapeEquiv (squeezes_S1x1024x1x128_S1024x128).numel_eq y)
      = ix4 0 (y 0) ⟨8 * c.val + j.val, by have : c.val < 8 := c.isLt; have := j.isLt; show _ < 64; omega⟩ (y 1) := by
  rw [Shape.reshapeEquiv_eq_of_rowMajor (y := (ix4 0 (y 0) 0 (y 1) : S1x1024x1x128.Idx)) _ (by
    rw [Shape.rowMajor_val_four, Shape.rowMajor_val_two]
    show ((0 * 1024 + (y 0).val) * 1 + 0) * 128 + (y 1).val = (y 0).val * 128 + (y 1).val
    omega)]
  funext a
  apply Fin.ext
  rw [Rect.emb_apply]
  have h0 := k0_off1_eq c j
  fin_cases a
  · show k0_off1 c (BitVec.ofNat 32 j.val) 0 + 1 * 0 = 0; rw [h0]; rfl
  · show k0_off1 c (BitVec.ofNat 32 j.val) 1 + 1 * (y 0).val = (y 0).val; rw [h0]; show 0 + 1 * _ = _; omega
  · show k0_off1 c (BitVec.ofNat 32 j.val) 2 + 1 * 0 = 8 * c.val + j.val; rw [h0]; rfl
  · show k0_off1 c (BitVec.ofNat 32 j.val) 3 + 1 * (y 1).val = (y 1).val; rw [h0]; show 0 + 1 * _ = _; omega

theorem dst_idx (j : Fin 8) (y : S1024x128.Idx) :
    (Rect.unit (s := S8x1024x128) ![j.val, 0, 0] S1x1024x128.size (slab_inb j)).emb
      (Shape.reshapeEquiv (squeezes_S1x1024x128_S1024x128).numel_eq y) = (ix3 j (y 0) (y 1) : S8x1024x128.Idx) := by
  rw [Shape.reshapeEquiv_eq_of_rowMajor (y := (ix3 0 (y 0) (y 1) : S1x1024x128.Idx)) _ (by
    rw [Shape.rowMajor_val_three, Shape.rowMajor_val_two]
    show (0 * 1024 + (y 0).val) * 128 + (y 1).val = (y 0).val * 128 + (y 1).val
    omega)]
  funext a
  apply Fin.ext
  rw [Rect.emb_apply]
  fin_cases a
  · show j.val + 1 * 0 = j.val; omega
  · show 0 + 1 * (y 0).val = (y 0).val; omega
  · show 0 + 1 * (y 1).val = (y 1).val; omega

/-- What a copy leaves in its slab. -/
theorem landed_slab (c : Dev nD) (b : Bool) (j : Fin 8) (f : FVec F S1x1024x64x128 .f32) (g : FVec F S8x1024x128 .f32) :
    ∀ i ∈ slabSet j, (match b with
      | false => (dstV false j).view.write (Elt F) (g : Bf (F := F) c ksM) ((srcV c false j).view.read (Elt F) (f : Bf (F := F) c kM)) Finset.univ
      | true => (dstV true j).view.write (Elt F) (g : Bf (F := F) c vsM) ((srcV c true j).view.read (Elt F) (f : Bf (F := F) c vM)) Finset.univ) i = staged c f i := by
  intro i hi
  have hi := mem_slabSet.mp hi
  have key : ∀ y : S1024x128.Idx, y = (ix2 (i 1 : Fin 1024) (i 2 : Fin 128) : S1024x128.Idx) → i = (Rect.unit (s := S8x1024x128) ![j.val, 0, 0] S1x1024x128.size (slab_inb j)).emb
      (Shape.reshapeEquiv (squeezes_S1x1024x128_S1024x128).numel_eq y) := by
    rintro y rfl
    rw [dst_idx]
    funext a; apply Fin.ext; fin_cases a
    · exact hi
    · rfl
    · rfl
  have h1 := key _ rfl
  have h2 := src_idx c j (ix2 (i 1 : Fin 1024) (i 2 : Fin 128) : S1024x128.Idx)
  have hv : staged c f i = f ((Rect.unit (s := S1x1024x64x128) (k0_off1 c (BitVec.ofNat 32 j.val)) S1x1024x1x128.size (k0_off1_inb c j)).emb
      (Shape.reshapeEquiv (squeezes_S1x1024x1x128_S1024x128).numel_eq (ix2 (i 1 : Fin 1024) (i 2 : Fin 128) : S1024x128.Idx))) := by
    rw [h2]; unfold staged
    congr 1; funext a; fin_cases a
    · rfl
    · rfl
    · apply Fin.ext; show 8 * c.val + (i 0).val = 8 * c.val + j.val; omega
    · rfl
  rw [hv]
  cases b
  · conv_lhs => rw [h1]
    exact View.write_emb_of_mem (v := (dstV false j).view) _ _ (Finset.mem_univ _)
  · conv_lhs => rw [h1]
    exact View.write_emb_of_mem (v := (dstV true j).view) _ _ (Finset.mem_univ _)

/-- A copy is enqueued. -/
theorem kv_send (b : Bool) (j : Fin 8) (c : Dev nD) (f : FVec F S1x1024x64x128 .f32) {hsrc : (srcV c b j).view.WordExact} {hdst : (dstV b j).view.WordExact}
    {hsem}
    {α : Type} {Q : α → sProp (MM F)} {κ : PUnit → Prog (TpuEff nD τ sig (Elt F) Λ₀ .tc) α} :
    iprop(hPts c b j f ∗ (∃ g, sPts c b j g) ∗ semVal ((c : Thread nD τ), SemLoc.dma (kvS b j)) 0)
      ⊢ iprop((flight c b j f -∗ wpc c (κ ⟨⟩) Q)
          -∗ wpc c (.op (.enqueueDma (srcV c b j) (.here (dstV b j)) (.dma (kvS b j)) hsrc hdst hsem) κ) Q) := by
  iintro ⟨Hs, ⟨%g, Hd⟩, Hv⟩ Hk
  cases b
  · iapply (Transfers.wp_dmaLocal countersEmb 𝒱₀ (c : Thread nD τ) none (src := srcV c false j) (dst := dstV false j) (via := .same) (q := fullShare)
      (fs := (f : Bf (F := F) c kM)) (fd := (g : Bf (F := F) c ksM)) (Sd := slabSet j) false kvN rfl (by unfold kvN; decide) (dstV_set_false j).le) $$ [Hs Hd Hv]
    · isplitl [Hs]; · rw [srcV_set_false]; unfold hPts; iexact Hs
      isplitl [Hd]; · unfold sPts; iexact Hd
      iexact Hv
    iintro HF
    iapply Hk
    unfold flight
    iapply (Transfers.Flight_mono countersEmb (c : Thread nD τ) ?_) $$ HF
    unfold sPts hPts
    rw [srcV_set_false]
    iintro ⟨Hd, Hs⟩
    isplitl [Hd]
    · iapply (Entails.of_eq (pointsTo_congr (landed_slab c false j f g))) $$ Hd
    · iexact Hs
  · iapply (Transfers.wp_dmaLocal countersEmb 𝒱₀ (c : Thread nD τ) none (src := srcV c true j) (dst := dstV true j) (via := .same) (q := fullShare)
      (fs := (f : Bf (F := F) c vM)) (fd := (g : Bf (F := F) c vsM)) (Sd := slabSet j) false kvN rfl (by unfold kvN; decide) (dstV_set_true j).le) $$ [Hs Hd Hv]
    · isplitl [Hs]; · rw [srcV_set_true]; unfold hPts; iexact Hs
      isplitl [Hd]; · unfold sPts; iexact Hd
      iexact Hv
    iintro HF
    iapply Hk
    unfold flight
    iapply (Transfers.Flight_mono countersEmb (c : Thread nD τ) ?_) $$ HF
    unfold sPts hPts
    rw [srcV_set_true]
    iintro ⟨Hd, Hs⟩
    isplitl [Hd]
    · iapply (Entails.of_eq (pointsTo_congr (landed_slab c true j f g))) $$ Hd
    · iexact Hs

/-- The wait for a copy. -/
theorem kv_wait (b : Bool) (j : Fin 8) (c : Dev nD) (n : ℕ) (f : FVec F S1x1024x64x128 .f32) {hsrc : (srcV c b j).view.WordExact} {hdst : (dstV b j).view.WordExact}
    {α : Type} {Q : α → sProp (MM F)} {κ : PUnit → Prog (TpuEff nD τ sig (Elt F) Λ₀ .tc) α} :
    iprop(levAts L lv ∗ flight c b j f ∗ owesE c (Ow c n))
      ⊢ iprop(((sPts c b j (staged c f) ∗ hPts c b j f ∗ semVal ((c : Thread nD τ), SemLoc.dma (kvS b j)) 0 ∗ owesE c (Ow c n)) -∗ wpc c (κ ⟨⟩) Q)
          -∗ wpc c (.op (.waitDma2 (kvS b j) (srcV c b j) (dstV b j) hsrc hdst) κ) Q) := by
  unfold owesE
  iintro ⟨#HL, HF, ⟨%W, HO⟩⟩ Hk
  iapply (Transfers.wp_waitLocalO countersEmb 𝒱₀ (c : Thread nD τ) none false (N := kvN) (by cases b <;> rfl)) $$ [HF HO]
  · isplitl [HF]; · unfold flight; iexact HF
    isplitl [HO]; · iexact HO
    iapply (mayWait_local c _ n) $$ HL
  iintro ⟨⟨Hd, Hs⟩, Hv, HO⟩
  iapply Hk
  isplitl [Hd]; · iexact Hd
  isplitl [Hs]; · iexact Hs
  isplitl [Hv]; · iexact Hv
  iexists _; iexact HO

end Cert.KProof

end
-- ==== Proof.Staging.lean ====
/-
The body's first phase: the copies of the keys and values are enqueued, the barrier hands each device its partners' landing
buffers, the device reads its staged inputs, and the copies are awaited and read class by class.
-/
module

public import proofs.«01_k».proof.Proof.Exchange
public import proofs.«01_k».proof.Proof.KV
public import proofs.«01_k».proof.Proof.Contents
public import proofs.«01_k».proof.Proof.Args
public import Idealize.ShloMosaic.Lib.Pointwise.Reshape

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (A : Dev nD → FVec F S1024x1024 .bf16) (K : Dev nD × CK → ℕ)

theorem bigSep8 (Φ : Fin 8 → sProp (MM F)) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), 1, 2, 3, 4, 5, 6, 7] (by decide) (by decide) Φ

/-- The big array of the keys or the values, whole; -/
def bPts (c : Dev nD) (b : Bool) (f : FVec F S1x1024x64x128 .f32) : sProp (MM F) :=
  match b with | false => pt c kM f | true => pt c vM f
/-- the slabs, whole; -/
def lPts (c : Dev nD) (b : Bool) (g : FVec F S8x1024x128 .f32) : sProp (MM F) :=
  match b with | false => pt c ksM g | true => pt c vsM g
/-- and the heads the device leaves alone. -/
def otherHeads (c : Dev nD) (b : Bool) (f : FVec F S1x1024x64x128 .f32) : sProp (MM F) :=
  match b with
  | false => (kM.view.loc (c : Thread nD τ) ↦[Finset.univ \ Finset.univ.biUnion (headSet c)]{fullShare} (f : Bf (F := F) c kM))
  | true => (vM.view.loc (c : Thread nD τ) ↦[Finset.univ \ Finset.univ.biUnion (headSet c)]{fullShare} (f : Bf (F := F) c vM))

theorem slab_cover : (Finset.univ : Finset (Fin 8)).biUnion slabSet = Finset.univ := by
  ext i
  simp only [Finset.mem_biUnion, Finset.mem_univ, true_and, iff_true, mem_slabSet]
  exact ⟨⟨(i 0).val, (i 0).isLt⟩, rfl⟩
theorem slab_disj : ∀ t ∈ (Finset.univ : Finset (Fin 8)), ∀ t' ∈ (Finset.univ : Finset (Fin 8)), t ≠ t' → Disjoint (slabSet t) (slabSet t') := by
  intro t _ t' _ h
  rw [Finset.disjoint_left]; intro i hi hi'
  rw [mem_slabSet] at hi hi'
  exact h (Fin.ext (hi.symm.trans hi'))
theorem head_disj (c : Dev nD) : ∀ t ∈ (Finset.univ : Finset (Fin 8)), ∀ t' ∈ (Finset.univ : Finset (Fin 8)), t ≠ t' → Disjoint (headSet c t) (headSet c t') := by
  intro t _ t' _ h
  rw [Finset.disjoint_left]; intro i hi hi'
  rw [mem_headSet] at hi hi'
  exact h (Fin.ext (by omega))

/-- The slabs, one by one. -/
theorem slabs_eq (c : Dev nD) (b : Bool) (g : FVec F S8x1024x128 .f32) : lPts c b g = iprop(sPts c b 0 g ∗ sPts c b 1 g ∗ sPts c b 2 g ∗ sPts c b 3 g ∗ sPts c b 4 g ∗ sPts c b 5 g ∗ sPts c b 6 g ∗ sPts c b 7 g) := by
  refine Eq.trans ?_ (bigSep8 fun j => sPts c b j g)
  cases b
  · exact (congrArg (fun s => (ksM.view.loc (c : Thread nD τ) ↦[s]{fullShare} (g : Bf (F := F) c ksM) : sProp (MM F))) slab_cover.symm).trans
      (pointsTo_biUnion _ _ slab_disj)
  · exact (congrArg (fun s => (vsM.view.loc (c : Thread nD τ) ↦[s]{fullShare} (g : Bf (F := F) c vsM) : sProp (MM F))) slab_cover.symm).trans
      (pointsTo_biUnion _ _ slab_disj)
theorem kslabs_join (c : Dev nD) (g : FVec F S8x1024x128 .f32) : iprop(sPts c false 0 g ∗ sPts c false 1 g ∗ sPts c false 2 g ∗ sPts c false 3 g ∗ sPts c false 4 g ∗ sPts c false 5 g ∗ sPts c false 6 g ∗ sPts c false 7 g) ⊢ pt c ksM g := Entails.of_eq (slabs_eq c false g).symm
theorem vslabs_join (c : Dev nD) (g : FVec F S8x1024x128 .f32) : iprop(sPts c true 0 g ∗ sPts c true 1 g ∗ sPts c true 2 g ∗ sPts c true 3 g ∗ sPts c true 4 g ∗ sPts c true 5 g ∗ sPts c true 6 g ∗ sPts c true 7 g) ⊢ pt c vsM g := Entails.of_eq (slabs_eq c true g).symm

/-- The device's own heads, one by one, and the others. -/
theorem heads_eq (c : Dev nD) (b : Bool) (f : FVec F S1x1024x64x128 .f32) : bPts c b f = iprop((hPts c b 0 f ∗ hPts c b 1 f ∗ hPts c b 2 f ∗ hPts c b 3 f ∗ hPts c b 4 f ∗ hPts c b 5 f ∗ hPts c b 6 f ∗ hPts c b 7 f) ∗ otherHeads c b f) := by
  rw [← bigSep8 fun j => hPts c b j f]
  have e := Finset.union_sdiff_of_subset (Finset.subset_univ (Finset.univ.biUnion (headSet c)))
  have d : Disjoint (Finset.univ.biUnion (headSet c)) (Finset.univ \ Finset.univ.biUnion (headSet c)) := Finset.disjoint_sdiff
  cases b
  · have h := pointsTo_union (Val := Elt F) (Name := ℕ) (U := UU) (Lvl := ℕ) (Ix := Bool) (ℓ := kM.view.loc (c : Thread nD τ)) (q := fullShare) (f := (f : Bf (F := F) c kM)) d
    rw [e] at h
    exact (BI.equiv_iff.mp ⟨h.1, h.2⟩).trans (congrArg (fun P => iprop(P ∗ otherHeads c false f)) (pointsTo_biUnion _ _ (head_disj c)))
  · have h := pointsTo_union (Val := Elt F) (Name := ℕ) (U := UU) (Lvl := ℕ) (Ix := Bool) (ℓ := vM.view.loc (c : Thread nD τ)) (q := fullShare) (f := (f : Bf (F := F) c vM)) d
    rw [e] at h
    exact (BI.equiv_iff.mp ⟨h.1, h.2⟩).trans (congrArg (fun P => iprop(P ∗ otherHeads c true f)) (pointsTo_biUnion _ _ (head_disj c)))

theorem ctx_lev : ctx A K ⊢ (levAts L lv : sProp (MM F)) := by
  unfold ctx; iintro ⟨-, #H⟩; iexact H

/-- The signal in direction `b` hands that partner its landing buffers here. -/
theorem bar_signal (b : Fin 3) (c n : Dev nD) (hn : n = acr b c) {k : ℕ} (hk : k = 1) (m : ℕ)
    (hO : Ow c m = Ow c (m + 1) + tallyAt (cellOf (acr b c) none) true 1)
    {α : Type} {Q : α → sProp (MM F)} {κ : PUnit → Prog (TpuEff nD τ sig (Elt F) Λ₀ .tc) α} :
    iprop(ctx A K ∗ barPay b c ∗ dutyTok ER (cellOf (acr b c) none) 0 b ∗ owesE c (Ow c m))
      ⊢ iprop((owesE c (Ow c (m + 1)) -∗ wpc c (κ ⟨⟩) Q) -∗ wpc c (.op (.semSignal (n, .tc) barS k) κ) Q) := by
  subst hn hk
  unfold owesE ctx
  iintro ⟨⟨#HR, #HL⟩, Hp, Ht, ⟨%W, HO⟩⟩ Hk
  iapply (Rounds.wp_signal 𝒱₀ ER (Rd A) (c : Thread nD τ) none (dst := (acr b c : Thread nD τ)) (κ := K (acr b c, none)) (r := 0)
      (d := b) (by rw [show ((acr b c : Thread nD τ), SemLoc.reg barS) = cellOf (acr b c) none from rfl, duties_cell]; exact Finset.mem_univ _)
      (amount_cell A (acr b c) none b) true (Ow c (m + 1)) hO) $$ [Hp Ht HO]
  · isplitr; · iapply (records_inv A K (acr b c) none); iexact HR
    isplitl [HO]; · iexact HO
    isplitl [Ht]; · iexact Ht
    isplitl [Hp]
    · rw [show ((acr b c : Thread nD τ), SemLoc.reg barS) = cellOf (acr b c) none from rfl, payload_cell,
        show pay A (acr b c) none b = barPay b c from by show barPay b (acr b (acr b c)) = _; rw [acr_acr]]
      iexact Hp
    · iapply (records_reached A K (acr b c) none); iexact HR
  iintro HO
  iapply Hk
  iexists W; iexact HO

/-- The barrier's wait brings the partners' landing buffers. -/
theorem bar_wait (c : Dev nD) {k : ℕ} (hk : k = 3)
    {α : Type} {Q : α → sProp (MM F)} {κ : PUnit → Prog (TpuEff nD τ sig (Elt F) Λ₀ .tc) α} :
    iprop(ctx A K ∗ cred (tallyAt (cellOf c none) true 3) ∗ atPos ER (cellOf c none) 0 ∅ 0 ∗ owesE c (Ow c 3))
      ⊢ iprop(((barPay 0 (acr 0 c) ∗ barPay 1 (acr 1 c) ∗ barPay 2 (acr 2 c) ∗ semVal (cellOf c none) 0 ∗ owesE c (Ow c 3)) -∗ wpc c (κ ⟨⟩) Q)
        -∗ wpc c (.op (.semWait barS k) κ) Q) := by
  subst hk
  unfold owesE ctx
  iintro ⟨⟨#HR, #HL⟩, Hc, Hat, ⟨%W, HO⟩⟩ Hk
  iapply (Rounds.wp_wait_rest_token 𝒱₀ ER (Rd A) (c : Thread nD τ) none (κ := K (c, none))
      (wpE_semWait_eq 𝒱₀ (c : Thread nD τ) none Set.univ) (Set.mem_univ _) true (O := Ow c 3) (W := W) (R := 0) (m := 0) (T := ∅)
      (by rw [Nat.zero_add]; exact (expect_bar A c).symm)) $$ [Hc HO Hat]
  · isplitr; · iapply (records_inv A K c none); iexact HR
    isplitl [Hc]; · iexact Hc
    isplitl [HO]; · iexact HO
    isplitr; · iapply (mayWait_cell c none 3 (by decide)); iexact HL
    iexact Hat
  iintro ⟨HO, Hat, -, Hpay⟩
  ihave Hp := (Entails.of_eq (rest_bar A c)) $$ Hpay
  imod (Rounds.cell_close ER (Rd A) (Set.mem_univ (K (c, none))) (fun h => h) (R := 0 + 1) (duties_later A (cellOf c none))) $$ [Hat] with Hz
  · isplitr; · iapply (records_inv A K c none); iexact HR
    iexact Hat
  iapply Hk
  icases Hp with ⟨p0, p1, p2⟩
  isplitl [p0]; · iexact p0
  isplitl [p1]; · iexact p1
  isplitl [p2]; · iexact p2
  isplitl [Hz]; · iexact Hz
  iexists _; iexact HO

/-- The place is read. -/
theorem stage1 (c : Dev nD) {R : Type} {Q : R → sProp (MM F)} {κ : Dev nD → BitVec 32 → BitVec 32 → BitVec 32 → BitVec 32 → BitVec 32 → Prog (TpuEff nD τ sig (Elt F) Λ₀ .tc) R} :
    iprop(∀ v7 v13 v19 v25 v26, wpc c (κ c v7 v13 v19 v25 v26) Q) ⊢ wpc c (pst1 κ) Q := by
  unfold pst1 st1
  simp only [k0_part1_eq_skeleton, k0_part1_skel, Prog.lift, Prog.bind_op, Prog.bind_ret, Prog.pure_eq_ret, wp_deviceId]
  iintro H
  iapply H

set_option maxHeartbeats 4000000 in
/-- All copies but the last are enqueued. -/
theorem stage2 (c : Dev nD) (v26 : BitVec 32) (f2 f3 : FVec F S1x1024x64x128 .f32)
    {R : Type} {Q : R → sProp (MM F)} {κ : Prog (TpuEff nD τ sig (Elt F) Λ₀ .tc) R} :
    iprop((hPts c false 0 f2 ∗ hPts c true 0 f3 ∗ hPts c false 1 f2 ∗ hPts c true 1 f3 ∗ hPts c false 2 f2 ∗ hPts c true 2 f3 ∗ hPts c false 3 f2 ∗ hPts c true 3 f3 ∗ hPts c false 4 f2 ∗ hPts c true 4 f3 ∗ hPts c false 5 f2 ∗ hPts c true 5 f3 ∗ hPts c false 6 f2 ∗ hPts c true 6 f3 ∗ hPts c false 7 f2 ∗ hPts c true 7 f3) ∗ ((∃ g, sPts c false 0 g) ∗ (∃ g, sPts c true 0 g) ∗ (∃ g, sPts c false 1 g) ∗ (∃ g, sPts c true 1 g) ∗ (∃ g, sPts c false 2 g) ∗ (∃ g, sPts c true 2 g) ∗ (∃ g, sPts c false 3 g) ∗ (∃ g, sPts c true 3 g) ∗ (∃ g, sPts c false 4 g) ∗ (∃ g, sPts c true 4 g) ∗ (∃ g, sPts c false 5 g) ∗ (∃ g, sPts c true 5 g) ∗ (∃ g, sPts c false 6 g) ∗ (∃ g, sPts c true 6 g) ∗ (∃ g, sPts c false 7 g) ∗ (∃ g, sPts c true 7 g)) ∗ semVal ((c : Thread nD τ), SemLoc.dma (kvS false 0)) 0 ∗ semVal ((c : Thread nD τ), SemLoc.dma (kvS true 0)) 0 ∗ semVal ((c : Thread nD τ), SemLoc.dma (kvS false 1)) 0 ∗ semVal ((c : Thread nD τ), SemLoc.dma (kvS true 1)) 0 ∗ semVal ((c : Thread nD τ), SemLoc.dma (kvS false 2)) 0 ∗ semVal ((c : Thread nD τ), SemLoc.dma (kvS true 2)) 0 ∗ semVal ((c : Thread nD τ), SemLoc.dma (kvS false 3)) 0 ∗ semVal ((c : Thread nD τ), SemLoc.dma (kvS true 3)) 0 ∗ semVal ((c : Thread nD τ), SemLoc.dma (kvS false 4)) 0 ∗ semVal ((c : Thread nD τ), SemLoc.dma (kvS true 4)) 0 ∗ semVal ((c : Thread nD τ), SemLoc.dma (kvS false 5)) 0 ∗ semVal ((c : Thread nD τ), SemLoc.dma (kvS true 5)) 0 ∗ semVal ((c : Thread nD τ), SemLoc.dma (kvS false 6)) 0 ∗ semVal ((c : Thread nD τ), SemLoc.dma (kvS true 6)) 0 ∗ semVal ((c : Thread nD τ), SemLoc.dma (kvS false 7)) 0 ∗ semVal ((c : Thread nD τ), SemLoc.dma (kvS true 7)) 0)
      ⊢ iprop(((flight c false 0 f2 ∗ flight c true 0 f3 ∗ flight c false 1 f2 ∗ flight c true 1 f3 ∗ flight c false 2 f2 ∗ flight c true 2 f3 ∗ flight c false 3 f2 ∗ flight c true 3 f3 ∗ flight c false 4 f2 ∗ flight c true 4 f3 ∗ flight c false 5 f2 ∗ flight c true 5 f3 ∗ flight c false 6 f2 ∗ flight c true 6 f3 ∗ flight c false 7 f2 ∗ hPts c true 7 f3 ∗ (∃ g, sPts c true 7 g) ∗ semVal ((c : Thread nD τ), SemLoc.dma (kvS true 7)) 0)
          -∗ wpc c κ Q) -∗ wpc c (pst2 c v26 κ) Q) := by
  unfold pst2 st2
  simp only [k0_part2_eq_skeleton, k0_part2_skel, k0_part3_eq_skeleton, k0_part3_skel, k0_part4_eq_skeleton, k0_part4_skel, k0_part5_eq_skeleton, k0_part5_skel, semSignalWord, semWaitWord, Prog.lift, Prog.bind_op, Prog.bind_ret, Prog.pure_eq_ret, wp_deviceId]
  iintro ⟨⟨hk0, hv0, hk1, hv1, hk2, hv2, hk3, hv3, hk4, hv4, hk5, hv5, hk6, hv6, hk7, hv7⟩, ⟨sk0, sv0, sk1, sv1, sk2, sv2, sk3, sv3, sk4, sv4, sk5, sv5, sk6, sv6, sk7, sv7⟩, zk0, zv0, zk1, zv1, zk2, zv2, zk3, zv3, zk4, zv4, zk5, zv5, zk6, zv6, zk7, zv7⟩ Hk
  iapply (kv_send false 0 c f2) $$ [$hk0 $sk0 $zk0]; iintro wk0
  iapply (kv_send true 0 c f3) $$ [$hv0 $sv0 $zv0]; iintro wv0
  iapply (kv_send false 1 c f2) $$ [$hk1 $sk1 $zk1]; iintro wk1
  iapply (kv_send true 1 c f3) $$ [$hv1 $sv1 $zv1]; iintro wv1
  iapply (kv_send false 2 c f2) $$ [$hk2 $sk2 $zk2]; iintro wk2
  iapply (kv_send true 2 c f3) $$ [$hv2 $sv2 $zv2]; iintro wv2
  iapply (kv_send false 3 c f2) $$ [$hk3 $sk3 $zk3]; iintro wk3
  iapply (kv_send true 3 c f3) $$ [$hv3 $sv3 $zv3]; iintro wv3
  iapply (kv_send false 4 c f2) $$ [$hk4 $sk4 $zk4]; iintro wk4
  iapply (kv_send true 4 c f3) $$ [$hv4 $sv4 $zv4]; iintro wv4
  iapply (kv_send false 5 c f2) $$ [$hk5 $sk5 $zk5]; iintro wk5
  iapply (kv_send true 5 c f3) $$ [$hv5 $sv5 $zv5]; iintro wv5
  iapply (kv_send false 6 c f2) $$ [$hk6 $sk6 $zk6]; iintro wk6
  iapply (kv_send true 6 c f3) $$ [$hv6 $sv6 $zv6]; iintro wv6
  iapply (kv_send false 7 c f2) $$ [$hk7 $sk7 $zk7]; iintro wk7
  iapply Hk
  iframe

/-- What the barrier takes and brings. -/
def barIn (c : Dev nD) : sProp (MM F) :=
  iprop((barPay 0 c ∗ barPay 1 c ∗ barPay 2 c) ∗ (dutyTok ER (cellOf (acr 0 c) none) 0 0 ∗ dutyTok ER (cellOf (acr 1 c) none) 0 1 ∗ dutyTok ER (cellOf (acr 2 c) none) 0 2)
    ∗ cred (tallyAt (cellOf c none) true 3) ∗ atPos ER (cellOf c none) 0 ∅ 0)
def barOut (c : Dev nD) : sProp (MM F) := iprop(barPay 0 (acr 0 c) ∗ barPay 1 (acr 1 c) ∗ barPay 2 (acr 2 c) ∗ semVal (cellOf c none) 0)

/-- The staged inputs. -/
def stagedIn (c : Dev nD) (x wq wo : FVec F S1024x1024 .f32) : sProp (MM F) := iprop(pt c xM x ∗ pt c wqM wq ∗ pt c woM wo)

theorem whole_read {c : Dev nD} (x : FVec F S1024x1024 .f32) (inb : ∀ a, (![0, 0] : Fin 2 → ℕ) a + S1024x1024.size a ≤ S1024x1024.size a) :
    xM.view.readAt (Elt F) (Rect.unit (s := S1024x1024) ![0, 0] S1024x1024.size inb).toLoadRect (x : Bf (F := F) c xM) = x
    ∧ wqM.view.readAt (Elt F) (Rect.unit (s := S1024x1024) ![0, 0] S1024x1024.size inb).toLoadRect (x : Bf (F := F) c wqM) = x
    ∧ woM.view.readAt (Elt F) (Rect.unit (s := S1024x1024) ![0, 0] S1024x1024.size inb).toLoadRect (x : Bf (F := F) c woM) = x := by
  have hz : (![0, 0] : Fin 2 → ℕ) = fun _ => 0 := funext fun a => by fin_cases a <;> rfl
  exact ⟨Memref.readAt_unit_zero (Elt F) _ hz _ _, Memref.readAt_unit_zero (Elt F) _ hz _ _, Memref.readAt_unit_zero (Elt F) _ hz _ _⟩

set_option maxHeartbeats 4000000 in
/-- The barrier, the inputs read, the copies awaited and read by class. -/
theorem stage3 (c : Dev nD) (v13 v19 v25 : BitVec 32) (f2 f3 : FVec F S1x1024x64x128 .f32) (x wq wo : FVec F S1024x1024 .f32)
    {R : Type} {Q : R → sProp (MM F)} {κ : FVec F S1024x1024 .f32 → FVec F S1024x1024 .bf16 → FVec F S8x256x128 .bf16 → FVec F S8x256x128 .bf16 → FVec F S8x256x128 .bf16 → FVec F S8x256x128 .bf16 → FVec F S8x256x128 .bf16 → FVec F S8x256x128 .bf16 → FVec F S8x256x128 .bf16 → FVec F S8x256x128 .bf16 → FVec F S128x1024 .f32 → FVec F S128x128 .bf16 → FVec F S256x128 .bf16 → FVec F S128x256 .f32 → Prog (TpuEff nD τ sig (Elt F) Λ₀ .tc) R} :
    iprop(ctx A K ∗ (flight c false 0 f2 ∗ flight c true 0 f3 ∗ flight c false 1 f2 ∗ flight c true 1 f3 ∗ flight c false 2 f2 ∗ flight c true 2 f3 ∗ flight c false 3 f2 ∗ flight c true 3 f3 ∗ flight c false 4 f2 ∗ flight c true 4 f3 ∗ flight c false 5 f2 ∗ flight c true 5 f3 ∗ flight c false 6 f2 ∗ flight c true 6 f3 ∗ flight c false 7 f2 ∗ hPts c true 7 f3 ∗ (∃ g, sPts c true 7 g) ∗ semVal ((c : Thread nD τ), SemLoc.dma (kvS true 7)) 0)
        ∗ barIn c ∗ stagedIn c x wq wo ∗ owesE c (Ow c 0))
      ⊢ iprop((((hPts c false 0 f2 ∗ hPts c true 0 f3 ∗ hPts c false 1 f2 ∗ hPts c true 1 f3 ∗ hPts c false 2 f2 ∗ hPts c true 2 f3 ∗ hPts c false 3 f2 ∗ hPts c true 3 f3 ∗ hPts c false 4 f2 ∗ hPts c true 4 f3 ∗ hPts c false 5 f2 ∗ hPts c true 5 f3 ∗ hPts c false 6 f2 ∗ hPts c true 6 f3 ∗ hPts c false 7 f2 ∗ hPts c true 7 f3) ∗ (pt c ksM (staged c f2) ∗ pt c vsM (staged c f3)) ∗ (semVal ((c : Thread nD τ), SemLoc.dma (kvS false 0)) 0 ∗ semVal ((c : Thread nD τ), SemLoc.dma (kvS true 0)) 0 ∗ semVal ((c : Thread nD τ), SemLoc.dma (kvS false 1)) 0 ∗ semVal ((c : Thread nD τ), SemLoc.dma (kvS true 1)) 0 ∗ semVal ((c : Thread nD τ), SemLoc.dma (kvS false 2)) 0 ∗ semVal ((c : Thread nD τ), SemLoc.dma (kvS true 2)) 0 ∗ semVal ((c : Thread nD τ), SemLoc.dma (kvS false 3)) 0 ∗ semVal ((c : Thread nD τ), SemLoc.dma (kvS true 3)) 0 ∗ semVal ((c : Thread nD τ), SemLoc.dma (kvS false 4)) 0 ∗ semVal ((c : Thread nD τ), SemLoc.dma (kvS true 4)) 0 ∗ semVal ((c : Thread nD τ), SemLoc.dma (kvS false 5)) 0 ∗ semVal ((c : Thread nD τ), SemLoc.dma (kvS true 5)) 0 ∗ semVal ((c : Thread nD τ), SemLoc.dma (kvS false 6)) 0 ∗ semVal ((c : Thread nD τ), SemLoc.dma (kvS true 6)) 0 ∗ semVal ((c : Thread nD τ), SemLoc.dma (kvS false 7)) 0 ∗ semVal ((c : Thread nD τ), SemLoc.dma (kvS true 7)) 0) ∗ barOut c ∗ stagedIn c x wq wo ∗ owesE c (Ow c 3))
          -∗ wpc c (κ (k0_pay1 x wq) (k0_pay2 wo) (slabs 0 (staged c f2)) (slabs 1 (staged c f2)) (slabs 2 (staged c f2)) (slabs 3 (staged c f2))
              (slabs 0 (staged c f3)) (slabs 1 (staged c f3)) (slabs 2 (staged c f3)) (slabs 3 (staged c f3))
              (k0_pay11 (k0_pay1 x wq)) (k0_pay12 (k0_pay1 x wq)) (k0_pay13 (slabs 0 (staged c f2))) (constant S128x256 .f32 0x00000000#32)) Q)
        -∗ wpc c (pst3 c v13 v19 v25 κ) Q) := by
  unfold pst3 st3
  simp only [k0_part6_eq_skeleton, k0_part6_skel, k0_part7_eq_skeleton, k0_part7_skel, k0_part8_eq_skeleton, k0_part8_skel, k0_part9_eq_skeleton, k0_part9_skel, k0_part10_eq_skeleton, k0_part10_skel, k0_part11_eq_skeleton, k0_part11_skel, k0_part12_eq_skeleton, k0_part12_skel, semSignalWord, semWaitWord, Prog.lift, Prog.bind_op, Prog.bind_ret, Prog.pure_eq_ret, wp_deviceId]
  unfold barIn barOut stagedIn
  iintro ⟨#HC, ⟨wk0, wv0, wk1, wv1, wk2, wv2, wk3, wv3, wk4, wv4, wk5, wv5, wk6, wv6, wk7, hv7, sv7, zv7⟩, ⟨⟨b0, b1, b2⟩, ⟨t0, t1, t2⟩, Hcb, Hab⟩, ⟨Hx, Hwq, Hwo⟩, HO⟩ Hk
  iapply (kv_send true 7 c f3) $$ [$hv7 $sv7 $zv7]; iintro wv7
  iapply (bar_signal A K 0 c _ (dev1_eq c) rfl 0 rfl) $$ [$HC $b0 $t0 $HO]; iintro HO
  iapply (bar_signal A K 1 c _ (dev2_eq c) rfl 1 rfl) $$ [$HC $b1 $t1 $HO]; iintro HO
  iapply (bar_signal A K 2 c _ (dev3_eq c) rfl 2 rfl) $$ [$HC $b2 $t2 $HO]; iintro HO
  iapply (bar_wait A K c rfl) $$ [$HC $Hcb $Hab $HO]; iintro ⟨b0, b1, b2, Hbz, HO⟩
  ihave #HL := (ctx_lev A K) $$ HC
  iapply (wp_load 𝒱₀ (c : Thread nD τ) none Set.univ (m := xM) (Finset.subset_univ _)) $$ Hx; iintro Hx
  iapply (wp_load 𝒱₀ (c : Thread nD τ) none Set.univ (m := wqM) (Finset.subset_univ _)) $$ Hwq; iintro Hwq
  iapply (wp_load 𝒱₀ (c : Thread nD τ) none Set.univ (m := woM) (Finset.subset_univ _)) $$ Hwo; iintro Hwo
  iapply (kv_wait false 0 c 3 f2) $$ [$HL $wk0 $HO]; iintro ⟨sk0, hk0, zk0, HO⟩
  iapply (kv_wait true 0 c 3 f3) $$ [$HL $wv0 $HO]; iintro ⟨sv0, hv0, zv0, HO⟩
  iapply (kv_wait false 1 c 3 f2) $$ [$HL $wk1 $HO]; iintro ⟨sk1, hk1, zk1, HO⟩
  iapply (kv_wait true 1 c 3 f3) $$ [$HL $wv1 $HO]; iintro ⟨sv1, hv1, zv1, HO⟩
  iapply (kv_wait false 2 c 3 f2) $$ [$HL $wk2 $HO]; iintro ⟨sk2, hk2, zk2, HO⟩
  iapply (kv_wait true 2 c 3 f3) $$ [$HL $wv2 $HO]; iintro ⟨sv2, hv2, zv2, HO⟩
  iapply (kv_wait false 3 c 3 f2) $$ [$HL $wk3 $HO]; iintro ⟨sk3, hk3, zk3, HO⟩
  iapply (kv_wait true 3 c 3 f3) $$ [$HL $wv3 $HO]; iintro ⟨sv3, hv3, zv3, HO⟩
  iapply (kv_wait false 4 c 3 f2) $$ [$HL $wk4 $HO]; iintro ⟨sk4, hk4, zk4, HO⟩
  iapply (kv_wait true 4 c 3 f3) $$ [$HL $wv4 $HO]; iintro ⟨sv4, hv4, zv4, HO⟩
  iapply (kv_wait false 5 c 3 f2) $$ [$HL $wk5 $HO]; iintro ⟨sk5, hk5, zk5, HO⟩
  iapply (kv_wait true 5 c 3 f3) $$ [$HL $wv5 $HO]; iintro ⟨sv5, hv5, zv5, HO⟩
  iapply (kv_wait false 6 c 3 f2) $$ [$HL $wk6 $HO]; iintro ⟨sk6, hk6, zk6, HO⟩
  iapply (kv_wait true 6 c 3 f3) $$ [$HL $wv6 $HO]; iintro ⟨sv6, hv6, zv6, HO⟩
  iapply (kv_wait false 7 c 3 f2) $$ [$HL $wk7 $HO]; iintro ⟨sk7, hk7, zk7, HO⟩
  iapply (kv_wait true 7 c 3 f3) $$ [$HL $wv7 $HO]; iintro ⟨sv7, hv7, zv7, HO⟩
  ihave Hks := (kslabs_join c (staged c f2)) $$ [$sk0 $sk1 $sk2 $sk3 $sk4 $sk5 $sk6 $sk7]
  ihave Hvs := (vslabs_join c (staged c f3)) $$ [$sv0 $sv1 $sv2 $sv3 $sv4 $sv5 $sv6 $sv7]
  have hx := (whole_read (c := c) x inb_S1024x1024_S1024x1024_0_0).1
  have hwq := (whole_read (c := c) wq inb_S1024x1024_S1024x1024_0_0).2.1
  have hwo := (whole_read (c := c) wo inb_S1024x1024_S1024x1024_0_0).2.2
  rw [hx, hwq, hwo]
  iapply (wp_load 𝒱₀ (c : Thread nD τ) none Set.univ (m := ksM) (Finset.subset_univ _)) $$ Hks; iintro Hks
  iapply (wp_load 𝒱₀ (c : Thread nD τ) none Set.univ (m := ksM) (Finset.subset_univ _)) $$ Hks; iintro Hks
  iapply (wp_load 𝒱₀ (c : Thread nD τ) none Set.univ (m := ksM) (Finset.subset_univ _)) $$ Hks; iintro Hks
  iapply (wp_load 𝒱₀ (c : Thread nD τ) none Set.univ (m := ksM) (Finset.subset_univ _)) $$ Hks; iintro Hks
  iapply (wp_load 𝒱₀ (c : Thread nD τ) none Set.univ (m := ksM) (Finset.subset_univ _)) $$ Hks; iintro Hks
  iapply (wp_load 𝒱₀ (c : Thread nD τ) none Set.univ (m := ksM) (Finset.subset_univ _)) $$ Hks; iintro Hks
  iapply (wp_load 𝒱₀ (c : Thread nD τ) none Set.univ (m := ksM) (Finset.subset_univ _)) $$ Hks; iintro Hks
  iapply (wp_load 𝒱₀ (c : Thread nD τ) none Set.univ (m := ksM) (Finset.subset_univ _)) $$ Hks; iintro Hks
  iapply (wp_load 𝒱₀ (c : Thread nD τ) none Set.univ (m := ksM) (Finset.subset_univ _)) $$ Hks; iintro Hks
  iapply (wp_load 𝒱₀ (c : Thread nD τ) none Set.univ (m := ksM) (Finset.subset_univ _)) $$ Hks; iintro Hks
  iapply (wp_load 𝒱₀ (c : Thread nD τ) none Set.univ (m := ksM) (Finset.subset_univ _)) $$ Hks; iintro Hks
  iapply (wp_load 𝒱₀ (c : Thread nD τ) none Set.univ (m := ksM) (Finset.subset_univ _)) $$ Hks; iintro Hks
  iapply (wp_load 𝒱₀ (c : Thread nD τ) none Set.univ (m := ksM) (Finset.subset_univ _)) $$ Hks; iintro Hks
  iapply (wp_load 𝒱₀ (c : Thread nD τ) none Set.univ (m := ksM) (Finset.subset_univ _)) $$ Hks; iintro Hks
  iapply (wp_load 𝒱₀ (c : Thread nD τ) none Set.univ (m := ksM) (Finset.subset_univ _)) $$ Hks; iintro Hks
  iapply (wp_load 𝒱₀ (c : Thread nD τ) none Set.univ (m := ksM) (Finset.subset_univ _)) $$ Hks; iintro Hks
  iapply (wp_load 𝒱₀ (c : Thread nD τ) none Set.univ (m := vsM) (Finset.subset_univ _)) $$ Hvs; iintro Hvs
  iapply (wp_load 𝒱₀ (c : Thread nD τ) none Set.univ (m := vsM) (Finset.subset_univ _)) $$ Hvs; iintro Hvs
  iapply (wp_load 𝒱₀ (c : Thread nD τ) none Set.univ (m := vsM) (Finset.subset_univ _)) $$ Hvs; iintro Hvs
  iapply (wp_load 𝒱₀ (c : Thread nD τ) none Set.univ (m := vsM) (Finset.subset_univ _)) $$ Hvs; iintro Hvs
  iapply (wp_load 𝒱₀ (c : Thread nD τ) none Set.univ (m := vsM) (Finset.subset_univ _)) $$ Hvs; iintro Hvs
  iapply (wp_load 𝒱₀ (c : Thread nD τ) none Set.univ (m := vsM) (Finset.subset_univ _)) $$ Hvs; iintro Hvs
  iapply (wp_load 𝒱₀ (c : Thread nD τ) none Set.univ (m := vsM) (Finset.subset_univ _)) $$ Hvs; iintro Hvs
  iapply (wp_load 𝒱₀ (c : Thread nD τ) none Set.univ (m := vsM) (Finset.subset_univ _)) $$ Hvs; iintro Hvs
  iapply (wp_load 𝒱₀ (c : Thread nD τ) none Set.univ (m := vsM) (Finset.subset_univ _)) $$ Hvs; iintro Hvs
  iapply (wp_load 𝒱₀ (c : Thread nD τ) none Set.univ (m := vsM) (Finset.subset_univ _)) $$ Hvs; iintro Hvs
  iapply (wp_load 𝒱₀ (c : Thread nD τ) none Set.univ (m := vsM) (Finset.subset_univ _)) $$ Hvs; iintro Hvs
  iapply (wp_load 𝒱₀ (c : Thread nD τ) none Set.univ (m := vsM) (Finset.subset_univ _)) $$ Hvs; iintro Hvs
  iapply (wp_load 𝒱₀ (c : Thread nD τ) none Set.univ (m := vsM) (Finset.subset_univ _)) $$ Hvs; iintro Hvs
  iapply (wp_load 𝒱₀ (c : Thread nD τ) none Set.univ (m := vsM) (Finset.subset_univ _)) $$ Hvs; iintro Hvs
  iapply (wp_load 𝒱₀ (c : Thread nD τ) none Set.univ (m := vsM) (Finset.subset_univ _)) $$ Hvs; iintro Hvs
  iapply (wp_load 𝒱₀ (c : Thread nD τ) none Set.univ (m := vsM) (Finset.subset_univ _)) $$ Hvs; iintro Hvs
  iapply Hk
  iframe

end Cert.KProof

end
-- ==== Proof.Front.lean ====
/-
The body up to the last attention store: what a device starts with, taken apart, and the stretches run one after another.
-/
module

public import proofs.«01_k».proof.Proof.Cover
public import proofs.«01_k».proof.Proof.Halves
public import proofs.«01_k».proof.Proof.Comm
public import proofs.«01_k».proof.Proof.Staging
public import Idealize.ShloMosaic.Lib.Pointwise.Reshape

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem bigSep9 (Φ : Fin 9 → sProp (MM F)) : bigSep Finset.univ Φ = iprop(Φ 0 ∗ Φ 1 ∗ Φ 2 ∗ Φ 3 ∗ Φ 4 ∗ Φ 5 ∗ Φ 6 ∗ Φ 7 ∗ Φ 8) :=
  bigSep_univ_eq_bigSepL [0, 1, 2, 3, 4, 5, 6, 7, 8] (by decide) (by decide) Φ

/-- The kernel's scratch buffers. -/
def scr (c : Dev nD) : sProp (MM F) :=
  iprop((∃ f, pt c aM f) ∗ (∃ f, pt c cM f) ∗ (∃ f, pt c ksM f) ∗ (∃ f, pt c vsM f) ∗ bigSep Finset.univ fun k : Fin 9 => iprop(∃ f, rPts k c f))

/-- The counters of the copies of keys and values, at zero. -/
def kvZ (c : Dev nD) : sProp (MM F) :=
  iprop(semVal ((c : Thread nD τ), SemLoc.dma (kvS false 0)) 0 ∗ semVal ((c : Thread nD τ), SemLoc.dma (kvS true 0)) 0 ∗ semVal ((c : Thread nD τ), SemLoc.dma (kvS false 1)) 0 ∗ semVal ((c : Thread nD τ), SemLoc.dma (kvS true 1)) 0 ∗ semVal ((c : Thread nD τ), SemLoc.dma (kvS false 2)) 0 ∗ semVal ((c : Thread nD τ), SemLoc.dma (kvS true 2)) 0 ∗ semVal ((c : Thread nD τ), SemLoc.dma (kvS false 3)) 0 ∗ semVal ((c : Thread nD τ), SemLoc.dma (kvS true 3)) 0 ∗ semVal ((c : Thread nD τ), SemLoc.dma (kvS false 4)) 0 ∗ semVal ((c : Thread nD τ), SemLoc.dma (kvS true 4)) 0 ∗ semVal ((c : Thread nD τ), SemLoc.dma (kvS false 5)) 0 ∗ semVal ((c : Thread nD τ), SemLoc.dma (kvS true 5)) 0 ∗ semVal ((c : Thread nD τ), SemLoc.dma (kvS false 6)) 0 ∗ semVal ((c : Thread nD τ), SemLoc.dma (kvS true 6)) 0 ∗ semVal ((c : Thread nD τ), SemLoc.dma (kvS false 7)) 0 ∗ semVal ((c : Thread nD τ), SemLoc.dma (kvS true 7)) 0)

/-- A device's shares of the exchange's ghost state: its tokens, its positions and its credits. -/
def work (c : Dev nD) : sProp (MM F) :=
  iprop((bigSep Finset.univ fun k : Fin 9 => iprop(toks 0 1 k c ∗ half 0 1 k c ∗ toks 2 3 k c ∗ half 2 3 k c))
    ∗ (dutyTok ER (cellOf (acr 0 c) none) 0 0 ∗ dutyTok ER (cellOf (acr 1 c) none) 0 1 ∗ dutyTok ER (cellOf (acr 2 c) none) 0 2)
    ∗ cred (tallyAt (cellOf c none) true 3) ∗ atPos ER (cellOf c none) 0 ∅ 0)

/-- The exchange's counters, at zero again. -/
def closed (c : Dev nD) : sProp (MM F) :=
  iprop((bigSep Finset.univ fun k : Fin 9 => iprop(post 0 1 k c ∗ post 2 3 k c)) ∗ semVal (cellOf c none) 0)

/-- The keys and values, head by head. -/
theorem kv_open (c : Dev nD) (f2 f3 : FVec F S1x1024x64x128 .f32) :
    iprop(pt c kM f2 ∗ pt c vM f3) ⊢ iprop((hPts c false 0 f2 ∗ hPts c true 0 f3 ∗ hPts c false 1 f2 ∗ hPts c true 1 f3 ∗ hPts c false 2 f2 ∗ hPts c true 2 f3 ∗ hPts c false 3 f2 ∗ hPts c true 3 f3 ∗ hPts c false 4 f2 ∗ hPts c true 4 f3 ∗ hPts c false 5 f2 ∗ hPts c true 5 f3 ∗ hPts c false 6 f2 ∗ hPts c true 6 f3 ∗ hPts c false 7 f2 ∗ hPts c true 7 f3) ∗ otherHeads c false f2 ∗ otherHeads c true f3) := by
  iintro ⟨Hk, Hv⟩
  ihave Hk := (show pt c kM f2 ⊢ _ from Entails.of_eq (heads_eq c false f2)) $$ Hk
  ihave Hv := (show pt c vM f3 ⊢ _ from Entails.of_eq (heads_eq c true f3)) $$ Hv
  icases Hk with ⟨⟨hk0, hk1, hk2, hk3, hk4, hk5, hk6, hk7⟩, ok⟩
  icases Hv with ⟨⟨hv0, hv1, hv2, hv3, hv4, hv5, hv6, hv7⟩, ov⟩
  iframe

theorem kv_close (c : Dev nD) (f2 f3 : FVec F S1x1024x64x128 .f32) :
    iprop((hPts c false 0 f2 ∗ hPts c true 0 f3 ∗ hPts c false 1 f2 ∗ hPts c true 1 f3 ∗ hPts c false 2 f2 ∗ hPts c true 2 f3 ∗ hPts c false 3 f2 ∗ hPts c true 3 f3 ∗ hPts c false 4 f2 ∗ hPts c true 4 f3 ∗ hPts c false 5 f2 ∗ hPts c true 5 f3 ∗ hPts c false 6 f2 ∗ hPts c true 6 f3 ∗ hPts c false 7 f2 ∗ hPts c true 7 f3) ∗ otherHeads c false f2 ∗ otherHeads c true f3) ⊢ iprop(pt c kM f2 ∗ pt c vM f3) := by
  iintro ⟨⟨hk0, hv0, hk1, hv1, hk2, hv2, hk3, hv3, hk4, hv4, hk5, hv5, hk6, hv6, hk7, hv7⟩, ok, ov⟩
  isplitl [hk0 hk1 hk2 hk3 hk4 hk5 hk6 hk7 ok]
  · iapply (show _ ⊢ pt c kM f2 from Entails.of_eq (heads_eq c false f2).symm)
    iframe
  · iapply (show _ ⊢ pt c vM f3 from Entails.of_eq (heads_eq c true f3).symm)
    iframe

/-- Their landing buffers, slab by slab. -/
theorem slabs_open (c : Dev nD) : iprop((∃ g, pt c ksM g) ∗ (∃ g, pt c vsM g)) ⊢ (iprop((∃ g, sPts c false 0 g) ∗ (∃ g, sPts c true 0 g) ∗ (∃ g, sPts c false 1 g) ∗ (∃ g, sPts c true 1 g) ∗ (∃ g, sPts c false 2 g) ∗ (∃ g, sPts c true 2 g) ∗ (∃ g, sPts c false 3 g) ∗ (∃ g, sPts c true 3 g) ∗ (∃ g, sPts c false 4 g) ∗ (∃ g, sPts c true 4 g) ∗ (∃ g, sPts c false 5 g) ∗ (∃ g, sPts c true 5 g) ∗ (∃ g, sPts c false 6 g) ∗ (∃ g, sPts c true 6 g) ∗ (∃ g, sPts c false 7 g) ∗ (∃ g, sPts c true 7 g)) : sProp (MM F)) := by
  iintro ⟨⟨%g, Hk⟩, ⟨%g', Hv⟩⟩
  ihave Hk := (show pt c ksM g ⊢ _ from Entails.of_eq (slabs_eq c false g)) $$ Hk
  ihave Hv := (show pt c vsM g' ⊢ _ from Entails.of_eq (slabs_eq c true g')) $$ Hv
  icases Hk with ⟨sk0, sk1, sk2, sk3, sk4, sk5, sk6, sk7⟩
  icases Hv with ⟨sv0, sv1, sv2, sv3, sv4, sv5, sv6, sv7⟩
  isplitl [sk0]; · iexists g; iexact sk0
  isplitl [sv0]; · iexists g'; iexact sv0
  isplitl [sk1]; · iexists g; iexact sk1
  isplitl [sv1]; · iexists g'; iexact sv1
  isplitl [sk2]; · iexists g; iexact sk2
  isplitl [sv2]; · iexists g'; iexact sv2
  isplitl [sk3]; · iexists g; iexact sk3
  isplitl [sv3]; · iexists g'; iexact sv3
  isplitl [sk4]; · iexists g; iexact sk4
  isplitl [sv4]; · iexists g'; iexact sv4
  isplitl [sk5]; · iexists g; iexact sk5
  isplitl [sv5]; · iexists g'; iexact sv5
  isplitl [sk6]; · iexists g; iexact sk6
  isplitl [sv6]; · iexists g'; iexact sv6
  isplitl [sk7]; · iexists g; iexact sk7
  iexists g'; iexact sv7

/-- What a device has to give at the barrier. -/
theorem bar_in (c : Dev nD) : iprop(((∃ f, rPts 0 c f) ∗ (∃ f, rPts 1 c f) ∗ (∃ f, rPts 2 c f) ∗ (∃ f, rPts 3 c f) ∗ (∃ f, rPts 4 c f) ∗ (∃ f, rPts 5 c f) ∗ (∃ f, rPts 6 c f) ∗ (∃ f, rPts 7 c f) ∗ (∃ f, rPts 8 c f)) ∗ ((∃ f, oRows c (sendLo 0 c) (ln 0) f) ∗ (∃ f, oRows c (sendLo 1 c) (ln 1) f) ∗ (∃ f, oRows c (sendLo 2 c) (ln 2) f) ∗ (∃ f, oRows c (sendLo 3 c) (ln 3) f) ∗ (∃ f, oRows c (sendLo 4 c) (ln 4) f) ∗ (∃ f, oRows c (sendLo 5 c) (ln 5) f) ∗ (∃ f, oRows c (sendLo 6 c) (ln 6) f) ∗ (∃ f, oRows c (sendLo 7 c) (ln 7) f) ∗ (∃ f, oRows c (sendLo 8 c) (ln 8) f))
    ∗ (dutyTok ER (cellOf (acr 0 c) none) 0 0 ∗ dutyTok ER (cellOf (acr 1 c) none) 0 1 ∗ dutyTok ER (cellOf (acr 2 c) none) 0 2)
    ∗ cred (tallyAt (cellOf c none) true 3) ∗ atPos ER (cellOf c none) 0 ∅ 0) ⊢ (barIn c : sProp (MM F)) := by
  iintro ⟨⟨r0, r1, r2, r3, r4, r5, r6, r7, r8⟩, ⟨o0, o1, o2, o3, o4, o5, o6, o7, o8⟩, Hbt, Hbc, Hba⟩
  unfold barIn
  rw [show (barPay 0 c : sProp (MM F)) = iprop(give 0 c ∗ give 5 c ∗ give 7 c) from rfl, show (barPay 1 c : sProp (MM F)) = iprop(give 1 c ∗ give 3 c ∗ give 8 c) from rfl,
    show (barPay 2 c : sProp (MM F)) = iprop(give 2 c ∗ give 4 c ∗ give 6 c) from rfl]
  unfold give
  iframe

variable (A : Dev nD → FVec F S1024x1024 .bf16) (N : Dev nD × CK → ℕ)

set_option maxHeartbeats 8000000 in
/-- Before the exchange: the stretches up to the last attention store. -/
theorem front (c : Dev nD) (f2 f3 : FVec F S1x1024x64x128 .f32) (x wq wo : FVec F S1024x1024 .f32)
    (hA : A c = ownSum x wq wo (staged c f2) (staged c f3))
    {R : Type} {Q : R → sProp (MM F)} {κ : Dev nD → BitVec 32 → BitVec 32 → BitVec 32 → BitVec 32 → BitVec 32 → BitVec 32 → Prog (TpuEff nD τ sig (Elt F) Λ₀ .tc) R} :
    iprop(ctx A N ∗ (pt c kM f2 ∗ pt c vM f3) ∗ scr c ∗ kvZ c ∗ work c ∗ (∃ g, pt c oM g) ∗ stagedIn c x wq wo ∗ owesE c (Ow c 0))
      ⊢ iprop((∀ v7 v13 v19 v25 v1190 v2086, ((pt c kM f2 ∗ pt c vM f3) ∗ (∃ f, pt c cM f) ∗ (∃ f, pt c ksM f) ∗ (∃ f, pt c vsM f) ∗ kvZ c ∗ semVal (cellOf c none) 0
            ∗ rsPre A c ∗ (preG 0 c ∗ preG 1 c ∗ preG 2 c ∗ preG 3 c ∗ preG 4 c ∗ preG 5 c ∗ preG 6 c ∗ preG 7 c ∗ preG 8 c)
            ∗ ((∃ f, oRows c (keepLo 2 c) (ln 2) f) ∗ (∃ f, oRows c (keepLo 5 c) (ln 5) f) ∗ (∃ f, oRows c (keepLo 8 c) (ln 8) f))
            ∗ stagedIn c x wq wo)
          -∗ wpc c (κ c v7 v13 v19 v25 v1190 v2086) Q)
        -∗ wpc c (pst1 fun d0 v7 v13 v19 v25 v26 => pst2 d0 v26 (pst3 d0 v13 v19 v25 fun v154 v157 v259 v265 v271 v277 v283 v289 v295 v301 v304 v306 v308 cst_346 =>
            pst4 v154 v157 v259 v265 v271 v277 v283 v289 v295 v301 v304 v306 v308 cst_346 (pst5 d0 v7 v13 v154 v259 v283 fun v1190 v1200 v1219 =>
              pst6 v7 v19 v154 v157 v259 v265 v271 v277 v283 v289 v295 v301 v1200 v1219 fun v2086 => κ d0 v7 v13 v19 v25 v1190 v2086))) Q) := by
  unfold scr work
  rw [bigSep9, bigSep9]
  iintro ⟨#HC, Hkv, ⟨⟨%fa, Ha⟩, ⟨%fc, Hc⟩, Hks, Hvs, r0, r1, r2, r3, r4, r5, r6, r7, r8⟩, HZ, ⟨⟨⟨t0, h0, u0, i0⟩, ⟨t1, h1, u1, i1⟩, ⟨t2, h2, u2, i2⟩, ⟨t3, h3, u3, i3⟩, ⟨t4, h4, u4, i4⟩, ⟨t5, h5, u5, i5⟩, ⟨t6, h6, u6, i6⟩, ⟨t7, h7, u7, i7⟩, ⟨t8, h8, u8, i8⟩⟩, Hbt, Hbc, Hba⟩, Ho, Hin, HO⟩ Hk
  ihave Hkv := (kv_open c f2 f3) $$ Hkv
  icases Hkv with ⟨HH, oth⟩
  ihave HS := (slabs_open c) $$ [Hks Hvs]
  · isplitl [Hks]; · iexact Hks
    iexact Hvs
  ihave Ho := (o_open c) $$ Ho
  icases Ho with ⟨⟨o0, o1, o2, q2⟩, ⟨o3, o4, o5, q5⟩, o6, o7, o8, q8⟩
  ihave Hbi := (bar_in c) $$ [r0 o0 r1 o1 r2 o2 r3 o3 r4 o4 r5 o5 r6 o6 r7 o7 r8 o8 Hbt Hbc Hba]
  · iframe
  iapply (stage1 c)
  iintro %v7 %v13 %v19 %v25 %v26
  unfold kvZ
  iapply (stage2 c v26 f2 f3) $$ [$HH $HS $HZ]; iintro Hfl
  iapply (stage3 A N c v13 v19 v25 f2 f3 x wq wo) $$ [$HC $Hfl $Hbi $Hin $HO]
  unfold barOut barPay
  iintro ⟨HH, ⟨Hks, Hvs⟩, HZ, ⟨⟨g0, g5, g7⟩, ⟨g1, g3, g8⟩, ⟨g2, g4, g6⟩, Hbz⟩, Hin, HO⟩
  ihave g0 := (give_par 0 0 rfl c) $$ g0; icases g0 with ⟨r0, o0⟩
  ihave g5 := (give_par 5 0 rfl c) $$ g5; icases g5 with ⟨r5, o5⟩
  ihave g7 := (give_par 7 0 rfl c) $$ g7; icases g7 with ⟨r7, o7⟩
  ihave g1 := (give_par 1 1 rfl c) $$ g1; icases g1 with ⟨r1, o1⟩
  ihave g3 := (give_par 3 1 rfl c) $$ g3; icases g3 with ⟨r3, o3⟩
  ihave g8 := (give_par 8 1 rfl c) $$ g8; icases g8 with ⟨r8, o8⟩
  ihave g2 := (give_par 2 2 rfl c) $$ g2; icases g2 with ⟨r2, o2⟩
  ihave g4 := (give_par 4 2 rfl c) $$ g4; icases g4 with ⟨r4, o4⟩
  ihave g6 := (give_par 6 2 rfl c) $$ g6; icases g6 with ⟨r6, o6⟩
  iapply (half0 (k0_pay1 x wq) (k0_pay2 wo) (fun cls => slabs cls (staged c f2)) (fun cls => slabs cls (staged c f3)) c fa fc) $$ [Ha Hc]
  · isplitl [Ha]; · iexact Ha
    iexact Hc
  rw [show accOf (attn (k0_pay1 x wq) (fun cls => slabs cls (staged c f2)) (fun cls => slabs cls (staged c f3))) (k0_pay2 wo) = A c from hA.symm]
  iintro ⟨Ha, Hb, ⟨%fc, Hc⟩⟩
  ihave Ha := (Entails.of_eq (a_open₀ c (A c))) $$ Ha
  icases Ha with ⟨s0, k0, Ha⟩
  iapply (between (k0_pay1 x wq) (fun cls => slabs cls (staged c f2)) (fun cls => slabs cls (staged c f3)) A N c v7 v13 fc) $$ [s0 t0 r0 h0 HO Hc]
  · unfold pre
    isplitr; · iexact HC
    isplitl [s0]; · iexact s0
    isplitl [t0 r0 h0]
    · isplitl [t0]; · iexact t0
      isplitl [r0]; · iexact r0
      iexact h0
    isplitl [HO]; · iexact HO
    iexact Hc
  iintro %v1190 ⟨m0, HO, Hc⟩
  iapply (half1 (k0_pay1 x wq) (k0_pay2 wo) (fun cls => slabs cls (staged c f2)) (fun cls => slabs cls (staged c f3)) c v7 v19 fa fc) $$ [Hb Hc]
  · isplitl [Hb]; · iexact Hb
    iexact Hc
  rw [show accOf (attn (k0_pay1 x wq) (fun cls => slabs cls (staged c f2)) (fun cls => slabs cls (staged c f3))) (k0_pay2 wo) = A c from hA.symm]
  iintro %v2086 ⟨Hb, Hc⟩
  ihave H := (Entails.of_eq (a_open₁ c (A c))) $$ [Ha Hb]
  · isplitl [Ha]; · iexact Ha
    iexact Hb
  icases H with ⟨⟨s3, k3⟩, s6, k6⟩
  iapply Hk
  ihave Hkv := (kv_close c f2 f3) $$ [HH oth]
  · isplitl [HH]; · iexact HH
    iexact oth
  isplitl [Hkv]; · iexact Hkv
  isplitl [Hc]; · iexact Hc
  isplitl [Hks]; · iexists _; iexact Hks
  isplitl [Hvs]; · iexists _; iexact Hvs
  isplitl [HZ]; · iexact HZ
  isplitl [Hbz]; · iexact Hbz
  isplitl [m0 k0 s3 k3 s6 k6 HO t1 r1 h1 t2 r2 h2 t3 r3 h3 t4 r4 h4 t5 r5 h5 t6 r6 h6 t7 r7 h7 t8 r8 h8]
  · unfold rsPre pre
    isplitl [m0]; · iexact m0
    isplitl [t1 r1 h1]
    · isplitl [t1]; · iexact t1
      isplitl [r1]; · iexact r1
      iexact h1
    isplitl [t2 r2 h2]
    · isplitl [t2]; · iexact t2
      isplitl [r2]; · iexact r2
      iexact h2
    isplitl [t3 r3 h3]
    · isplitl [t3]; · iexact t3
      isplitl [r3]; · iexact r3
      iexact h3
    isplitl [t4 r4 h4]
    · isplitl [t4]; · iexact t4
      isplitl [r4]; · iexact r4
      iexact h4
    isplitl [t5 r5 h5]
    · isplitl [t5]; · iexact t5
      isplitl [r5]; · iexact r5
      iexact h5
    isplitl [t6 r6 h6]
    · isplitl [t6]; · iexact t6
      isplitl [r6]; · iexact r6
      iexact h6
    isplitl [t7 r7 h7]
    · isplitl [t7]; · iexact t7
      isplitl [r7]; · iexact r7
      iexact h7
    isplitl [t8 r8 h8]
    · isplitl [t8]; · iexact t8
      isplitl [r8]; · iexact r8
      iexact h8
    isplitl [k0]; · iexact k0
    isplitl [s3]; · iexact s3
    isplitl [k3]; · iexact k3
    isplitl [s6]; · iexact s6
    isplitl [k6]; · iexact k6
    iexact HO
  isplitl [u0 o0 i0 u1 o1 i1 u2 o2 i2 u3 o3 i3 u4 o4 i4 u5 o5 i5 u6 o6 i6 u7 o7 i7 u8 o8 i8]
  · unfold preG
    isplitl [u0 o0 i0]
    · isplitl [u0]; · iexact u0
      isplitl [o0]; · iexact o0
      iexact i0
    isplitl [u1 o1 i1]
    · isplitl [u1]; · iexact u1
      isplitl [o1]; · iexact o1
      iexact i1
    isplitl [u2 o2 i2]
    · isplitl [u2]; · iexact u2
      isplitl [o2]; · iexact o2
      iexact i2
    isplitl [u3 o3 i3]
    · isplitl [u3]; · iexact u3
      isplitl [o3]; · iexact o3
      iexact i3
    isplitl [u4 o4 i4]
    · isplitl [u4]; · iexact u4
      isplitl [o4]; · iexact o4
      iexact i4
    isplitl [u5 o5 i5]
    · isplitl [u5]; · iexact u5
      isplitl [o5]; · iexact o5
      iexact i5
    isplitl [u6 o6 i6]
    · isplitl [u6]; · iexact u6
      isplitl [o6]; · iexact o6
      iexact i6
    isplitl [u7 o7 i7]
    · isplitl [u7]; · iexact u7
      isplitl [o7]; · iexact o7
      iexact i7
    isplitl [u8]; · iexact u8
    isplitl [o8]; · iexact o8
    iexact i8
  isplitl [q2 q5 q8]
  · isplitl [q2]; · iexact q2
    isplitl [q5]; · iexact q5
    iexact q8
  iexact Hin

end Cert.KProof

end
-- ==== Proof.Body.lean ====
/-
The whole body, from what the launch hands a device to what it hands back.
-/
module

public import proofs.«01_k».proof.Proof.Front
public import Idealize.ShloMosaic.Lib.Pointwise.Reshape

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (A : Dev nD → FVec F S1024x1024 .bf16) (N : Dev nD × CK → ℕ)

/-- What the exchange leaves, put together. -/
theorem finish (c : Dev nD) : iprop(exEnd A c) ⊢ iprop((∃ f, pt c aM f) ∗ (bigSep Finset.univ fun k : Fin 9 => iprop(∃ f, rPts k c f))
    ∗ (bigSep Finset.univ fun k : Fin 9 => iprop(post 0 1 k c ∗ post 2 3 k c)) ∗ pt c oM (FIN A) ∗ owesE c 0) := by
  rw [bigSep9, bigSep9]
  unfold exEnd left
  iintro ⟨⟨⟨s0, r0, p0⟩, ⟨s1, r1, p1⟩, ⟨s2, r2, p2⟩, ⟨s3, r3, p3⟩, ⟨s4, r4, p4⟩, ⟨s5, r5, p5⟩, ⟨s6, r6, p6⟩, ⟨s7, r7, p7⟩, ⟨s8, r8, p8⟩⟩, k2, k5, k8, ⟨q0, q1, q2, q3, q4, q5, q6, q7, q8⟩, o0, o3, o6, HO⟩
  isplitl [s0 s1 s2 s3 s4 s5 s6 s7 s8 k2 k5 k8]
  · iapply (a_close c)
    isplitl [s0 s1 s2 k2]
    · iapply (a_band 0 0 1 2 rfl rfl rfl c)
      isplitl [s0]; · iexists _; iexact s0
      isplitl [s1]; · iexists _; iexact s1
      isplitl [s2]; · iexists _; iexact s2
      iexists _; iexact k2
    isplitl [s3 s4 s5 k5]
    · iapply (a_band 1 3 4 5 rfl rfl rfl c)
      isplitl [s3]; · iexists _; iexact s3
      isplitl [s4]; · iexists _; iexact s4
      isplitl [s5]; · iexists _; iexact s5
      iexists _; iexact k5
    · iapply (a_band 2 6 7 8 rfl rfl rfl c)
      isplitl [s6]; · iexists _; iexact s6
      isplitl [s7]; · iexists _; iexact s7
      isplitl [s8]; · iexists _; iexact s8
      iexists _; iexact k8
  isplitl [r0 r1 r2 r3 r4 r5 r6 r7 r8]
  · isplitl [r0]; · iapply (has_any 0 c _); iexact r0
    isplitl [r1]; · iapply (has_any 1 c _); iexact r1
    isplitl [r2]; · iapply (has_any 2 c _); iexact r2
    isplitl [r3]; · iapply (has_any 3 c _); iexact r3
    isplitl [r4]; · iapply (has_any 4 c _); iexact r4
    isplitl [r5]; · iapply (has_any 5 c _); iexact r5
    isplitl [r6]; · iapply (has_any 6 c _); iexact r6
    isplitl [r7]; · iapply (has_any 7 c _); iexact r7
    iapply (has_any 8 c _); iexact r8
  isplitl [p0 q0 p1 q1 p2 q2 p3 q3 p4 q4 p5 q5 p6 q6 p7 q7 p8 q8]
  · iframe
  isplitl [o0 o3 o6]
  · iapply (o_close A c)
    isplitl [o0]; · iexact o0
    isplitl [o3]; · iexact o3
    iexact o6
  iexact HO

set_option maxHeartbeats 8000000 in
/-- The whole body on device `c`: from its buffers, its ghost state and the inputs staged, to the result whole at the sums and
    every counter at zero. -/
theorem body_run (c : Dev nD) (f2 f3 : FVec F S1x1024x64x128 .f32) (x wq wo : FVec F S1024x1024 .f32)
    (hA : A c = ownSum x wq wo (staged c f2) (staged c f3)) {Q : PUnit → sProp (MM F)} :
    iprop(ctx A N ∗ (pt c kM f2 ∗ pt c vM f3) ∗ scr c ∗ kvZ c ∗ work c ∗ (∃ g, pt c oM g) ∗ stagedIn c x wq wo ∗ owesE c (Ow c 0))
      ⊢ iprop((((pt c kM f2 ∗ pt c vM f3) ∗ scr c ∗ kvZ c ∗ closed c ∗ pt c oM (FIN A) ∗ stagedIn c x wq wo ∗ owesE c 0) -∗ Q ⟨⟩)
        -∗ wpc c pBody Q) := by
  unfold pBody
  rw [body_eq, k0_part68_eq_skeleton]
  unfold wpc
  rw [wp_bind, st1.eq]
  simp only [st2.eq, st3.eq, st4.eq, st5.eq, st6.eq, st7.eq]
  iintro ⟨#HC, H⟩ Hk
  iapply (front A N c f2 f3 x wq wo hA) $$ [$HC $H]
  iintro %v7 %v13 %v19 %v25 %v1190 %v2086 ⟨Hkv, Hc, Hks, Hvs, HZ, Hbz, Hpre, HG, Hq, Hin⟩
  iapply (comm7 A N c v7 v13 v19 v25 v1190 v2086) $$ [$HC $Hpre]
  iintro %u %v %w Hmid
  unfold st7.tail wpc
  rw [show (Pure.pure _ : Prog (TpuEff nD τ sig (Elt F) Λ₀ .tc) _) = Prog.ret _ from rfl, wp_ret]
  imodintro
  iapply (comm8 A N c v7 v13 v19 v25 u v w) $$ [$HC $Hmid $HG $Hq]
  iintro He
  iapply Hk
  ihave He := (finish A c) $$ He
  icases He with ⟨Ha, Hr, Hp, Ho, HO⟩
  unfold scr closed
  iframe

end Cert.KProof

end
-- ==== Proof.Ghost.lean ====
/-
The ghost state of the exchange at the launch: every cell's invariant is allocated, the duty tokens are dealt to
the devices that pay them, and the credits of what every device owes are split cell by cell.
-/
module

public import proofs.«01_k».proof.Proof.Front
public import proofs.«01_k».proof.Proof.Gen.KernelIdeal.Launch
public import Idealize.ShloMosaic.Lib.Pointwise.Reshape

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## Summing over the cells of a device -/

theorem bigSep4 (Φ : Fin 4 → sProp (MM F)) : bigSep Finset.univ Φ = iprop(Φ 0 ∗ Φ 1 ∗ Φ 2 ∗ Φ 3) :=
  bigSep_univ_eq_bigSepL [0, 1, 2, 3] (by decide) (by decide) Φ
theorem bigSep3 (Φ : Fin 3 → sProp (MM F)) : bigSep Finset.univ Φ = iprop(Φ 0 ∗ Φ 1 ∗ Φ 2) :=
  bigSep_univ_eq_bigSepL [0, 1, 2] (by decide) (by decide) Φ

/-- The exchange's cells, step by step. -/
theorem bigSepX (Φ : Fin 4 × Fin 9 → sProp (MM F)) :
    bigSep Finset.univ Φ = bigSep Finset.univ fun k : Fin 9 => iprop(Φ (0, k) ∗ Φ (1, k) ∗ Φ (2, k) ∗ Φ (3, k)) := by
  rw [bigSep_univ_prod, bigSep_univ_comm]
  exact bigSep_congr fun k _ => bigSep4 _

/-- A device's cells: the exchange's, and the barrier's. -/
theorem bigSepCK (Φ : CK → sProp (MM F)) :
    bigSep Finset.univ Φ = iprop((bigSep Finset.univ fun tk : Fin 4 × Fin 9 => Φ (some tk)) ∗ Φ none) := by
  rw [bigSep_univ_equiv (Equiv.optionEquivSumPUnit.{0} (Fin 4 × Fin 9)).symm, bigSep_univ_sum,
    bigSep_univ_of_subsingleton (I := PUnit) PUnit.unit]
  rfl

/-! ## The semaphores -/

/-- The kernel's own semaphores: the exchange's and those of the copies of keys and values. -/
abbrev osem : (Fin 4 × Fin 9) ⊕ (Bool × Fin 8) → SemLoc sig := fun | .inl tk => csem (some tk) | .inr bj => .dma (kvS bj.1 bj.2)

theorem ownSemFacts : Pipeline.OwnSemFacts cfg0.spec osem := by decide +kernel

theorem kvZ_eq (c : Dev nD) : (bigSep Finset.univ fun bj : Bool × Fin 8 => (semVal ((c : Thread nD τ), SemLoc.dma (kvS bj.1 bj.2)) 0 : sProp (MM F))) = kvZ c := by
  rw [bigSep_univ_eq_bigSepL [(false, 0), (true, 0), (false, 1), (true, 1), (false, 2), (true, 2), (false, 3), (true, 3), (false, 4), (true, 4),
    (false, 5), (true, 5), (false, 6), (true, 6), (false, 7), (true, 7)] (by decide) (by decide)]
  rfl

theorem ownSems_eq (c : Dev nD) : (Pipeline.ownSems0 (Ix := Bool) (Name := ℕ) (U := UU) (Lvl := ℕ) (Val := Elt F) (τ := τ) osem c : sProp (MM F))
    = iprop((bigSep Finset.univ fun tk : Fin 4 × Fin 9 => semVal (cellOf c (some tk)) 0) ∗ kvZ c) := by
  unfold Pipeline.ownSems0
  rw [bigSep_univ_sum, ← kvZ_eq]; rfl

theorem unscopedSems_eq (c : Dev nD) : (unscopedSems0 c : sProp (MM F)) = semVal (cellOf c none) 0 := by
  unfold unscopedSems0; rw [bigSep_eq_bigSepL_of_eq [SemLoc.reg barS] (by decide) (by decide)]; rfl

/-- At the end all are at zero. -/
theorem closed_eq (c : Dev nD) : (closed c : sProp (MM F)) = iprop((bigSep Finset.univ fun tk : Fin 4 × Fin 9 => semVal (cellOf c (some tk)) 0) ∗ semVal (cellOf c none) 0) := by
  unfold closed post
  rw [bigSepX]
  congr 1
  refine bigSep_congr fun k _ => ?_
  exact BI.equiv_iff.mp ⟨BI.sep_assoc, BI.sep_assoc'⟩

/-! ## The launch element -/

theorem cellOf_injective : Function.Injective fun p : Dev nD × CK => (cellOf p.1 p.2 : GSem nD τ sig) := by
  rintro ⟨c, x⟩ ⟨c', x'⟩ h
  have h1 : c = c' := congrArg (fun g : GSem nD τ sig => g.1.1) h
  have h2 : x = x' := csem_inj (congrArg Prod.snd h)
  rw [h1, h2]

def cellSet : Finset (GSem nD τ sig) := Finset.univ.map ⟨_, cellOf_injective⟩

/-- The duties of a device's cells. -/
abbrev tokAt (p : Dev nD × (Fin 3 ⊕ Fin 4 × Fin 9)) : GSem nD τ sig × ℕ × Fin 3 :=
  match p.2 with | .inl b => (cellOf p.1 none, 0, b) | .inr tk => (cellOf p.1 (some tk), 0, 0)
theorem tokAt_injective : Function.Injective tokAt := by
  rintro ⟨c, x⟩ ⟨c', x'⟩ h
  have h0 : (tokAt (c, x)).1 = (tokAt (c', x')).1 := congrArg Prod.fst h
  have h3 : (tokAt (c, x)).2.2 = (tokAt (c', x')).2.2 := congrArg (fun y => y.2.2) h
  cases x <;> cases x'
  · have := congrArg Prod.fst (cellOf_injective (a₁ := (c, none)) (a₂ := (c', none)) h0)
    exact Prod.ext this (congrArg Sum.inl h3)
  · exact absurd (congrArg Prod.snd (cellOf_injective (a₁ := (c, none)) (a₂ := (c', some _)) h0)) (fun h => by cases h)
  · exact absurd (congrArg Prod.snd (cellOf_injective (a₁ := (c, some _)) (a₂ := (c', none)) h0)) (fun h => by cases h)
  · have h4 := cellOf_injective (a₁ := (c, some _)) (a₂ := (c', some _)) h0
    have h5 := congrArg Prod.fst h4
    have h6 := Option.some.inj (congrArg Prod.snd h4)
    exact Prod.ext h5 (congrArg Sum.inr h6)
def tokSet : Finset (GSem nD τ sig × ℕ × Fin 3) := Finset.univ.map ⟨tokAt, tokAt_injective⟩

/-- The launch's element of the algebra. -/
def u₀ : UU := (initOf (Pipeline.cells cfgs cellOf_inj) (Pipeline.launchToks cfgs cellOf_inj), (initOf cellSet tokSet, (1 : Counters)))

theorem ownU_split (a : UR sig nD τ) (b : UB) : (ownU ((a, (b, 1)) : UU) : sProp (MM F)) ⊢ iprop(BI.own (EP a) ∗ BI.own (ER b)) :=
  BI.own_op_elim ((uEmb (nD := nD) (sig := sig) (Ix := Bool) (Val := Elt F) (Name := ℕ) (U := UU) (Lvl := ℕ)).toEmb.op_of_mem
    (Prod.mk_mem_op (URA.mem_op_one a) (URA.mem_one_op (b, (1 : Counters)))))

variable (A : Dev nD → FVec F S1024x1024 .bf16)

/-- A device's own cells' tokens, as minted. -/
def ownToks (c : Dev nD) : sProp (MM F) :=
  iprop((dutyTok ER (cellOf c none) 0 0 ∗ dutyTok ER (cellOf c none) 0 1 ∗ dutyTok ER (cellOf c none) 0 2)
    ∗ (bigSep Finset.univ fun k : Fin 9 => dutyTok ER (cellOf c (some (0, k))) 0 0) ∗ (bigSep Finset.univ fun k : Fin 9 => dutyTok ER (cellOf c (some (1, k))) 0 0)
    ∗ (bigSep Finset.univ fun k : Fin 9 => dutyTok ER (cellOf c (some (2, k))) 0 0) ∗ (bigSep Finset.univ fun k : Fin 9 => dutyTok ER (cellOf c (some (3, k))) 0 0))
/-- The tokens of the duties a device pays. -/
def payToks (c : Dev nD) : sProp (MM F) :=
  iprop((dutyTok ER (cellOf (acr 0 c) none) 0 0 ∗ dutyTok ER (cellOf (acr 1 c) none) 0 1 ∗ dutyTok ER (cellOf (acr 2 c) none) 0 2)
    ∗ (bigSep Finset.univ fun k : Fin 9 => dutyTok ER (cellOf c (some (0, k))) 0 0) ∗ (bigSep Finset.univ fun k : Fin 9 => dutyTok ER (cellOf (par k c) (some (1, k))) 0 0)
    ∗ (bigSep Finset.univ fun k : Fin 9 => dutyTok ER (cellOf c (some (2, k))) 0 0) ∗ (bigSep Finset.univ fun k : Fin 9 => dutyTok ER (cellOf (par k c) (some (3, k))) 0 0))

/-- What the launch element deals device `c`. -/
def G (c : Dev nD) : sProp (MM F) :=
  iprop((bigSep Finset.univ fun x : CK => roundState ER (Rd A) (cellOf c x) 0)
    ∗ (bigSep Finset.univ fun x : CK => atPos ER (cellOf c x) 0 ∅ 0) ∗ (bigSep Finset.univ fun x : CK => reached ER (cellOf c x) 0) ∗ ownToks c)

theorem fund_cells : BI.own (ER (initOf cellSet tokSet)) ⊢ (|==> bigSep Finset.univ (G A) : sProp (MM F)) := by
  have hX (Φ : GSem nD τ sig → sProp (MM F)) : bigSep cellSet Φ = bigSep Finset.univ fun c : Dev nD => bigSep Finset.univ fun x : CK => Φ (cellOf c x) := by
    unfold cellSet; rw [bigSep_map, bigSep_univ_prod]; rfl
  have hT : bigSep tokSet (fun x => (dutyTok ER x.1 x.2.1 x.2.2 : sProp (MM F))) = bigSep Finset.univ fun c : Dev nD => ownToks c := by
    unfold tokSet; rw [bigSep_map, bigSep_univ_prod]
    refine bigSep_congr fun c _ => ?_
    unfold ownToks; rw [bigSep_univ_sum, bigSep3, bigSep_univ_prod, bigSep4]; rfl
  iintro HX
  imod (Rounds.fund ER (Rd A) cellSet tokSet) $$ HX with ⟨Hst, Hr, Hat, Htok⟩
  imodintro
  ihave Hst := (Entails.of_eq (hX fun g => roundState ER (Rd A) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe

theorem sems0 (c : Dev nD) :
    iprop(Pipeline.ownSems0 (Ix := Bool) (Name := ℕ) (U := UU) (Lvl := ℕ) (Val := Elt F) (τ := τ) osem c ∗ unscopedSems0 c)
      ⊢ iprop((bigSep Finset.univ fun x : CK => semVal (cellOf c x) 0) ∗ kvZ c) := by
  rw [ownSems_eq, unscopedSems_eq, bigSepCK]
  iintro ⟨⟨HS, HK⟩, HB⟩
  iframe

theorem core_alloc (c : Dev nD) :
    iprop(Pipeline.ownSems0 (Ix := Bool) (Name := ℕ) (U := UU) (Lvl := ℕ) (Val := Elt F) (τ := τ) osem c ∗ unscopedSems0 c ∗ G A c)
      ⊢ |={Set.univ}=> iprop((bigSep Finset.univ fun x : CK => iprop(∃ κ : ℕ, cellInv ER (Rd A) κ (cellOf c x)))
          ∗ (bigSep Finset.univ fun x : CK => atPos ER (cellOf c x) 0 ∅ 0) ∗ (bigSep Finset.univ fun x : CK => reached ER (cellOf c x) 0) ∗ ownToks c ∗ kvZ c) := by
  unfold G
  iintro ⟨Hos, Hus, Hst, Hat, Hr, Htok⟩
  ihave Hv := (sems0 (F := F) c) $$ [Hos Hus]
  · isplitl [Hos] <;> iassumption
  icases Hv with ⟨Hv, Hk⟩
  imod (show iprop((bigSep Finset.univ fun x : CK => semVal (cellOf c x) 0) ∗ bigSep Finset.univ fun x : CK => roundState ER (Rd A) (cellOf c x) 0)
      ⊢ (|={Set.univ}=> bigSep Finset.univ fun x : CK => iprop(∃ κ : ℕ, cellInv ER (Rd A) κ (cellOf c x)) : sProp (MM F)) from by
        rw [← bigSep_sep']
        exact (bigSep_mono fun x _ => (Rounds.body_intro ER (Rd A) (cellOf c x)).trans inv_alloc).trans (bigSep_fupd _ _)) $$ [Hv Hst] with Hinv
  · isplitl [Hv] <;> iassumption
  imodintro
  iframe

/-! ## Dealing the tokens -/

/-- Crossing a direction of the cube, as a permutation of the devices. -/
def acrE (b : Fin 3) : Dev nD ≃ Dev nD := ⟨acr b, acr b, acr_acr b, acr_acr b⟩
def parE (k : Fin 9) : Dev nD ≃ Dev nD := ⟨par k, par k, par_par k, par_par k⟩

theorem deal_par (t : Fin 4) : (bigSep Finset.univ fun c : Dev nD => bigSep Finset.univ fun k : Fin 9 => (dutyTok ER (cellOf c (some (t, k))) 0 0 : sProp (MM F)))
    = bigSep Finset.univ fun c : Dev nD => bigSep Finset.univ fun k : Fin 9 => dutyTok ER (cellOf (par k c) (some (t, k))) 0 0 := by
  rw [bigSep_univ_comm, bigSep_univ_comm (fun (c : Dev nD) (k : Fin 9) => (dutyTok ER (cellOf (par k c) (some (t, k))) 0 0 : sProp (MM F)))]
  exact bigSep_congr fun k _ => bigSep_univ_equiv (parE k) fun c : Dev nD => (dutyTok ER (cellOf c (some (t, k))) 0 0 : sProp (MM F))
theorem deal_acr (b : Fin 3) : (bigSep Finset.univ fun c : Dev nD => (dutyTok ER (cellOf c none) 0 b : sProp (MM F)))
    = bigSep Finset.univ fun c : Dev nD => dutyTok ER (cellOf (acr b c) none) 0 b :=
  bigSep_univ_equiv (acrE b) fun c : Dev nD => (dutyTok ER (cellOf c none) 0 b : sProp (MM F))

theorem deal : (bigSep Finset.univ fun c : Dev nD => (ownToks c : sProp (MM F))) = bigSep Finset.univ fun c : Dev nD => payToks c := by
  unfold ownToks payToks
  simp only [bigSep_sep']
  rw [deal_par 1, deal_par 3, deal_acr 0, deal_acr 1, deal_acr 2]

/-- What the global step makes for device `c`. -/
def G' (c : Dev nD) : sProp (MM F) :=
  iprop((∃ K, records A K) ∗ (bigSep Finset.univ fun x : CK => atPos ER (cellOf c x) 0 ∅ 0) ∗ payToks c ∗ kvZ c)

theorem with_persistent {I : Type} [DecidableEq I] {S : Finset I} {R : sProp (MM F)} [BI.Persistent R] {Φ Ψ : I → sProp (MM F)}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun x : CK => iprop(∃ κ : ℕ, cellInv ER (Rd A) κ (cellOf c x)))
          ∗ (bigSep Finset.univ fun x : CK => atPos ER (cellOf c x) 0 ∅ 0) ∗ (bigSep Finset.univ fun x : CK => reached ER (cellOf c x) 0) ∗ ownToks c ∗ kvZ c) : sProp (MM F))
      ⊢ bigSep Finset.univ (G' A) := by
  simp only [bigSep_sep']
  rw [← bigSep_univ_prod (fun p : Dev nD × CK => iprop(∃ κ : ℕ, cellInv ER (Rd A) κ (cellOf p.1 p.2))),
    ← bigSep_univ_prod (fun p : Dev nD × CK => (reached ER (cellOf p.1 p.2) 0 : sProp (MM F))), deal]
  iintro ⟨HI, Hat, #HR, Htok, Hk⟩
  ihave HK := (BI.bigSep_exists_pi Finset.univ (fun (p : Dev nD × CK) (κ : ℕ) => (cellInv ER (Rd A) κ (cellOf p.1 p.2) : sProp (MM F)))) $$ HI
  icases HK with ⟨%K, #HI⟩
  iapply (with_persistent (R := records A K)
    (Φ := fun c => iprop((bigSep Finset.univ fun x : CK => atPos ER (cellOf c x) 0 ∅ 0) ∗ payToks c ∗ kvZ c)) fun c _ => by
      unfold G'; iintro ⟨#H, Hrest⟩; isplitr; · iexists K; iexact H
      iexact Hrest)
  isplitr
  · unfold records; isplitl; · iexact HI
    iexact HR
  · simp only [bigSep_sep']
    iframe

/-- The global step. -/
theorem glob : (bigSep Finset.univ fun c => iprop(Pipeline.ownSems0 (Ix := Bool) (Name := ℕ) (U := UU) (Lvl := ℕ) (Val := Elt F) (τ := τ) osem c ∗ unscopedSems0 c ∗ G A c) : sProp (MM F))
    ⊢ |={Set.univ}=> bigSep Finset.univ (G' A) :=
  ((bigSep_mono fun c _ => core_alloc A c).trans (bigSep_fupd _ _)).trans (BI.fupd_mono (regroup A))

end Cert.KProof

end
-- ==== Proof.Credit.lean ====
/-
The credits of the launch: on every cell, what the devices together owe it.
-/
module

public import proofs.«01_k».proof.Proof.Ghost
public import Idealize.ShloMosaic.Lib.Pointwise.Reshape

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What a cell is owed at the launch. -/
def due : CK → ℕ | none => 3 | some (t, k) => if t = 1 ∨ t = 3 then amt k else 0

/-- The raises of a list meeting a cell, over all devices. -/
def met (x : CK) (l : List ((Dev nD → Dev nD) × CK)) : ℕ := (l.map fun y => if y.2 = x then ckAmt x else 0).sum

theorem met_sends (x : CK) : met x sends = due x := by revert x; decide +kernel

theorem sends_inv : ∀ y ∈ sends, ∀ c, y.1 (y.1 c) = c := by
  intro y hy c
  fin_cases hy <;> first | exact acr_acr _ c | exact par_par _ c

theorem owed_sum (c : Dev nD) (x : CK) : ∀ l : List ((Dev nD → Dev nD) × CK), (∀ y ∈ l, ∀ c, y.1 (y.1 c) = c) →
    ∑ d : Dev nD, owesL d l (cellOf c x) true = met x l
  | [], _ => by unfold met owesL; simp
  | y :: l, h => by
    have ih := owed_sum c x l fun z hz => h z (List.mem_cons_of_mem _ hz)
    have hy := h y List.mem_cons_self
    unfold owesL
    simp only [Pi.add_apply, Finsupp.add_apply, Finset.sum_add_distrib]
    rw [ih]
    unfold met
    rw [List.map_cons, List.sum_cons, Nat.add_comm]
    congr 1
    by_cases e : y.2 = x
    · rw [if_pos e, Finset.sum_eq_single (y.1 c)]
      · rw [hy, e, tallyAt_apply, if_pos ⟨rfl, rfl⟩]
      · intro d _ hd
        rw [tallyAt_apply, if_neg]
        rintro ⟨h', _⟩
        have := congrArg Prod.fst (cellOf_injective (a₁ := (c, x)) (a₂ := (y.1 d, y.2)) h')
        exact hd (by rw [show c = y.1 d from this, hy])
      · intro h'; exact absurd (Finset.mem_univ _) h'
    · rw [if_neg e]
      refine Finset.sum_eq_zero fun d _ => ?_
      rw [tallyAt_apply, if_neg]
      rintro ⟨h', _⟩
      exact e (congrArg Prod.snd (cellOf_injective (a₁ := (c, x)) (a₂ := (y.1 d, y.2)) h')).symm

theorem owed_false (d : Dev nD) (g : GSem nD τ sig) (l : List ((Dev nD → Dev nD) × CK)) : owesL d l g false = 0 := by
  by_contra h
  have := (owesL_pos (Nat.pos_of_ne_zero h)).1
  cases this

theorem launch_due (c : Dev nD) (x : CK) :
    tallyOn (cellOf c x) (launchCredit (Pipeline.owing fun d => Ow d 0) 0 (cellOf c x)) = (tallyAt (cellOf c x) true (due x) : CellTallies nD τ sig Bool) := by
  unfold tallyAt
  refine congrArg _ (Finsupp.ext fun u => ?_)
  rw [Pipeline.launchCredit_owing]
  unfold Ow
  cases u
  · rw [Finset.sum_eq_zero fun d _ => owed_false d _ _, Finsupp.single_apply, if_neg (by decide)]
  · rw [show sends.drop 0 = sends from rfl, owed_sum c x sends sends_inv, met_sends, Finsupp.single_eq_same]

/-- The credits a device starts with. -/
def creds (c : Dev nD) : sProp (MM F) :=
  iprop((bigSep Finset.univ fun k : Fin 9 => cred (tallyAt (cellOf c (some (1, k))) true (amt k)))
    ∗ (bigSep Finset.univ fun k : Fin 9 => cred (tallyAt (cellOf c (some (3, k))) true (amt k))) ∗ cred (tallyAt (cellOf c none) true 3))

theorem creds_intro (c : Dev nD) : (Pipeline.launchCred (fun d => Ow d 0) c : sProp (MM F)) ⊢ creds c := by
  unfold Pipeline.launchCred
  refine (bigSep_subset (t := (Finset.univ : Finset CK).map ⟨csem, csem_inj⟩) (Finset.subset_univ _)).trans ?_
  rw [bigSep_map]
  show (bigSep Finset.univ fun x : CK => (cred (tallyOn (cellOf c x) (launchCredit (Pipeline.owing fun d => Ow d 0) 0 (cellOf c x))) : sProp (MM F))) ⊢ creds c
  rw [bigSep_congr (s := Finset.univ) (fun (x : CK) _ => congrArg (fun T => (cred T : sProp (MM F))) (launch_due c x)), bigSepCK, bigSep_univ_prod, bigSep4]
  unfold creds
  iintro ⟨⟨-, H1, -, H3⟩, H⟩
  isplitl [H1]; · iexact H1
  isplitl [H3]; · iexact H3
  iexact H

/-- A device's work, from its positions, its tokens and its credits. -/
theorem work_intro (c : Dev nD) :
    iprop((bigSep Finset.univ fun x : CK => atPos ER (cellOf c x) 0 ∅ 0) ∗ payToks c ∗ creds c) ⊢ (work c : sProp (MM F)) := by
  unfold work payToks creds toks half
  rw [bigSepCK, bigSepX]
  simp only [bigSep_sep']
  iintro ⟨⟨⟨a0, a1, a2, a3⟩, ab⟩, ⟨Hb, t0, t1, t2, t3⟩, c1, c3, cb⟩
  iframe

end Cert.KProof

end
-- ==== Proof.Launch.lean ====
/-
The launch: the kernel's proof data, the body run as the library's obligation, and the run of the whole program
on its eight devices, to the contents of the result and of the arguments.
-/
module

public import proofs.«01_k».proof.Proof.Body
public import proofs.«01_k».proof.Proof.Credit
public import proofs.«01_k».proof.Proof.Gen.KernelIdeal.Points
public import Idealize.ShloMosaic.Lib.Pipeline.CollectiveSegs
public import Idealize.ShloMosaic.Lib.Pointwise.Reshape

@[expose] public section

noncomputable section

namespace Cert.KProof

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable (m : (ℓ : Loc nD τ sig) → Buf (Elt F) ℓ) (ρ : Dev nD → PrngReg)

def s₀ : MemSt nD τ sig (Elt F) := ⟨m, fun _ => 0, ρ⟩

/-! ## Contents -/

/-- A device's inputs as staged. -/
def xIn (c : Dev nD) : FVec F S1024x1024 .f32 := (win0_0.blk (0 : Fin 1)).view.read (Elt F) (m ((c : Thread nD τ).loc main_arg0))
def wqIn (c : Dev nD) : FVec F S1024x1024 .f32 := (win0_1.blk (0 : Fin 1)).view.read (Elt F) (m ((c : Thread nD τ).loc main_arg1))
def woIn (c : Dev nD) : FVec F S1024x1024 .f32 := (win0_2.blk (0 : Fin 1)).view.read (Elt F) (m ((c : Thread nD τ).loc main_arg4))
def kIn (c : Dev nD) : FVec F S1x1024x64x128 .f32 := m ((c : Thread nD τ).loc main_arg2)
def vIn (c : Dev nD) : FVec F S1x1024x64x128 .f32 := m ((c : Thread nD τ).loc main_arg3)

/-- What every device has to add to the result. -/
def part (c : Dev nD) : FVec F S1024x1024 .bf16 := ownSum (xIn m c) (wqIn m c) (woIn m c) (staged c (kIn m c)) (staged c (vIn m c))

/-- The result. -/
def total : FVec F S1024x1024 .bf16 := FIN (part m)

/-! ## The proof data -/

/-- What a device's body starts from besides its buffers. -/
def start (c : Dev nD) : sProp (MM F) :=
  iprop((∃ K, ctx (part m) K) ∗ kvZ c ∗ work c ∗ (pt c kM (kIn m c) ∗ pt c vM (vIn m c)))

def Φ₀ (c : Dev nD) : sProp (MM F) := iprop(start m c ∗ scr c)
def Φ₁ (c : Dev nD) : sProp (MM F) := iprop((pt c kM (kIn m c) ∗ pt c vM (vIn m c)) ∗ scr c ∗ kvZ c ∗ closed c)

def dats (_ : Fin 1) (c : Dev nD) : Pipeline.Dat τ (Elt F) Bool ℕ UU ℕ cfg0 c where
  A w := m ((cfg0.win w).arr.view.loc (c : Thread nD τ))
  after w _ := match w with
    | ⟨0, _⟩ => xIn m c
    | ⟨1, _⟩ => wqIn m c
    | ⟨2, _⟩ => woIn m c
    | ⟨3, _⟩ => total m
  Φ t := match t with
    | ⟨0, _⟩ => Φ₀ m c
    | ⟨_ + 1, _⟩ => Φ₁ m c
  q _ := fullShare
  owed t := match t with
    | ⟨0, _⟩ => Ow c 0
    | ⟨_ + 1, _⟩ => 0

theorem owns_eq (c : Dev nD) (b : Ref sig .tc) (X : b.ty.Contents (Elt F)) :
    (owns (Ix := Bool) (Name := ℕ) (U := UU) (Lvl := ℕ) (c : Thread nD τ) (Memref.whole b) fullShare X : sProp (MM F))
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holding `X`. -/
abbrev stg (c : Dev nD) (b : Ref sig .tc) (X : b.ty.Contents (Elt F)) : sProp (MM F) :=
  iprop(∃ f : Buf (Elt F) (((c : Dev nD) : Thread nD τ).loc b), ⌜f = X⌝ ∗ (((c : Thread nD τ).loc b) ↦{fullShare} f))

def bodyPre (c : Dev nD) : sProp (MM F) :=
  iprop(Φ₀ m c ∗ (dats m 0 c).owesAt false t0_0.castSucc
    ∗ (∃ d, stg c cc0_stg0_0 ((dats m 0 c).before (0 : Fin 4) t0_0 d)) ∗ (∃ d, stg c cc0_stg1_0 ((dats m 0 c).before (1 : Fin 4) t0_0 d))
    ∗ (∃ d, stg c cc0_stg2_0 ((dats m 0 c).before (2 : Fin 4) t0_0 d)) ∗ (∃ d, stg c cc0_stg3_0 ((dats m 0 c).before (3 : Fin 4) t0_0 d)))
def bodyPost (c : Dev nD) : sProp (MM F) :=
  iprop(Φ₁ m c ∗ (dats m 0 c).owesAt false t0_0.succ
    ∗ stg c cc0_stg0_0 (xIn m c) ∗ stg c cc0_stg1_0 (wqIn m c) ∗ stg c cc0_stg2_0 (woIn m c) ∗ stg c cc0_stg3_0 (total m))

theorem before_0 (c : Dev nD) (d) : (dats m 0 c).before (0 : Fin 4) t0_0 d = xIn m c := by unfold Pipeline.Dat.before; rw [if_pos (fetch0_0 t0_0)]; rfl
theorem before_1 (c : Dev nD) (d) : (dats m 0 c).before (1 : Fin 4) t0_0 d = wqIn m c := by unfold Pipeline.Dat.before; rw [if_pos (fetch0_1 t0_0)]; rfl
theorem before_2 (c : Dev nD) (d) : (dats m 0 c).before (2 : Fin 4) t0_0 d = woIn m c := by unfold Pipeline.Dat.before; rw [if_pos (fetch0_2 t0_0)]; rfl

/-- The body from the pipeline's precondition to its postcondition. -/
theorem sound_body (c : Dev nD) : bodyPre m c ⊢ wpc c pBody (fun _ => bodyPost m c) := by
  unfold bodyPre Φ₀ start
  iintro ⟨⟨⟨⟨%K, #HC⟩, Hkv, Hw, Hp⟩, Hs⟩, Ho, ⟨%d0, %g0, %h0, Hx⟩, ⟨%d1, %g1, %h1, Hq⟩, ⟨%d2, %g2, %h2, Hwo⟩, ⟨%d3, %g3, %h3, Hout⟩⟩
  rw [before_0] at h0
  rw [before_1] at h1
  rw [before_2] at h2
  subst h0; subst h1; subst h2
  unfold Pipeline.Dat.owesAt Pipeline.owesWithin
  icases Ho with ⟨%W, %hW, HO⟩
  iapply (body_run (part m) K c (kIn m c) (vIn m c) (xIn m c) (wqIn m c) (woIn m c) rfl (Q := fun _ => bodyPost m c)) $$ [Hkv Hw Hp Hs Hx Hq Hwo Hout HO]
  · isplitr; · iexact HC
    isplitl [Hp]; · iexact Hp
    isplitl [Hs]; · iexact Hs
    isplitl [Hkv]; · iexact Hkv
    isplitl [Hw]; · iexact Hw
    isplitl [Hout]; · iexists g3; iexact Hout
    isplitl [Hx Hq Hwo]
    · unfold stagedIn
      isplitl [Hx]; · iexact Hx
      isplitl [Hq]; · iexact Hq
      iexact Hwo
    · unfold owesE; iexists W; iexact HO
  · unfold bodyPost Φ₁ stagedIn owesE
    iintro ⟨Hp, Hs, Hkv, Hcl, Hout, ⟨Hx, Hq, Hwo⟩, ⟨%W', HO⟩⟩
    isplitl [Hp Hs Hkv Hcl]; · iframe
    isplitl [HO]
    · unfold Pipeline.Dat.owesAt Pipeline.owesWithin
      iexists W'
      isplitr; · ipureintro; exact fun _ _ => Or.inl trivial
      iexact HO
    isplitl [Hx]; · iexists (xIn m c); isplitr; · ipureintro; rfl
                    iexact Hx
    isplitl [Hq]; · iexists (wqIn m c); isplitr; · ipureintro; rfl
                    iexact Hq
    isplitl [Hwo]; · iexists (woIn m c); isplitr; · ipureintro; rfl
                     iexact Hwo
    iexists (total m); isplitr; · ipureintro; rfl
    iexact Hout

set_option maxRecDepth 16384 in
/-- The library's body obligation on device `c`. -/
theorem body_obligation (c : Dev nD) : Pipeline.BodyObligation (dats (F := F) m 0 c) (defs₀ (F := F)) 𝒱₀ false Set.univ := fun t => by
  rw [fin_N0 t, show (bigSep (Finset.univ : Finset (Fin cfg0.W)) : (Fin cfg0.W → sProp (MM F)) → _) = fun Φ => bigSep (Finset.univ : Finset (Fin 4)) Φ from rfl]
  simp only [bigSep_W0]
  simp only [owns_eq]
  exact sound_body m c

/-! ## The side conditions of the launch -/

theorem share_eq (c : Dev nD) (w : Fin cfg0.W) : (dats m 0 c).share w = fullShare := by unfold Pipeline.Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Ow d 0) c ∗ prngReg c (ρ c) ∗ G' (part m) c)
      ⊢ |={Set.univ}=> iprop(start m c ∗ emp) := by
  have e : (Pipeline.unscopedRestP Pipeline.Prefetch.none cfg0.spec c (fun b => m ((c : Thread nD τ).loc b)) : sProp (MM F))
      = Pipeline.unscopedRest cfg0.spec c (fun b => m ((c : Thread nD τ).loc b)) := Pipeline.unscopedRestP_none _ _ _
  rw [e, show cfg0.spec = spec0 from rfl, unscopedRest0_eq]
  unfold start G' ctx
  iintro ⟨Hp, Hlev, Hcr, -, ⟨%K, #HR⟩, Hat, Ht, Hk⟩
  ihave Hc := (creds_intro (F := F) c) $$ Hcr
  ihave Hw := (work_intro (F := F) c) $$ [Hat Ht Hc]
  · iframe
  imodintro
  isplitl
  · isplitl [Hlev]
    · iexists K; isplitr; · iexact HR
      iexact Hlev
    isplitl [Hk]; · iexact Hk
    isplitl [Hw]; · iexact Hw
    iexact Hp
  · iempintro

set_option maxRecDepth 8000 in
theorem scr_eq (c : Dev nD) : (Pipeline.scopedRest (Ix := Bool) (Name := ℕ) (U := UU) (Lvl := ℕ) (Val := Elt F) cfg0.spec c : sProp (MM F)) = scr c := by
  rw [show cfg0.spec = spec0 from rfl, scopedRest0_eq]
  unfold scr rPts
  simp only [rM_set]
  rw [bigSep9]

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scr_eq]
  unfold Φ₀
  iintro ⟨Hs, -, Hr⟩
  isplitl [Hs] <;> iassumption

theorem phi1_exit (c : Dev nD) :
    (dats m 0 c).Φ (Fin.last cfg0.N)
      ⊢ iprop((unscopedSems0 c ∗ pt c kM (kIn m c) ∗ pt c vM (vIn m c)) ∗ Pipeline.ownSems0 osem c ∗ Pipeline.scopedRest cfg0.spec c) := by
  rw [show (dats m 0 c).Φ (Fin.last cfg0.N) = Φ₁ m c from rfl, scr_eq, ownSems_eq, unscopedSems_eq]
  unfold Φ₁
  rw [closed_eq]
  iintro ⟨⟨Hk, Hv⟩, Hr, Hkv, Hx, Hb⟩
  iframe

theorem waits (c : Dev nD) : (levAts L lv : sProp (MM F)) ⊢ Pipeline.cellsWaits cfgs (dats m) false 0 c :=
  Pipeline.cellsWaits_intro cfgs (dats m) false 0 c fun w s t => by
    rcases t with ⟨_ | _, ht⟩
    · exact mayWait_local c _ 0
    · exact mayWait_local c _ 21

/-! ## The run -/

def finalA (c : Dev nD) (w : Fin cfg0.W) : Buf (Elt F) ((cfg0.win w).arr.view.loc (c : Thread nD τ)) := (dats m 0 c).arrAt w cfg0.N

/-- What the final state holds. -/
def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg2) = kIn m c ∧ r.2.mem ((c : Thread nD τ).loc main_arg3) = vIn m c

/-- Reading the keys and values off the final state. -/
theorem read_kv (c : Dev nD) (s' : Phys nD τ sig (Elt F)) :
    iprop((unscopedSems0 c ∗ pt c kM (kIn m c) ∗ pt c vM (vIn m c)) ∗ emp ∗ SI s')
      ⊢ (|={Set.univ}=> iprop(⌜(∀ sm : SemLoc sig, sm.isScoped .tc = false → s'.mem.sem ((c.tc : Thread nD τ), sm) = 0)
          ∧ s'.mem.mem ((c : Thread nD τ).loc main_arg2) = kIn m c ∧ s'.mem.mem ((c : Thread nD τ).loc main_arg3) = vIn m c⌝ ∗ SI s') : sProp (MM F)) := by
  iintro ⟨⟨Hu, Hk, Hv⟩, -, HSI⟩
  imod (Pipeline.unscopedSems0_read (X := unscopedSems0 c) (c := c) fupd_intro s') $$ [Hu HSI] with ⟨%hu, HSI⟩
  · isplitl [Hu] <;> iassumption
  icombine HSI Hk gives %h2
  icombine HSI Hv gives %h3
  imodintro
  isplitr
  · ipureintro
    refine ⟨hu, ?_, ?_⟩
    · exact Buf.eq_of_forall_mem_univ h2
    · exact Buf.eq_of_forall_mem_univ h3
  iexact HSI

set_option maxRecDepth 16384 in
/-- Every fair execution of the program terminates, with every device's result array at the computed contents, its
    arguments unchanged and every semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) false cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := fun d => Ow d 0) (howed₀ := fun _ => rfl) (howedN := fun _ => rfl)
    (L := L) (lv := lv) (hL := L_of_ne) (hwaits := waits m)
    (G := G (part m)) (G' := G' (part m)) (u₀ := u₀)
    (hu₀ := by
      unfold u₀
      iintro Hu
      ihave H := (ownU_split _ _) $$ Hu
      icases H with ⟨HP, HX⟩
      imod (fund_cells (part m)) $$ HX with HG
      imodintro
      isplitl [HP] <;> iassumption)
    (hglob := glob (part m))
    (hA := fun _ _ => rfl) (hpf := fun _ k => k.elim0)
    (X := start m) (Y := fun c => iprop(unscopedSems0 c ∗ pt c kM (kIn m c) ∗ pt c vM (vIn m c))) (Z := fun _ => iprop(emp))
    (hX := start_intro m ρ) (hin := phi0_intro m) (hout := phi1_exit m)
    (QY := fun c s => (∀ sm : SemLoc sig, sm.isScoped .tc = false → s.sem ((c.tc : Thread nD τ), sm) = 0)
      ∧ s.mem ((c : Thread nD τ).loc main_arg2) = kIn m c ∧ s.mem ((c : Thread nD τ).loc main_arg3) = vIn m c)
    (hY := read_kv m)
    (hQ := fun _ h hs => ⟨fun c => ⟨fun w => (h c).1 w, (h c).2.2.2⟩, sem_eq_zero hs fun c => (h c).2.2.1⟩)

end Cert.KProof

end
-- ==== Proof.Frames.lean ====
/-
The frames: every run of the three programs terminates, leaves the arguments as they were and every semaphore counter at
zero. Also the contents of the kernel's result array in closed form.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Lib.Quiescent
public import Idealize.ShloMosaic.Lib.Memref

@[expose] public section

noncomputable section

namespace Cert.KProof

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- A run's final state leaves `x` as it was, -/
theorem finalA_x (c : Dev nD) : finalA m c (0 : Fin 4) = m ((c : Thread nD τ).loc main_arg0) := (dats m 0 c).arrAt_in (0 : Fin 4) rfl _
/-- the device's columns of `Wq`, -/
theorem finalA_wq (c : Dev nD) : finalA m c (1 : Fin 4) = m ((c : Thread nD τ).loc main_arg1) := (dats m 0 c).arrAt_in (1 : Fin 4) rfl _
/-- and its rows of `Wo`; -/
theorem finalA_wo (c : Dev nD) : finalA m c (2 : Fin 4) = m ((c : Thread nD τ).loc main_arg4) := (dats m 0 c).arrAt_in (2 : Fin 4) rfl _

/-- reading the block of the result array, which is all of it, reads the array; -/
theorem read_out (f : main_v1.ty.Contents (Elt F)) : (win0_3.blk (0 : Fin 1)).view.read (Elt F) f = f :=
  Memref.read_access_unit_zero (Elt F) main_v1 (funext fun a => by fin_cases a <;> decide) (fun a => by fin_cases a <;> decide) f

/-- the result array holds the sum of what the devices had to add. -/
theorem finalA_out (c : Dev nD) : finalA m c (3 : Fin 4) = total m := by
  refine (read_out (F := F) _).symm.trans ?_
  unfold finalA
  rw [show cfg0.N = ((0 : Fin 1) : Fin cfg0.N).val + 1 from rfl, (dats m 0 c).arrAt_succ (3 : Fin 4) (0 : Fin 1)]
  rw [show (cfg0.win (3 : Fin 4)).flush (0 : Fin 1) = true from by decide, if_pos rfl]
  exact View.read_write_univ _ _

/-- All five arguments are unchanged in a final state. -/
theorem args_kept (r : PUnit × MemSt nD τ sig (Elt F)) (h : QC m r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4) :=
  ⟨((h c).1 (0 : Fin 4)).trans (finalA_x m c), ((h c).1 (1 : Fin 4)).trans (finalA_wq m c), (h c).2.1, (h c).2.2, ((h c).1 (2 : Fin 4)).trans (finalA_wo m c)⟩

/-- The kernel's text, over any float values, runs, keeps its arguments and ends with its counters at zero. -/
theorem frame_any : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4))
    ∧ r.2.sem = fun _ => 0) :=
  (θ_run defs _ _).mono (fun r h => ⟨fun c => args_kept m r h.1 c, h.2⟩) (run_main m ρ)

/-- The kernel at the ideal instance runs, keeps its arguments and ends quiescent. -/
theorem frame_ideal : Cert.quiescent_KernelIdeal := fun m ρ _ => frame_any (F := Ideal) m ρ

/-- The two printed kernels have one text: their bodies' tables agree, -/
theorem bodies_eq : Cert.Kernel.defs₀ (F := F) = Cert.KernelIdeal.defs₀ (F := F) := by
  unfold Cert.Kernel.defs₀ Cert.KernelIdeal.defs₀
  refine congrArg (Defs.onTc (nD := nD) (τ := τ) (sig := sig) (Val := Elt F) (Λ := Λ₀)) ?_
  funext l a
  obtain ⟨n, hn⟩ := l
  cases n with
  | zero => obtain ⟨t, s⟩ := a; rfl
  | succ n => exact absurd hn (Nat.not_lt.2 (Nat.le_add_left _ _))

/-- and so do their whole tables. -/
theorem tables_eq : Cert.Kernel.defs (F := F) = Cert.KernelIdeal.defs (F := F) := by
  unfold Cert.Kernel.defs Cert.KernelIdeal.defs
  exact congrArg (Pipeline.defs Cert.KernelIdeal.pcfgs) bodies_eq

/-- So does the kernel over words: its text is the same. -/
theorem frame_kernel : Cert.quiescent_Kernel := fun m ρ _ => by
  have h := frame_any (F := Bits) m ρ
  rw [← tables_eq] at h
  exact h

/-- So does the reference, which declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.KProof

end
-- ==== Proof.Softmax.lean ====
/-
The mathematics of one row of attention over the extended reals: the scores of the keys that are masked out are `⊥`, so
they carry no weight, and the row may be taken over the remaining keys alone.
-/
module

public import Idealize.ShloMosaic.PureOps.Ideal
public import Idealize.ShloMosaic.Lib.Pointwise.Tactic

@[expose] public section

noncomputable section

namespace Cert.KProof

open Idealize.ShloMosaic

/-- The weight of key `j` in a row of scores: its exponential less the row's greatest, over the sum of all of them. -/
def soft {n : ℕ} (s : Fin n → EReal) (j : Fin n) : EReal :=
  Ideal.div (Ideal.exp (s j - Finset.univ.sup s)) (∑ k, Ideal.exp (s k - Finset.univ.sup s))

/-- A real number among the extended reals. -/
def IsR (x : EReal) : Prop := ∃ r : ℝ, x = (r : EReal)

/-- Products of reals are real, -/
theorem IsR.mul {x y : EReal} (hx : IsR x) (hy : IsR y) : IsR (x * y) := by
  obtain ⟨a, rfl⟩ := hx
  obtain ⟨b, rfl⟩ := hy
  exact ⟨a * b, (EReal.coe_mul a b).symm⟩

/-- A finite sum of reals, taken among the extended reals, is their sum. -/
theorem coe_sum_real {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- and so are finite sums of them. -/
theorem IsR.sum {ι : Type*} (s : Finset ι) {f : ι → EReal} (h : ∀ i, IsR (f i)) : IsR (∑ i ∈ s, f i) := by
  choose r hr using h
  exact ⟨∑ i ∈ s, r i, by rw [coe_sum_real]; exact Finset.sum_congr rfl fun i _ => hr i⟩

/-- A real factor common to every term of a sum of reals moves out of it. -/
theorem sum_scale {ι : Type*} (s : Finset ι) {q k : ι → EReal} {c : EReal} (hq : ∀ i, IsR (q i)) (hk : ∀ i, IsR (k i)) (hc : IsR c) :
    ∑ i ∈ s, q i * c * k i = (∑ i ∈ s, q i * k i) * c := by
  choose a ha using hq
  choose b hb using hk
  obtain ⟨c, rfl⟩ := hc
  have h₁ : ∀ i, q i * (c : EReal) * k i = ((a i * c * b i : ℝ) : EReal) := fun i => by
    rw [ha, hb, EReal.coe_mul, EReal.coe_mul]
  have h₂ : ∀ i, q i * k i = ((a i * b i : ℝ) : EReal) := fun i => by rw [ha, hb, EReal.coe_mul]
  simp only [h₁, h₂, ← coe_sum_real, ← EReal.coe_mul, Finset.sum_mul]
  exact congrArg _ (Finset.sum_congr rfl fun i _ => by ring)

/-- The greatest of finitely many scores, at least one and all real, is real. -/
theorem sup_real {n : ℕ} (hn : 0 < n) {s : Fin n → EReal} (h : ∀ t, IsR (s t)) : IsR (Finset.univ.sup s) := by
  obtain ⟨t, -, ht⟩ := Finset.exists_mem_eq_sup (Finset.univ : Finset (Fin n)) ⟨⟨0, hn⟩, Finset.mem_univ _⟩ s
  rw [ht]; exact h t

/-- The sum of the exponentials of real scores is a real other than zero. -/
theorem sum_exp_real {n : ℕ} (hn : 0 < n) {s : Fin n → EReal} (h : ∀ t, IsR (s t)) {M : EReal} (hM : IsR M) :
    ∃ z : ℝ, z ≠ 0 ∧ ∑ k, Ideal.exp (s k - M) = (z : EReal) := by
  choose r hr using h
  obtain ⟨M, rfl⟩ := hM
  refine ⟨∑ k, Real.exp (r k - M), ?_, ?_⟩
  · exact ne_of_gt (Finset.sum_pos (fun k _ => Real.exp_pos _) ⟨⟨0, hn⟩, Finset.mem_univ _⟩)
  · rw [coe_sum_real]
    exact Finset.sum_congr rfl fun k _ => by rw [hr, ← EReal.coe_sub, Ideal.exp_coe]

/-- **Masked attention**: where the scores off the kept keys are `⊥` and those of the kept ones real, the weighted sum of any
    values over all the keys is that over the kept ones alone. -/
theorem masked {m n : ℕ} (hm : 0 < m) (e : Fin m → Fin n) (he : Function.Injective e) (s : Fin m → EReal) (hs : ∀ t, IsR (s t))
    (s' : Fin n → EReal) (hon : ∀ t, s' (e t) = s t) (hoff : ∀ j, j ∉ Set.range e → s' j = ⊥) (v : Fin n → EReal) :
    ∑ t, soft s t * v (e t) = ∑ j, soft s' j * v j := by
  have hsup : Finset.univ.sup s' = Finset.univ.sup s := by
    apply le_antisymm
    · refine Finset.sup_le fun j _ => ?_
      by_cases hj : j ∈ Set.range e
      · obtain ⟨t, rfl⟩ := hj
        rw [hon]; exact Finset.le_sup (f := s) (Finset.mem_univ t)
      · rw [hoff j hj]; exact bot_le
    · refine Finset.sup_le fun t _ => ?_
      rw [← hon]; exact Finset.le_sup (f := s') (Finset.mem_univ (e t))
  obtain ⟨M, hM⟩ := sup_real hm hs
  have hz : ∀ j, j ∉ Set.range e → Ideal.exp (s' j - Finset.univ.sup s') = 0 := fun j hj => by
    rw [hoff j hj, hsup, hM, EReal.bot_sub, Ideal.exp_bot]
  have hsum : ∑ k, Ideal.exp (s k - Finset.univ.sup s) = ∑ k, Ideal.exp (s' k - Finset.univ.sup s') :=
    Finset.sum_of_injOn e he.injOn (fun _ _ => Finset.mem_coe.2 (Finset.mem_univ _))
      (fun j _ hj => hz j fun hr => hj (by obtain ⟨t, rfl⟩ := hr; exact ⟨t, Finset.mem_coe.2 (Finset.mem_univ t), rfl⟩))
      (fun t _ => by rw [hon, hsup])
  obtain ⟨z, hz0, hzs⟩ := sum_exp_real hm hs (M := Finset.univ.sup s) ⟨M, hM⟩
  refine Finset.sum_of_injOn e he.injOn (fun _ _ => Finset.mem_coe.2 (Finset.mem_univ _)) (fun j _ hj => ?_) (fun t _ => ?_)
  · have hj' : j ∉ Set.range e := fun hr => hj (by obtain ⟨t, rfl⟩ := hr; exact ⟨t, Finset.mem_coe.2 (Finset.mem_univ t), rfl⟩)
    unfold soft
    rw [hz j hj', ← hsum, hzs, Ideal.div_coe hz0, zero_mul, zero_mul]
  · unfold soft
    rw [← hsum, hon, hsup]

end Cert.KProof

end
-- ==== Proof.Finite.lean ====
/-
The precondition read: on every device the rows `x`, the device's columns of `Wq` and the keys are real numbers.
-/
module

public import proofs.«01_k».proof.Defs
public import proofs.«01_k».proof.Proof.Gen.Pre_finite_qk_KernelIdeal
public import proofs.«01_k».proof.Proof.Softmax
public import Idealize.ShloMosaic.Lib.ReduceAll
public import Idealize.ShloMosaic.Lib.Pointwise

@[expose] public section

noncomputable section

namespace Cert.KProof

open Idealize.ShloMosaic

/-- An extended real whose absolute value is below infinity is real. -/
theorem real_of_abs_lt (a : EReal) (h : max a (-a) < ⊤) : IsR a := by
  induction a using EReal.rec with
  | bot => exact absurd h (by simp)
  | coe r => exact ⟨r, rfl⟩
  | top => exact absurd h (by simp)

/-- The word of infinity. -/
theorem ofBits_inf : Ideal.ofBits .f32 0x7F800000#32 = ⊤ := by simp [Ideal.ofBits, Ideal.ieee]

/-- A comparison below infinity that came out true is of a real. -/
theorem real_of_cmp (a : EReal) (h : Ideal.cmp .olt (max a (-a)) (Ideal.ofBits .f32 0x7F800000#32) = 1#1) : IsR a := by
  refine real_of_abs_lt a ?_
  rw [ofBits_inf] at h
  by_contra hn
  simp [Ideal.cmp, hn] at h

open Cert.Pre_finite_qk_KernelIdeal in
/-- What the precondition says of one device's arrays. -/
theorem finite_of_pre (x wq wo : FVec Ideal S1024x1024 .f32) (k v : FVec Ideal S1x1024x64x128 .f32)
    (h : letI := Cert.Pre_finite_qk_KernelIdeal.Gen.facts; Cert.Pre_finite_qk_KernelIdeal.fn (F := Ideal) x wq k v wo = fun _ => 1#1) :
    (∀ i, IsR (x i)) ∧ (∀ i, IsR (wq i)) ∧ (∀ i, IsR (k i)) := by
  letI := Cert.Pre_finite_qk_KernelIdeal.Gen.facts
  have h0 := congrFun h (Shape.Idx.first Facts.h_S_)
  unfold Cert.Pre_finite_qk_KernelIdeal.fn at h0
  obtain ⟨h1, hk⟩ := IntOp.andi_eq_one.1 h0
  obtain ⟨hx, hw⟩ := IntOp.andi_eq_one.1 h1
  haveI : Subsingleton S_.Idx := ⟨fun a b => funext fun q => q.elim0⟩
  exact ⟨fun i => real_of_cmp _ (Host.reduce_andi_all _ _ _ _ _ hx i),
    fun i => real_of_cmp _ (Host.reduce_andi_all _ _ _ _ _ hw i),
    fun i => real_of_cmp _ (Host.reduce_andi_all _ _ _ _ _ hk i)⟩

end Cert.KProof

end
-- ==== Proof.SumDevices.lean ====
/-
The recursive halving adds up, in each band, what all eight devices have: over the extended reals the order does not matter.
-/
module

public import proofs.«01_k».proof.Proof.Protocol
public import Idealize.ShloMosaic.Lib.Pointwise.Tactic

@[expose] public section

noncomputable section

namespace Cert.KProof

open Cert.KernelIdeal Cert.KernelIdeal.Gen
open Idealize.ShloMosaic

/-- The eight devices whose arrays are added up in band `p` on device `c`, in the order the rounds add them. -/
def leaves (p : Fin 3) (c : Dev nD) : List (Dev nD) :=
  let a := par (stp p 0)
  let b := par (stp p 1)
  let d := par (stp p 2)
  [c, a c, b c, a (b c), d c, a (d c), b (d c), a (b (d c))]

/-- They are all eight. -/
theorem leaves_perm (p : Fin 3) (c : Dev nD) : (leaves p c).Perm (List.finRange 8) := by
  revert p c; decide

/-- The exchange's result is the sum over the devices. -/
theorem FIN_sum (A : Dev nD → FVec Ideal S1024x1024 .bf16) (i : S1024x1024.Idx) :
    FIN (F := Ideal) A i = ∑ e : Dev nD, (A e i : EReal) := by
  have key : ∀ (p : Fin 3) (c : Dev nD), V (F := Ideal) A p 3 c i = ((leaves p c).map fun e => (A e i : EReal)).sum := by
    intro p c
    have h0 : (Fin.ofNat 3 0 : Fin 3) = 0 := rfl
    have h1 : (Fin.ofNat 3 1 : Fin 3) = 1 := rfl
    have h2 : (Fin.ofNat 3 2 : Fin 3) = 2 := rfl
    simp only [V, h0, h1, h2, leaves, List.map_cons, List.map_nil, List.sum_cons, List.sum_nil, add_zero]
    simp only [addf, FloatOps.addf, add_assoc]
  unfold FIN
  rw [key, ((leaves_perm _ _).map _).sum_eq]
  exact (Fin.sum_univ_def _).symm

end Cert.KProof

end
-- ==== Proof.KernelValue.lean ====
/-
What a device has to add, read at an index over the extended reals.
-/
module

public import proofs.«01_k».proof.Proof.Contents
public import proofs.«01_k».proof.Proof.Softmax
public import Idealize.ShloMosaic.Lib.Pointwise.Tactic
public import Idealize.ShloMosaic.Lib.Pointwise.Contract
public import Idealize.ShloMosaic.Lib.Pointwise.Reduce
public import Idealize.ShloMosaic.Lib.Pointwise.SelectCore

@[expose] public section

noncomputable section

namespace Cert.KProof

open Cert.KernelIdeal Cert.KernelIdeal.Gen
open Idealize.ShloMosaic

/-- The row of key `t` of class `cls`. -/
def keyRow (cls : Fin 4) (t : Fin 256) : Fin 1024 := ⟨64 * cls.val + 256 * (t.val / 64) + t.val % 64, by omega⟩

/-- The word of negative infinity. -/
theorem ofBits_neg_inf : Ideal.ofBits .f32 0xFF800000#32 = ⊥ := by simp [Ideal.ofBits, Ideal.ieee]

/-- The queries: the product of the rows with the device's columns, scaled. -/
theorem pay1_apply (x w : FVec Ideal S1024x1024 .f32) (i : S1024x1024.Idx) :
    k0_pay1 x w i = (∑ k : Fin 1024, x (ix2 (i 0) k) * w (ix2 k (i 1))) * Ideal.ofBits .f32 0x3DB504F3#32 := by
  unfold k0_pay1
  pointwise

/-- The rows of `Wo`, as they are. -/
theorem pay2_apply (w : FVec Ideal S1024x1024 .f32) (i : S1024x1024.Idx) : (k0_pay2 (F := Ideal) w i : EReal) = w i := by
  unfold k0_pay2
  pointwise

/-- Half of the device's own product. -/
theorem pay133_apply (wo : FVec Ideal S1024x1024 .bf16) (t : FVec Ideal S512x1024 .bf16) (i : S512x1024.Idx) :
    k0_pay133 wo t i = ∑ k : Fin 1024, t (ix2 (i 0) k) * wo (ix2 k (i 1)) := by
  unfold k0_pay133
  pointwise

/-- Row `t` of a class of keys is row `keyRow cls t` of all of them. -/
theorem slabs_apply (cls : Fin 4) (s : FVec Ideal S8x1024x128 .f32) (h : Fin 8) (t : Fin 256) (d : Fin 128) :
    slabs cls s (ix3 h t d) = s (ix3 h (keyRow cls t) d) := by
  unfold slabs ld
  pointwise
  have ht := t.isLt
  split_ifs with h₁ h₂ h₃ <;> refine congrArg s (funext fun a => Fin.ext ?_) <;> fin_cases a <;>
    simp [Rect.emb, Rect.unit, keyRow, ix3] <;> omega

/-- The scores of a row of queries. -/
theorem scores_apply (h : Fin 8) (qr : FVec Ideal S128x1024 .f32) (K : FVec Ideal S8x256x128 .bf16) (r : Fin 128) (t : Fin 256) :
    scores h qr K (ix2 r t) = ∑ d : Fin 128, qr (ix2 r ⟨128 * h.val + d.val, by omega⟩) * K (ix3 h t d) := by
  unfold scores
  pointwise

/-- Row `r` of a class of queries in one half of the rows. -/
theorem qrows_apply (half : Fin 2) (cls : Fin 4) (q : FVec Ideal S1024x1024 .f32) (r : Fin 128) (c : Fin 1024) :
    qrows half cls q (ix2 r c) = q (ix2 (⟨512 * half.val + 64 * cls.val + 256 * (r.val / 64) + r.val % 64, by omega⟩ : Fin 1024) c) := by
  unfold qrows
  pointwise
  have hr := r.isLt
  split_ifs with h₁ <;> congr 2 <;> apply Fin.ext <;> dsimp only <;> omega

/-- The exponentials of a row of scores. -/
theorem expo_apply (s : FVec Ideal S128x256 .f32) (r : Fin 128) (t : Fin 256) :
    expo s (ix2 r t) = Ideal.exp (s (ix2 r t) - Finset.univ.sup fun k : Fin 256 => s (ix2 r k)) := by
  unfold expo
  pointwise
  rw [ofBits_neg_inf]
  rfl

/-- A row of weights. -/
theorem weights_apply (e : FVec Ideal S128x256 .f32) (r : Fin 128) (t : Fin 256) :
    weights e (ix2 r t) = Ideal.div (e (ix2 r t)) (∑ k : Fin 256, e (ix2 r k)) := by
  unfold weights
  pointwise

/-- One head's weighted values. -/
theorem head_apply (h : Fin 8) (qr : FVec Ideal S128x1024 .f32) (K V : FVec Ideal S8x256x128 .bf16) (r d : Fin 128) :
    head h qr K V (ix2 r d) = ∑ t : Fin 256, soft (fun t => scores h qr K (ix2 r t)) t * V (ix3 h t d) := by
  unfold head
  pointwise
  refine Finset.sum_congr rfl fun t _ => ?_
  simp only [weights_apply, expo_apply]
  rfl

/-- The attention of row `i` at column `k` on one device: head `k / 128`, over the keys of the row's class. -/
def ctxOf (x wq : FVec Ideal S1024x1024 .f32) (kx vx : FVec Ideal S8x1024x128 .f32) (i k : Fin 1024) : EReal :=
  ∑ t : Fin 256, soft (fun t : Fin 256 => ∑ d : Fin 128,
      ((∑ j : Fin 1024, x (ix2 i j) * wq (ix2 j (⟨128 * (k.val / 128) + d.val, by omega⟩ : Fin 1024))) * Ideal.ofBits .f32 0x3DB504F3#32)
        * kx (ix3 (⟨k.val / 128, by omega⟩ : Fin 8) (keyRow ⟨i.val % 256 / 64, by omega⟩ t) d)) t
    * vx (ix3 (⟨k.val / 128, by omega⟩ : Fin 8) (keyRow ⟨i.val % 256 / 64, by omega⟩ t) (⟨k.val % 128, by omega⟩ : Fin 128))

/-- The attention buffer holds that of every row. -/
theorem attn_apply (x wq : FVec Ideal S1024x1024 .f32) (kx vx : FVec Ideal S8x1024x128 .f32) (i k : Fin 1024) :
    (attn (k0_pay1 x wq) (fun cls => slabs cls kx) (fun cls => slabs cls vx) (ix2 i k) : EReal) = ctxOf x wq kx vx i k := by
  unfold attn ctxOf
  rw [head_apply]
  simp only [slabs_apply, scores_apply, qrows_apply, pay1_apply]
  have hi := i.isLt
  refine Finset.sum_congr rfl fun t _ => congrArg₂ (· * ·) (congrArg (fun s => soft s t) (funext fun t' =>
    Finset.sum_congr rfl fun d _ => congrArg (fun u : EReal => u * _ * _) (Finset.sum_congr rfl fun j _ =>
      congrArg (fun r : Fin 1024 => (x (ix2 r j) * wq (ix2 j (⟨128 * (k.val / 128) + d.val, by omega⟩ : Fin 1024)) : EReal)) (Fin.ext ?_)))) rfl
  show 512 * (i.val / 512) + 64 * (i.val % 256 / 64) + 256 * ((i.val / 256 % 2 * 64 + i.val % 64) / 64) + (i.val / 256 % 2 * 64 + i.val % 64) % 64 = i.val
  omega

/-- **What a device has to add**: its attention times its rows of `Wo`. -/
theorem ownSum_apply (x wq wo : FVec Ideal S1024x1024 .f32) (kx vx : FVec Ideal S8x1024x128 .f32) (i n : Fin 1024) :
    (ownSum x wq wo kx vx (ix2 i n) : EReal) = ∑ k : Fin 1024, ctxOf x wq kx vx i k * wo (ix2 k n) := by
  unfold ownSum accOf
  rw [pay133_apply]
  refine Finset.sum_congr rfl fun k _ => ?_
  rw [pay2_apply, ← attn_apply]
  unfold halfRows
  have hi := i.isLt
  refine congrArg (fun u : S1024x1024.Idx => (attn (k0_pay1 x wq) (fun cls => slabs cls kx) (fun cls => slabs cls vx) u * wo (ix2 k n) : EReal))
    (funext fun a => Fin.ext ?_)
  fin_cases a
  · show 512 * (i.val / 512) + 1 * (i.val % 512) = i.val
    omega
  · show 0 + 1 * k.val = k.val
    omega

end Cert.KProof

end
-- ==== Proof.Mask.lean ====
/-
The reference's mask: a query sees a key when their blocks of sixty-four rows agree modulo four.
-/
module

public import proofs.«01_k».proof.Proof.Gen.ReferenceIdeal.Read
public import Idealize.ShloMosaic.Lib.Pointwise

@[expose] public section

noncomputable section

namespace Cert.KProof

open Cert.ReferenceIdeal Cert.ReferenceIdeal.Gen Cert.ReferenceIdeal.Read
open Idealize.ShloMosaic

/-- The block of a query row, as a word. -/
theorem block_q : ∀ n : Fin 1024, val_main_v3 (F := Ideal) (ix1 n) = BitVec.ofNat 32 (n.val / 64) := by
  decide +kernel

/-- The block of a key row. -/
theorem block_k : ∀ n : Fin 1024, val_main_v6 (F := Ideal) (ix1 n) = BitVec.ofNat 32 (n.val / 64) := by
  decide +kernel

/-- The class of a key row. -/
theorem class_k : ∀ n : Fin 1024, val_main_v11 (F := Ideal) (ix2 0 n) = BitVec.ofNat 32 (n.val / 64 % 4) := by
  decide +kernel

/-- The class of a query row. -/
theorem class_q : ∀ n : Fin 1024, val_main_v12 (F := Ideal) (ix2 n 0) = BitVec.ofNat 32 (n.val / 64 % 4) := by
  decide +kernel

/-- Words below sixteen are equal when the numbers are. -/
theorem word_eq (a b : Fin 16) : (IntOp.cmpi .eq (BitVec.ofNat 32 a.val) (BitVec.ofNat 32 b.val) : BitVec 1) = if a.val = b.val then 1#1 else 0#1 := by
  revert a b; decide +kernel

/-- **The mask**: query `i` sees key `j` when their blocks agree modulo four. -/
theorem mask_apply (i j : Fin 1024) :
    val_main_v16 (F := Ideal) (ix2 i j) = if i.val / 64 % 4 = j.val / 64 % 4 then 1#1 else 0#1 := by
  have hi := i.isLt
  have hj := j.isLt
  rw [val_main_v16_apply, val_main_v10_apply, val_main_v15_apply, val_main_v8_apply, val_main_v9_apply, val_main_v13_apply,
    val_main_v14_apply, val_main_v4_apply, val_main_v7_apply]
  rw [show idx_main_v4 (idx_main_v8 (ix2 i j)) = ix1 i from funext fun a => by fin_cases a; rfl,
    show idx_main_v7 (idx_main_v9 (ix2 i j)) = ix1 j from funext fun a => by fin_cases a; rfl,
    show idx_main_v13 (ix2 i j) = ix2 0 j from funext fun a => by fin_cases a <;> rfl,
    show idx_main_v14 (ix2 i j) = ix2 i 0 from funext fun a => by fin_cases a <;> rfl,
    block_q, block_k, class_q, class_k,
    word_eq ⟨i.val / 64, by omega⟩ ⟨j.val / 64, by omega⟩, word_eq ⟨j.val / 64 % 4, by omega⟩ ⟨i.val / 64 % 4, by omega⟩]
  dsimp only
  by_cases h : i.val / 64 % 4 = j.val / 64 % 4
  · rw [if_pos h.symm, if_pos h]
    split_ifs <;> rfl
  · rw [if_neg (Ne.symm h), if_neg h, if_neg (fun h' => h (by rw [h']))]
    rfl

/-- An `or` over a list holding a one is one. -/
theorem foldl_ori_one {ι : Type} (f : ι → BitVec 1) (l : List ι) (a : BitVec 1) (h : a = 1#1 ∨ ∃ n ∈ l, f n = 1#1) :
    l.foldl (fun r n => IntOp.ori r (f n)) a = 1#1 := by
  induction l generalizing a with
  | nil =>
    rcases h with h | ⟨n, hn, -⟩
    · exact h
    · cases hn
  | cons b l ih =>
    have or1 : ∀ u v : BitVec 1, u = 1#1 ∨ v = 1#1 → IntOp.ori u v = 1#1 := by decide
    refine ih _ ?_
    rcases h with h | ⟨n, hn, hf⟩
    · exact .inl (or1 _ _ (.inl h))
    · rcases List.mem_cons.1 hn with rfl | hn
      · exact .inl (or1 _ _ (.inr hf))
      · exact .inr ⟨n, hn, hf⟩

/-- Every query row keeps some key: its own. -/
theorem keep_apply (i : Fin 1024) : val_main_v27 (F := Ideal) (ix1 i) = 1#1 := by
  unfold val_main_v27
  rw [Host.reduce_eq_foldl]
  refine foldl_ori_one (fun n => val_main_v16 (F := Ideal) n) _ _ (.inr ⟨ix2 i i, ?_, ?_⟩)
  · rw [List.mem_filter]
    refine ⟨List.mem_map.2 ⟨S1024x1024.rowMajor (ix2 i i), List.mem_finRange _, Equiv.symm_apply_apply _ _⟩, ?_⟩
    refine decide_eq_true ?_
    funext a
    fin_cases a
    rfl
  · rw [mask_apply, if_pos rfl]

end Cert.KProof

end
-- ==== Proof.RefValue.lean ====
/-
The reference's result, read at an index over the extended reals.
-/
module

public import proofs.«01_k».proof.Proof.Mask
public import proofs.«01_k».proof.Proof.Softmax
public import Idealize.ShloMosaic.Lib.Pointwise

@[expose] public section

noncomputable section

namespace Cert.KProof

open Cert.ReferenceIdeal Cert.ReferenceIdeal.Gen Cert.ReferenceIdeal.Read
open Idealize.ShloMosaic

variable (x0 : FVec Ideal S1024x1024 .f32) (x1 : FVec Ideal S1024x8192 .f32) (x2 x3 : FVec Ideal S1x1024x64x128 .f32) (x4 : FVec Ideal S8192x1024 .f32)

/-- The query of row `i` at column `n`. -/
def qOf (i : Fin 1024) (n : Fin 8192) : EReal := ∑ k : Fin 1024, x0 (ix2 i k) * x1 (ix2 k n)

/-- The score of head `h`, query row `i` and key row `j`, before masking. -/
def scoreOf (h : Fin 64) (i j : Fin 1024) : EReal :=
  (∑ d : Fin 128, qOf x0 x1 i ⟨128 * h.val + d.val, by omega⟩ * x2 (ix4 (0 : Fin 1) j h d)) * Ideal.ofBits .f32 0x3DB504F3#32

/-- The score after masking. -/
def maskedOf (h : Fin 64) (i j : Fin 1024) : EReal := if i.val / 64 % 4 = j.val / 64 % 4 then scoreOf x0 x1 x2 h i j else ⊥

/-- The queries, head by head. -/
theorem v1_apply (i : Fin 1024) (h : Fin 64) (d : Fin 128) :
    (val_main_v1 (F := Ideal) x0 x1 (ix4 (0 : Fin 1) i h d) : EReal) = qOf x0 x1 i ⟨128 * h.val + d.val, by omega⟩ := by
  rw [val_main_v1_apply, val_main_v0_apply]
  unfold qOf
  refine Finset.sum_congr rfl fun k _ => ?_
  have hi := i.isLt
  have hh := h.isLt
  have hd := d.isLt
  refine congrArg₂ (· * · : EReal → EReal → EReal) (congrArg x0 (funext fun a => Fin.ext ?_)) (congrArg x1 (funext fun a => Fin.ext ?_)) <;> fin_cases a
  · show (((0 * 1024 + i.val) * 64 + h.val) * 128 + d.val) / 8192 = i.val
    omega
  · rfl
  · rfl
  · show (((0 * 1024 + i.val) * 64 + h.val) * 128 + d.val) % 8192 = 128 * h.val + d.val
    omega

/-- The scaled scores. -/
theorem v19_apply (h : Fin 64) (i j : Fin 1024) :
    (val_main_v19 (F := Ideal) x0 x1 x2 (ix4 (0 : Fin 1) h i j) : EReal) = scoreOf x0 x1 x2 h i j := by
  rw [val_main_v19_apply, val_main_v17_apply, val_main_v18_apply, val_main_cst_apply]
  unfold scoreOf
  refine congrArg (fun u : EReal => u * Ideal.ofBits .f32 0x3DB504F3#32) (Finset.sum_congr rfl fun d _ => ?_)
  rw [← v1_apply]
  refine congrArg₂ (· * · : EReal → EReal → EReal) (congrArg (val_main_v1 (F := Ideal) x0 x1) (funext fun a => ?_)) (congrArg x2 (funext fun a => ?_)) <;> fin_cases a <;> rfl

/-- The masked scores. -/
theorem v21_apply (h : Fin 64) (i j : Fin 1024) :
    (val_main_v21 (F := Ideal) x0 x1 x2 (ix4 (0 : Fin 1) h i j) : EReal) = maskedOf x0 x1 x2 h i j := by
  rw [val_main_v21_apply, val_main_call4_v1_apply, val_main_v20_apply, v19_apply, val_main_call4_v2_apply]
  rw [show idx_main_v20 (idx_main_call4_v1 (ix4 (0 : Fin 1) h i j)) = ix2 i j from funext fun a => by fin_cases a <;> rfl, mask_apply]
  have hb : (val_main_call4_v0 (F := Ideal) (idx_main_call4_v2 (ix4 (0 : Fin 1) h i j)) : EReal) = ⊥ := by
    show Ideal.ofBits .f32 0xFF800000#32 = ⊥
    simp [Ideal.ofBits, Ideal.ieee]
  rw [hb]
  unfold maskedOf
  split_ifs <;> rfl

/-- The greatest of a row of masked scores. -/
theorem v22_apply (h : Fin 64) (i : Fin 1024) :
    (val_main_v22 (F := Ideal) x0 x1 x2 (ix3 (0 : Fin 1) h i) : EReal) = Finset.univ.sup fun j => maskedOf x0 x1 x2 h i j := by
  unfold val_main_v22
  pointwise
  simp only [v21_apply]
  have hb : (val_main_cst_4 (F := Ideal) (Shape.Idx.first h_S_) : EReal) = ⊥ := by
    show Ideal.ofBits .f32 0xFF800000#32 = ⊥
    simp [Ideal.ofBits, Ideal.ieee]
  rw [hb]
  rfl

/-- The exponentials. -/
theorem v26_apply (h : Fin 64) (i j : Fin 1024) :
    (val_main_v26 (F := Ideal) x0 x1 x2 (ix4 (0 : Fin 1) h i j) : EReal)
      = Ideal.exp (maskedOf x0 x1 x2 h i j - Finset.univ.sup fun j => maskedOf x0 x1 x2 h i j) := by
  rw [val_main_v26_apply, val_main_v25_apply, v21_apply, val_main_v24_apply, val_main_v23_apply]
  rw [show idx_main_v23 (idx_main_v24 (ix4 (0 : Fin 1) h i j)) = ix3 (0 : Fin 1) h i from funext fun a => by fin_cases a <;> rfl, v22_apply]
  rfl

/-- Their sum along a row. -/
theorem v29_apply (h : Fin 64) (i : Fin 1024) :
    (val_main_v29 (F := Ideal) x0 x1 x2 (ix3 (0 : Fin 1) h i) : EReal)
      = ∑ j, Ideal.exp (maskedOf x0 x1 x2 h i j - Finset.univ.sup fun j => maskedOf x0 x1 x2 h i j) := by
  rw [val_main_v29_apply]
  have hz : (val_main_cst_6 (F := Ideal) (Shape.Idx.first h_S_) : EReal) = 0 := by
    show Ideal.ofBits .f32 0#32 = 0
    simp [Ideal.ofBits, Ideal.ieee]
  rw [hz, zero_add]
  refine Finset.sum_congr rfl fun j _ => ?_
  rw [← v26_apply]
  exact congrArg (val_main_v26 (F := Ideal) x0 x1 x2) (funext fun a => by fin_cases a <;> rfl)

/-- The weights. -/
theorem v35_apply (h : Fin 64) (i j : Fin 1024) :
    (val_main_v35 (F := Ideal) x0 x1 x2 (ix4 (0 : Fin 1) h i j) : EReal) = soft (fun j => maskedOf x0 x1 x2 h i j) j := by
  rw [val_main_v35_apply, val_main_call6_v1_apply, val_main_v34_apply,
    show idx_main_v34 (idx_main_call6_v1 (ix4 (0 : Fin 1) h i j)) = ix1 i from funext fun a => by fin_cases a; rfl, keep_apply]
  rw [val_main_v33_apply, v26_apply, val_main_v32_apply, val_main_v31_apply, val_main_call5_v1_apply, val_main_v28_apply,
    show idx_main_v28 (idx_main_call5_v1 (idx_main_v32 (ix4 (0 : Fin 1) h i j))) = ix1 i from funext fun a => by fin_cases a; rfl, keep_apply,
    val_main_v30_apply,
    show idx_main_v30 (idx_main_v32 (ix4 (0 : Fin 1) h i j)) = ix3 (0 : Fin 1) h i from funext fun a => by fin_cases a <;> rfl, v29_apply]
  rfl

/-- The reference's attention of row `i` at column `k`, head `k / 128`, over all the keys. -/
def refCtx (i : Fin 1024) (k : Fin 8192) : EReal :=
  ∑ j : Fin 1024, soft (fun j => maskedOf x0 x1 x2 ⟨k.val / 128, by omega⟩ i j) j
    * x3 (ix4 (0 : Fin 1) j (⟨k.val / 128, by omega⟩ : Fin 64) (⟨k.val % 128, by omega⟩ : Fin 128))

/-- The attention, its heads side by side. -/
theorem v38_apply (i : Fin 1024) (k : Fin 8192) :
    (val_main_v38 (F := Ideal) x0 x1 x2 x3 (ix3 (0 : Fin 1) i k) : EReal) = refCtx x0 x1 x2 x3 i k := by
  have hi := i.isLt
  have hk := k.isLt
  rw [val_main_v38_apply, val_main_v37_apply,
    show idx_main_v37 (idx_main_v38 (ix3 (0 : Fin 1) i k)) = ix4 (0 : Fin 1) (⟨k.val / 128, by omega⟩ : Fin 64) (⟨k.val % 128, by omega⟩ : Fin 128) i from
      funext fun a => Fin.ext (by
        fin_cases a
        · rfl
        · show ((0 * 1024 + i.val) * 8192 + k.val) / 128 % 64 = k.val / 128
          omega
        · show ((0 * 1024 + i.val) * 8192 + k.val) % 128 = k.val % 128
          omega
        · show ((0 * 1024 + i.val) * 8192 + k.val) / 8192 % 1024 = i.val
          omega),
    val_main_v36_apply]
  unfold refCtx
  refine Finset.sum_congr rfl fun j _ => ?_
  rw [← v35_apply]
  refine (mul_comm (G := EReal) _ _).trans (congrArg₂ (· * · : EReal → EReal → EReal) (congrArg (val_main_v35 (F := Ideal) x0 x1 x2) (funext fun a => ?_)) (congrArg x3 (funext fun a => ?_))) <;> fin_cases a <;> rfl

/-- **The reference's result**: the attention of the row times `Wo`. -/
theorem v41_apply (i n : Fin 1024) :
    (val_main_v41 (F := Ideal) x0 x1 x2 x3 x4 (ix2 i n) : EReal) = ∑ k : Fin 8192, refCtx x0 x1 x2 x3 i k * x4 (ix2 k n) := by
  have hi := i.isLt
  have hn := n.isLt
  rw [val_main_v41_apply, val_main_v40_apply,
    show idx_main_v40 (ix2 i n) = ix3 (0 : Fin 1) i n from
      funext fun a => Fin.ext (by
        fin_cases a
        · rfl
        · show (i.val * 1024 + n.val) / 1024 % 1024 = i.val
          omega
        · show (i.val * 1024 + n.val) % 1024 = n.val
          omega)]
  show (val_main_v39 (F := Ideal) x0 x1 x2 x3 x4 (ix3 (0 : Fin 1) i n) : EReal) = _
  rw [val_main_v39_apply]
  refine Finset.sum_congr rfl fun k _ => ?_
  rw [← v38_apply]
  refine congrArg₂ (· * · : EReal → EReal → EReal) (congrArg (val_main_v38 (F := Ideal) x0 x1 x2 x3) (funext fun a => ?_)) (congrArg x4 (funext fun a => ?_)) <;> fin_cases a <;> rfl

end Cert.KProof

end
-- ==== Proof.Agree.lean ====
/-
The two results agree: a device's attention over the keys of a row's class is the reference's over all the keys, and the
eight devices' products with their rows of `Wo` add up to the whole product.
-/
module

public import proofs.«01_k».proof.Proof.KernelValue
public import proofs.«01_k».proof.Proof.RefValue
public import proofs.«01_k».proof.Proof.KV
public import Idealize.ShloMosaic.Lib.Layout

@[expose] public section

noncomputable section

namespace Cert.KProof

open Idealize.ShloMosaic

/-! The shapes of the arrays. -/
abbrev T1024x1024 : Shape := ⟨2, ![1024, 1024]⟩
abbrev T1024x8192 : Shape := ⟨2, ![1024, 8192]⟩
abbrev T8192x1024 : Shape := ⟨2, ![8192, 1024]⟩
abbrev T1x1024x64x128 : Shape := ⟨4, ![1, 1024, 64, 128]⟩

/-- The scale is a real number. -/
theorem scale_real : IsR (Ideal.ofBits .f32 0x3DB504F3#32) := by
  unfold Ideal.ofBits Ideal.ieee
  dsimp only
  rw [if_neg (by decide)]
  split_ifs <;> exact ⟨_, rfl⟩

/-- Different keys of a class are different rows. -/
theorem keyRow_inj (cls : Fin 4) : Function.Injective (keyRow cls) := by
  intro a b h
  have h' := congrArg Fin.val h
  simp only [keyRow] at h'
  have ha := a.isLt
  have hb := b.isLt
  exact Fin.ext (by omega)

/-- Element `(j, n)` of a device's columns of `Wq`. -/
theorem cols_apply (e : Fin 8) (f : T1024x8192.Idx → EReal) (j n : Fin 1024) :
    Layout.block T1024x1024 T1024x8192 1 8 e f (by decide) (ix2 j n) = f (ix2 j (⟨1024 * e.val + n.val, by omega⟩ : Fin 8192)) := by
  rw [Layout.block_apply]
  refine congrArg f (funext fun a => Fin.ext ?_)
  fin_cases a
  · rfl
  · show e.val * 1024 + n.val = 1024 * e.val + n.val
    omega

/-- Element `(k, n)` of a device's rows of `Wo`. -/
theorem rows_apply (e : Fin 8) (f : T8192x1024.Idx → EReal) (k n : Fin 1024) :
    Layout.block T1024x1024 T8192x1024 0 8 e f (by decide) (ix2 k n) = f (ix2 (⟨1024 * e.val + k.val, by omega⟩ : Fin 8192) n) := by
  rw [Layout.block_apply]
  refine congrArg f (funext fun a => Fin.ext ?_)
  fin_cases a
  · show e.val * 1024 + k.val = 1024 * e.val + k.val
    omega
  · rfl

variable (x0 : FVec Ideal T1024x1024 .f32) (x1 : FVec Ideal T1024x8192 .f32) (x2 x3 : FVec Ideal T1x1024x64x128 .f32) (x4 : FVec Ideal T8192x1024 .f32)

/-- **One device's attention is the reference's** at the device's columns, where the rows, `Wq` and the keys are real. -/
theorem ctx_eq (hx : ∀ i, IsR (x0 i)) (hw : ∀ i, IsR (x1 i)) (hk : ∀ i, IsR (x2 i)) (e : Fin 8) (i k : Fin 1024) :
    ctxOf x0 (Layout.block T1024x1024 T1024x8192 1 8 e x1 (by decide)) (staged (F := Ideal) e x2) (staged (F := Ideal) e x3) i k
      = refCtx x0 x1 x2 x3 i ⟨1024 * e.val + k.val, by omega⟩ := by
  have hq : ∀ n, IsR (qOf x0 x1 i n) := fun n => IsR.sum _ fun j => (hx _).mul (hw _)
  have hi := i.isLt
  have hkk := k.isLt
  have he := e.isLt
  have hhead : (1024 * e.val + k.val) / 128 = 8 * e.val + k.val / 128 := by omega
  let cls : Fin 4 := ⟨i.val % 256 / 64, by omega⟩
  let h : Fin 64 := ⟨(1024 * e.val + k.val) / 128, by omega⟩
  let s : Fin 256 → EReal := fun t => scoreOf x0 x1 x2 h i (keyRow cls t)
  have hs : ∀ t, IsR (s t) := fun t => (IsR.sum _ fun d => (hq _).mul (hk _)).mul scale_real
  have key := masked (by decide) (keyRow cls) (keyRow_inj cls) s hs (fun j => maskedOf x0 x1 x2 h i j)
    (fun t => if_pos (by show i.val / 64 % 4 = (64 * (i.val % 256 / 64) + 256 * (t.val / 64) + t.val % 64) / 64 % 4; have := t.isLt; omega))
    (fun j hj => if_neg fun hc => hj ⟨⟨j.val / 256 * 64 + j.val % 64, by omega⟩, Fin.ext (by
      show 64 * (i.val % 256 / 64) + 256 * ((j.val / 256 * 64 + j.val % 64) / 64) + (j.val / 256 * 64 + j.val % 64) % 64 = j.val
      have := j.isLt
      omega)⟩)
    (fun j => x3 (ix4 (0 : Fin 1) j h (⟨(1024 * e.val + k.val) % 128, by omega⟩ : Fin 128)))
  refine Eq.trans ?_ key
  unfold ctxOf
  refine Finset.sum_congr rfl fun t _ => congrArg₂ (· * · : EReal → EReal → EReal) (congrArg (fun s => soft s t) (funext fun t' => ?_)) ?_
  · show _ = scoreOf x0 x1 x2 h i (keyRow cls t')
    unfold scoreOf
    rw [← sum_scale _ (fun d => hq _) (fun d => hk _) scale_real]
    refine Finset.sum_congr rfl fun d _ => congrArg₂ (· * · : EReal → EReal → EReal)
      (congrArg (fun u : EReal => u * Ideal.ofBits .f32 0x3DB504F3#32) ?_) (congrArg x2 (funext fun a => Fin.ext ?_))
    · unfold qOf
      refine Finset.sum_congr rfl fun j _ => ?_
      rw [cols_apply]
      refine congrArg (fun u : Fin 8192 => (x0 (ix2 i j) * x1 (ix2 j u) : EReal)) (Fin.ext ?_)
      show 1024 * e.val + (128 * (k.val / 128) + d.val) = 128 * ((1024 * e.val + k.val) / 128) + d.val
      omega
    · fin_cases a
      · rfl
      · rfl
      · show 8 * e.val + k.val / 128 = (1024 * e.val + k.val) / 128
        omega
      · rfl
  · refine congrArg x3 (funext fun a => Fin.ext ?_)
    fin_cases a
    · rfl
    · rfl
    · show 8 * e.val + k.val / 128 = (1024 * e.val + k.val) / 128
      omega
    · show k.val % 128 = (1024 * e.val + k.val) % 128
      omega

/-- A sum over all the columns is the sum over the devices of the sum over each one's columns. -/
theorem sum_split (f : Fin 8192 → EReal) : ∑ k, f k = ∑ e : Fin 8, ∑ k : Fin 1024, f ⟨1024 * e.val + k.val, by omega⟩ := by
  rw [← Fintype.sum_prod_type' (f := fun (e : Fin 8) (k : Fin 1024) => f ⟨1024 * e.val + k.val, by omega⟩)]
  refine (Fintype.sum_equiv (finProdFinEquiv (m := 8) (n := 1024)) _ f fun p => congrArg f (Fin.ext ?_)).symm
  show 1024 * p.1.val + p.2.val = p.2.val + 1024 * p.1.val
  omega

/-- **The results agree**: what the eight devices have to add is, summed, the reference's result. -/
theorem sum_eq (hx : ∀ i, IsR (x0 i)) (hw : ∀ i, IsR (x1 i)) (hk : ∀ i, IsR (x2 i)) (i n : Fin 1024) :
    ∑ e : Fin 8, (ownSum (F := Ideal) x0 (Layout.block T1024x1024 T1024x8192 1 8 e x1 (by decide))
        (Layout.block T1024x1024 T8192x1024 0 8 e x4 (by decide)) (staged (F := Ideal) e x2) (staged (F := Ideal) e x3) (ix2 i n) : EReal)
      = Cert.ReferenceIdeal.Read.val_main_v41 (F := Ideal) x0 x1 x2 x3 x4 (ix2 i n) := by
  rw [v41_apply, sum_split]
  refine Finset.sum_congr rfl fun e _ => ?_
  rw [ownSum_apply]
  refine Finset.sum_congr rfl fun k _ => ?_
  rw [ctx_eq x0 x1 x2 x3 hx hw hk, rows_apply]

end Cert.KProof

end
-- ==== Proof.Algebraic.lean ====
/-
The kernel and the reference, from arguments that agree, end with the same result on every device.
-/
module

public import proofs.«01_k».proof.Proof.Frames
public import proofs.«01_k».proof.Proof.Finite
public import proofs.«01_k».proof.Proof.SumDevices
public import proofs.«01_k».proof.Proof.Agree

@[expose] public section

noncomputable section

namespace Cert.KProof

open Cert.KernelIdeal Cert.KernelIdeal.Gen
open Idealize.ShloMosaic Idealize.ShloMosaic.TcCoe
open Idealize.SL.Sem

section Staged
variable {F : FTy → Type} [FloatOps F] (m : (ℓ : Loc nD τ sig) → Buf (Elt F) ℓ)

/-- The staged rows are the whole array, -/
theorem xIn_eq (c : Dev nD) : xIn m c = m ((c.tc : Thread nD τ).loc main_arg0) :=
  Memref.read_access_unit_zero (Elt F) main_arg0 (funext fun a => by fin_cases a <;> decide) (fun a => by fin_cases a <;> decide) _
/-- and so are the device's columns of `Wq` -/
theorem wqIn_eq (c : Dev nD) : wqIn m c = m ((c.tc : Thread nD τ).loc main_arg1) :=
  Memref.read_access_unit_zero (Elt F) main_arg1 (funext fun a => by fin_cases a <;> decide) (fun a => by fin_cases a <;> decide) _
/-- and its rows of `Wo`. -/
theorem woIn_eq (c : Dev nD) : woIn m c = m ((c.tc : Thread nD τ).loc main_arg4) :=
  Memref.read_access_unit_zero (Elt F) main_arg4 (funext fun a => by fin_cases a <;> decide) (fun a => by fin_cases a <;> decide) _

end Staged

/-- An array cut into blocks is real where all its blocks are. -/
theorem real_of_blocks (f : T1024x8192.Idx → EReal) (h : ∀ e i, IsR (Layout.block T1024x1024 T1024x8192 1 8 e f (by decide) i)) (i) : IsR (f i) := by
  have h1 : (i 1).val < 8192 := (i 1).isLt
  have hb := (congrArg IsR (cols_apply ⟨(i 1).val / 1024, by omega⟩ f (i 0) ⟨(i 1).val % 1024, by omega⟩)).mp (h _ _)
  refine (congrArg (fun u => IsR (f u)) (funext fun a => Fin.ext ?_)).mp hb
  fin_cases a
  · rfl
  · show 1024 * ((i 1).val / 1024) + (i 1).val % 1024 = (i 1).val
    omega

/-- The kernel's result is the reference's, where the rows, `Wq` and the keys are real. -/
theorem total_eq (m : (ℓ : Loc nD τ sig) → Buf (Elt Ideal) ℓ) (x0 : FVec Ideal T1024x1024 .f32) (x1 : FVec Ideal T1024x8192 .f32)
    (x2 x3 : FVec Ideal T1x1024x64x128 .f32) (x4 : FVec Ideal T8192x1024 .f32)
    (h0 : ∀ c : Dev nD, m ((c.tc : Thread nD τ).loc main_arg0) = x0)
    (h1 : ∀ c : Dev nD, m ((c.tc : Thread nD τ).loc main_arg1) = Layout.block T1024x1024 T1024x8192 1 8 c x1 (by decide))
    (h2 : ∀ c : Dev nD, m ((c.tc : Thread nD τ).loc main_arg2) = x2)
    (h3 : ∀ c : Dev nD, m ((c.tc : Thread nD τ).loc main_arg3) = x3)
    (h4 : ∀ c : Dev nD, m ((c.tc : Thread nD τ).loc main_arg4) = Layout.block T1024x1024 T8192x1024 0 8 c x4 (by decide))
    (hx : ∀ i, IsR (x0 i)) (hw : ∀ i, IsR (x1 i)) (hk : ∀ i, IsR (x2 i)) :
    total (F := Ideal) m = Cert.ReferenceIdeal.Read.val_main_v41 (F := Ideal) x0 x1 x2 x3 x4 := by
  have key : ∀ a b : Fin 1024, total (F := Ideal) m (ix2 a b) = Cert.ReferenceIdeal.Read.val_main_v41 (F := Ideal) x0 x1 x2 x3 x4 (ix2 a b) := ?_
  · funext i
    have hi : (ix2 (i 0) (i 1) : S1024x1024.Idx) = i := funext fun a => by fin_cases a <;> rfl
    exact (congrArg _ hi.symm).trans ((key (i 0) (i 1)).trans (congrArg _ hi))
  intro a b
  refine Eq.trans ?_ (sum_eq x0 x1 x2 x3 x4 hx hw hk a b)
  unfold total
  rw [FIN_sum]
  refine Finset.sum_congr rfl fun e _ => ?_
  unfold part
  rw [xIn_eq, wqIn_eq, woIn_eq, h0, h1, h4, show kIn m e = x2 from h2 e, show vIn m e = x3 from h3 e]

/-- **The claim**: where the rows, `Wq` and the keys are finite, every device ends with the reference's result. -/
theorem algebraic : Cert.algebraic_KernelIdeal_ReferenceIdeal_pre_finite_qk_KernelIdeal
    (hKernelIdeal := Cert.KernelIdeal.Gen.facts) (hReferenceIdeal := Cert.ReferenceIdeal.Gen.facts)
    (hPre_finite_qk_KernelIdeal := Cert.Pre_finite_qk_KernelIdeal.Gen.facts) := by
  intro m g m' g' hpre hargs
  have hfin := fun c => finite_of_pre _ _ _ _ _ (hpre c)
  have heq := total_eq m _ _ _ _ _ (fun c => (hargs c).1) (fun c => (hargs c).2.1) (fun c => (hargs c).2.2.1) (fun c => (hargs c).2.2.2.1)
    (fun c => (hargs c).2.2.2.2) (fun i => by have := (hfin 0).1 i; rw [(hargs 0).1] at this; exact this)
    (real_of_blocks _ fun e i => by have := (hfin e).2.1 i; rw [(hargs e).2.1] at this; exact this)
    (fun i => by have := (hfin 0).2.2 i; rw [(hargs 0).2.2.1] at this; exact this)
  refine ⟨total m, (θ_run defs _ _).mono (fun r h c => ⟨((h.1 c).1 (3 : Fin 4)).trans (finalA_out m c), args_kept m r h.1 c⟩) (run_main m g), ?_⟩
  refine (θ_run Cert.ReferenceIdeal.defs _ _).mono (fun r h => ⟨((h 0).1.trans (Cert.ReferenceIdeal.Read.val_main_v41_eq m' 0)).trans heq.symm, (h 0).2⟩)
    (Cert.ReferenceIdeal.Value.run (F := Ideal) m' g')

end Cert.KProof

end
-- ==== Proof.lean ====
/-
The proof of `Cert.Claim`: the modules under Proof/ prove its parts, and the theorem at the end puts them together.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_qk_KernelIdeal
public import proofs.«01_k».proof.Proof.Gen.Pre_finite_qk_ReferenceIdeal
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The certificate: the frames of the three programs, nothing rewritten between the two kernels, and the kernel's result
    that of the reference. -/
theorem claim : Cert.Claim :=
  ⟨Cert.Kernel.Gen.facts, Cert.KernelIdeal.Gen.facts, Cert.ReferenceIdeal.Gen.facts, Cert.Pre_finite_qk_KernelIdeal.Gen.facts,
    Cert.Pre_finite_qk_ReferenceIdeal.Gen.facts, Cert.KProof.frame_kernel, Cert.KProof.frame_ideal,
    fun m g _ => Cert.KProof.frame_ideal m g trivial, Cert.KProof.frame_reference,
    fun m g _ => Cert.KProof.frame_reference m g trivial, trivial, Cert.KProof.algebraic⟩

end Cert.Proof

end
